-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 16384]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![16384, 1024]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x256x1024 : Shape := ⟨3, ![4, 256, 1024]⟩
abbrev S1024x1024 : Shape := ⟨2, ![1024, 1024]⟩
abbrev S4x1024x128x128 : Shape := ⟨4, ![4, 1024, 128, 128]⟩
abbrev S_ : Shape := ⟨0, ![]⟩
abbrev S1 : Shape := ⟨1, ![1]⟩
abbrev S256x1024 : Shape := ⟨2, ![256, 1024]⟩
abbrev S1x1024x8x128 : Shape := ⟨4, ![1, 1024, 8, 128]⟩
abbrev S256x128 : Shape := ⟨2, ![256, 128]⟩
abbrev S1x1024x1x128 : Shape := ⟨4, ![1, 1024, 1, 128]⟩
abbrev S1024x128 : Shape := ⟨2, ![1024, 128]⟩
abbrev S256 : Shape := ⟨1, ![256]⟩
abbrev S256x1 : Shape := ⟨2, ![256, 1]⟩
abbrev S2x2x256x256 : Shape := ⟨4, ![2, 2, 256, 256]⟩
abbrev S2x3x256x256 : Shape := ⟨4, ![2, 3, 256, 256]⟩
abbrev S2x512x256 : Shape := ⟨3, ![2, 512, 256]⟩
abbrev S2x2x128x128 : Shape := ⟨4, ![2, 2, 128, 128]⟩
abbrev S2x6x128x128 : Shape := ⟨4, ![2, 6, 128, 128]⟩
abbrev S48 : Shape := ⟨1, ![48]⟩
abbrev S256x256 : Shape := ⟨2, ![256, 256]⟩
abbrev S1x1x256x256 : Shape := ⟨4, ![1, 1, 256, 256]⟩
abbrev S1x256x256 : Shape := ⟨3, ![1, 256, 256]⟩
abbrev S1x128x128 : Shape := ⟨3, ![1, 128, 128]⟩
abbrev S128x128 : Shape := ⟨2, ![128, 128]⟩
abbrev S1x1x128x128 : Shape := ⟨4, ![1, 1, 128, 128]⟩

abbrev nBuf : Space → Nat
  | .hbm => 17
  | .vmem => 19
  | .smem => 1
  | _ => 0

abbrev bufTy : (tb : Table) → Fin (tcTables nBuf tb) → BufTy
  | .hbm, ⟨0, _⟩ => ⟨S4x256x1024, .f32⟩
  | .hbm, ⟨1, _⟩ => ⟨S1024x1024, .f32⟩
  | .hbm, ⟨2, _⟩ => ⟨S4x1024x128x128, .f32⟩
  | .hbm, ⟨3, _⟩ => ⟨S4x1024x128x128, .f32⟩
  | .hbm, ⟨4, _⟩ => ⟨S1024x1024, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S4x256x1024, .f32⟩
  | .local _ .vmem, ⟨0, _⟩ => ⟨S256x1024, .f32⟩
  | .local _ .vmem, ⟨1, _⟩ => ⟨S256x1024, .f32⟩
  | .local _ .vmem, ⟨2, _⟩ => ⟨S1x1024x8x128, .f32⟩
  | .local _ .vmem, ⟨3, _⟩ => ⟨S1x1024x8x128, .f32⟩
  | .local _ .vmem, ⟨4, _⟩ => ⟨S1x1024x8x128, .f32⟩
  | .local _ .vmem, ⟨5, _⟩ => ⟨S1x1024x8x128, .f32⟩
  | .local _ .vmem, ⟨6, _⟩ => ⟨S256x1024, .f32⟩
  | .local _ .vmem, ⟨7, _⟩ => ⟨S256x1024, .f32⟩
  | .local _ .vmem, ⟨8, _⟩ => ⟨S1024x1024, .f32⟩
  | .local _ .vmem, ⟨9, _⟩ => ⟨S1024x1024, .f32⟩
  | .local _ .vmem, ⟨10, _⟩ => ⟨S2x2x256x256, .f32⟩
  | .local _ .vmem, ⟨11, _⟩ => ⟨S2x3x256x256, .f32⟩
  | .local _ .vmem, ⟨12, _⟩ => ⟨S2x3x256x256, .f32⟩
  | .local _ .vmem, ⟨13, _⟩ => ⟨S2x512x256, .f32⟩
  | .local _ .vmem, ⟨14, _⟩ => ⟨S2x2x128x128, .f32⟩
  | .local _ .vmem, ⟨15, _⟩ => ⟨S2x6x128x128, .f32⟩
  | .local _ .vmem, ⟨16, _⟩ => ⟨S2x6x128x128, .f32⟩
  | .local _ .vmem, ⟨17, _⟩ => ⟨S2x3x256x256, .f32⟩
  | .local _ .vmem, ⟨18, _⟩ => ⟨S2x3x256x256, .f32⟩
  | .local _ .smem, ⟨0, _⟩ => ⟨S1, .i32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 1 → Bool
  | ⟨0, _⟩ => false
  | _ => false

abbrev dmaSemScoped : Fin 106 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | _ => false

abbrev sig : RefSig :=
  (ofTc nBuf bufTy 1 106 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v7 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_scratch0 : Ref sig .tc := ⟨.vmem, 10, rfl⟩
abbrev cc1_scratch1 : Ref sig .tc := ⟨.vmem, 11, rfl⟩
abbrev cc1_scratch2 : Ref sig .tc := ⟨.vmem, 12, rfl⟩
abbrev cc1_scratch3 : Ref sig .tc := ⟨.vmem, 13, rfl⟩
abbrev cc1_scratch4 : Ref sig .tc := ⟨.vmem, 14, rfl⟩
abbrev cc1_scratch5 : Ref sig .tc := ⟨.vmem, 15, rfl⟩
abbrev cc1_scratch6 : Ref sig .tc := ⟨.vmem, 16, rfl⟩
abbrev cc1_scratch7 : Ref sig .tc := ⟨.vmem, 17, rfl⟩
abbrev cc1_scratch8 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev barrier0 : Sem sig := 0

abbrev nD : Nat := 16
abbrev τ : Topo := Topo.v7x

variable {F : FTy → Type} [FloatOps F]

abbrev grid0 : Pipeline.Grid := ⟨1, ![4], ![false]⟩

abbrev pre0 : Pipeline.Prefetch sig := ⟨1, ![main_v7.idx], fun | 0 => main_v7.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![arg0.toNat, c0_i32.toNat, v0.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![arg0.toNat, c0_i32.toNat, v0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := .none

def k1_dev1 (d0 : Dev nD) : Nat :=
  let c0_i32_45 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_44 : BitVec 32 := 1#32
  let v83 : BitVec 32 := Scalar.muli v42 c1_i32_44
  let v84 : BitVec 32 := Scalar.addi c0_i32_45 v83
  v84.toNat
def k1_dev2 (d0 : Dev nD) : Nat :=
  let c0_i32_48 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_47 : BitVec 32 := 1#32
  let v85 : BitVec 32 := Scalar.muli v55 c1_i32_47
  let v86 : BitVec 32 := Scalar.addi c0_i32_48 v85
  v86.toNat
def k1_dev3 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_27 : BitVec 32 := 1#32
  let v56 : BitVec 32 := Scalar.addi v19 c1_i32_27
  let c4_i32_28 : BitVec 32 := 4#32
  let c0_i32_29 : BitVec 32 := 0#32
  let v57 : BitVec 1 := Scalar.cmpi .eq c4_i32_28 c0_i32_29
  let c1_i32_30 : BitVec 32 := 1#32
  let v58 : BitVec 32 := Scalar.select v57 c1_i32_30 c4_i32_28
  let v59 : BitVec 32 := Scalar.remsi v56 v58
  let c0_i32_32 : BitVec 32 := 0#32
  let v61 : BitVec 1 := Scalar.cmpi .slt v59 c0_i32_32
  let c0_i32_33 : BitVec 32 := 0#32
  let v62 : BitVec 1 := Scalar.cmpi .slt v58 c0_i32_33
  let v63 : BitVec 1 := Scalar.xori v61 v62
  let c0_i32_31 : BitVec 32 := 0#32
  let v60 : BitVec 1 := Scalar.cmpi .ne v59 c0_i32_31
  let v64 : BitVec 1 := Scalar.andi v63 v60
  let v65 : BitVec 32 := Scalar.addi v59 v58
  let v66 : BitVec 32 := Scalar.select v64 v65 v59
  let c4_i32_34 : BitVec 32 := 4#32
  let v67 : BitVec 32 := Scalar.muli v66 c4_i32_34
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v68 : BitVec 32 := Scalar.addi v67 v29
  let c1_i32_50 : BitVec 32 := 1#32
  let v87 : BitVec 32 := Scalar.muli v68 c1_i32_50
  let v88 : BitVec 32 := Scalar.addi c0_i32_51 v87
  v88.toNat
def k1_dev4 (d0 : Dev nD) : Nat :=
  let c0_i32_54 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_35 : BitVec 32 := 1#32
  let v69 : BitVec 32 := Scalar.subi v19 c1_i32_35
  let c4_i32_36 : BitVec 32 := 4#32
  let c0_i32_37 : BitVec 32 := 0#32
  let v70 : BitVec 1 := Scalar.cmpi .eq c4_i32_36 c0_i32_37
  let c1_i32_38 : BitVec 32 := 1#32
  let v71 : BitVec 32 := Scalar.select v70 c1_i32_38 c4_i32_36
  let v72 : BitVec 32 := Scalar.remsi v69 v71
  let c0_i32_40 : BitVec 32 := 0#32
  let v74 : BitVec 1 := Scalar.cmpi .slt v72 c0_i32_40
  let c0_i32_41 : BitVec 32 := 0#32
  let v75 : BitVec 1 := Scalar.cmpi .slt v71 c0_i32_41
  let v76 : BitVec 1 := Scalar.xori v74 v75
  let c0_i32_39 : BitVec 32 := 0#32
  let v73 : BitVec 1 := Scalar.cmpi .ne v72 c0_i32_39
  let v77 : BitVec 1 := Scalar.andi v76 v73
  let v78 : BitVec 32 := Scalar.addi v72 v71
  let v79 : BitVec 32 := Scalar.select v77 v78 v72
  let c4_i32_42 : BitVec 32 := 4#32
  let v80 : BitVec 32 := Scalar.muli v79 c4_i32_42
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v81 : BitVec 32 := Scalar.addi v80 v29
  let c1_i32_53 : BitVec 32 := 1#32
  let v89 : BitVec 32 := Scalar.muli v81 c1_i32_53
  let v90 : BitVec 32 := Scalar.addi c0_i32_54 v89
  v90.toNat
def k1_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c256_i32 : BitVec 32 := 256#32
  let v91 : BitVec 32 := Scalar.muli v29 c256_i32
  let v92 : Index := Scalar.indexCast v91
  let c0 : Index := 0#32
  ![v92.toNat, 0]
def k1_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_60 : BitVec 32 := 1#32
  let v98 : BitVec 32 := Scalar.addi v29 c1_i32_60
  let c4_i32_61 : BitVec 32 := 4#32
  let c0_i32_62 : BitVec 32 := 0#32
  let v99 : BitVec 1 := Scalar.cmpi .eq c4_i32_61 c0_i32_62
  let c1_i32_63 : BitVec 32 := 1#32
  let v100 : BitVec 32 := Scalar.select v99 c1_i32_63 c4_i32_61
  let v101 : BitVec 32 := Scalar.remsi v98 v100
  let c0_i32_65 : BitVec 32 := 0#32
  let v103 : BitVec 1 := Scalar.cmpi .slt v101 c0_i32_65
  let c0_i32_66 : BitVec 32 := 0#32
  let v104 : BitVec 1 := Scalar.cmpi .slt v100 c0_i32_66
  let v105 : BitVec 1 := Scalar.xori v103 v104
  let c0_i32_64 : BitVec 32 := 0#32
  let v102 : BitVec 1 := Scalar.cmpi .ne v101 c0_i32_64
  let v106 : BitVec 1 := Scalar.andi v105 v102
  let v107 : BitVec 32 := Scalar.addi v101 v100
  let v108 : BitVec 32 := Scalar.select v106 v107 v101
  let c256_i32_67 : BitVec 32 := 256#32
  let v109 : BitVec 32 := Scalar.muli v108 c256_i32_67
  let v110 : Index := Scalar.indexCast v109
  let c256 : Index := 256#32
  ![v110.toNat, 256]
def k1_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c256_i32_71 : BitVec 32 := 256#32
  let v116 : BitVec 32 := Scalar.muli v19 c256_i32_71
  let v117 : Index := Scalar.indexCast v116
  let c512 : Index := 512#32
  ![v117.toNat, 512]
def k1_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_76 : BitVec 32 := 1#32
  let v123 : BitVec 32 := Scalar.addi v19 c1_i32_76
  let c4_i32_77 : BitVec 32 := 4#32
  let c0_i32_78 : BitVec 32 := 0#32
  let v124 : BitVec 1 := Scalar.cmpi .eq c4_i32_77 c0_i32_78
  let c1_i32_79 : BitVec 32 := 1#32
  let v125 : BitVec 32 := Scalar.select v124 c1_i32_79 c4_i32_77
  let v126 : BitVec 32 := Scalar.remsi v123 v125
  let c0_i32_81 : BitVec 32 := 0#32
  let v128 : BitVec 1 := Scalar.cmpi .slt v126 c0_i32_81
  let c0_i32_82 : BitVec 32 := 0#32
  let v129 : BitVec 1 := Scalar.cmpi .slt v125 c0_i32_82
  let v130 : BitVec 1 := Scalar.xori v128 v129
  let c0_i32_80 : BitVec 32 := 0#32
  let v127 : BitVec 1 := Scalar.cmpi .ne v126 c0_i32_80
  let v131 : BitVec 1 := Scalar.andi v130 v127
  let v132 : BitVec 32 := Scalar.addi v126 v125
  let v133 : BitVec 32 := Scalar.select v131 v132 v126
  let c256_i32_83 : BitVec 32 := 256#32
  let v134 : BitVec 32 := Scalar.muli v133 c256_i32_83
  let v135 : Index := Scalar.indexCast v134
  let c768 : Index := 768#32
  ![v135.toNat, 768]
def k1_dev5 (d0 : Dev nD) : Nat :=
  let c0_i32_95 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_94 : BitVec 32 := 1#32
  let v141 : BitVec 32 := Scalar.muli v42 c1_i32_94
  let v142 : BitVec 32 := Scalar.addi c0_i32_95 v141
  v142.toNat
def k1_dev6 (d0 : Dev nD) : Nat :=
  let c0_i32_106 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_105 : BitVec 32 := 1#32
  let v151 : BitVec 32 := Scalar.muli v55 c1_i32_105
  let v152 : BitVec 32 := Scalar.addi c0_i32_106 v151
  v152.toNat
def k1_dev7 (d0 : Dev nD) : Nat :=
  let c0_i32_117 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_27 : BitVec 32 := 1#32
  let v56 : BitVec 32 := Scalar.addi v19 c1_i32_27
  let c4_i32_28 : BitVec 32 := 4#32
  let c0_i32_29 : BitVec 32 := 0#32
  let v57 : BitVec 1 := Scalar.cmpi .eq c4_i32_28 c0_i32_29
  let c1_i32_30 : BitVec 32 := 1#32
  let v58 : BitVec 32 := Scalar.select v57 c1_i32_30 c4_i32_28
  let v59 : BitVec 32 := Scalar.remsi v56 v58
  let c0_i32_32 : BitVec 32 := 0#32
  let v61 : BitVec 1 := Scalar.cmpi .slt v59 c0_i32_32
  let c0_i32_33 : BitVec 32 := 0#32
  let v62 : BitVec 1 := Scalar.cmpi .slt v58 c0_i32_33
  let v63 : BitVec 1 := Scalar.xori v61 v62
  let c0_i32_31 : BitVec 32 := 0#32
  let v60 : BitVec 1 := Scalar.cmpi .ne v59 c0_i32_31
  let v64 : BitVec 1 := Scalar.andi v63 v60
  let v65 : BitVec 32 := Scalar.addi v59 v58
  let v66 : BitVec 32 := Scalar.select v64 v65 v59
  let c4_i32_34 : BitVec 32 := 4#32
  let v67 : BitVec 32 := Scalar.muli v66 c4_i32_34
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v68 : BitVec 32 := Scalar.addi v67 v29
  let c1_i32_116 : BitVec 32 := 1#32
  let v161 : BitVec 32 := Scalar.muli v68 c1_i32_116
  let v162 : BitVec 32 := Scalar.addi c0_i32_117 v161
  v162.toNat
def k1_dev8 (d0 : Dev nD) : Nat :=
  let c0_i32_128 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_35 : BitVec 32 := 1#32
  let v69 : BitVec 32 := Scalar.subi v19 c1_i32_35
  let c4_i32_36 : BitVec 32 := 4#32
  let c0_i32_37 : BitVec 32 := 0#32
  let v70 : BitVec 1 := Scalar.cmpi .eq c4_i32_36 c0_i32_37
  let c1_i32_38 : BitVec 32 := 1#32
  let v71 : BitVec 32 := Scalar.select v70 c1_i32_38 c4_i32_36
  let v72 : BitVec 32 := Scalar.remsi v69 v71
  let c0_i32_40 : BitVec 32 := 0#32
  let v74 : BitVec 1 := Scalar.cmpi .slt v72 c0_i32_40
  let c0_i32_41 : BitVec 32 := 0#32
  let v75 : BitVec 1 := Scalar.cmpi .slt v71 c0_i32_41
  let v76 : BitVec 1 := Scalar.xori v74 v75
  let c0_i32_39 : BitVec 32 := 0#32
  let v73 : BitVec 1 := Scalar.cmpi .ne v72 c0_i32_39
  let v77 : BitVec 1 := Scalar.andi v76 v73
  let v78 : BitVec 32 := Scalar.addi v72 v71
  let v79 : BitVec 32 := Scalar.select v77 v78 v72
  let c4_i32_42 : BitVec 32 := 4#32
  let v80 : BitVec 32 := Scalar.muli v79 c4_i32_42
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v81 : BitVec 32 := Scalar.addi v80 v29
  let c1_i32_127 : BitVec 32 := 1#32
  let v171 : BitVec 32 := Scalar.muli v81 c1_i32_127
  let v172 : BitVec 32 := Scalar.addi c0_i32_128 v171
  v172.toNat
def k1_off5 (d0 : Dev nD) (c0_i32_226 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_225 : BitVec 32 := 1#32
  let v237 : BitVec 32 := Scalar.subi v29 c1_i32_225
  let v238 : BitVec 32 := Scalar.subi v237 c0_i32_226
  let c4_i32_227 : BitVec 32 := 4#32
  let c0_i32_228 : BitVec 32 := 0#32
  let v239 : BitVec 1 := Scalar.cmpi .eq c4_i32_227 c0_i32_228
  let c1_i32_229 : BitVec 32 := 1#32
  let v240 : BitVec 32 := Scalar.select v239 c1_i32_229 c4_i32_227
  let v241 : BitVec 32 := Scalar.remsi v238 v240
  let c0_i32_231 : BitVec 32 := 0#32
  let v243 : BitVec 1 := Scalar.cmpi .slt v241 c0_i32_231
  let c0_i32_232 : BitVec 32 := 0#32
  let v244 : BitVec 1 := Scalar.cmpi .slt v240 c0_i32_232
  let v245 : BitVec 1 := Scalar.xori v243 v244
  let c0_i32_230 : BitVec 32 := 0#32
  let v242 : BitVec 1 := Scalar.cmpi .ne v241 c0_i32_230
  let v246 : BitVec 1 := Scalar.andi v245 v242
  let v247 : BitVec 32 := Scalar.addi v241 v240
  let v248 : BitVec 32 := Scalar.select v246 v247 v241
  let c256_i32_244 : BitVec 32 := 256#32
  let v263 : BitVec 32 := Scalar.muli v248 c256_i32_244
  let v264 : Index := Scalar.indexCast v263
  let c0_245 : Index := 0#32
  ![v264.toNat, 0]
def k1_off6 (d0 : Dev nD) (c2_i32 : BitVec 32) (c0_i32_233 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v249 : BitVec 32 := Scalar.addi v29 c2_i32
  let v250 : BitVec 32 := Scalar.addi v249 c0_i32_233
  let c4_i32_234 : BitVec 32 := 4#32
  let c0_i32_235 : BitVec 32 := 0#32
  let v251 : BitVec 1 := Scalar.cmpi .eq c4_i32_234 c0_i32_235
  let c1_i32_236 : BitVec 32 := 1#32
  let v252 : BitVec 32 := Scalar.select v251 c1_i32_236 c4_i32_234
  let v253 : BitVec 32 := Scalar.remsi v250 v252
  let c0_i32_238 : BitVec 32 := 0#32
  let v255 : BitVec 1 := Scalar.cmpi .slt v253 c0_i32_238
  let c0_i32_239 : BitVec 32 := 0#32
  let v256 : BitVec 1 := Scalar.cmpi .slt v252 c0_i32_239
  let v257 : BitVec 1 := Scalar.xori v255 v256
  let c0_i32_237 : BitVec 32 := 0#32
  let v254 : BitVec 1 := Scalar.cmpi .ne v253 c0_i32_237
  let v258 : BitVec 1 := Scalar.andi v257 v254
  let v259 : BitVec 32 := Scalar.addi v253 v252
  let v260 : BitVec 32 := Scalar.select v258 v259 v253
  let c256_i32_254 : BitVec 32 := 256#32
  let v273 : BitVec 32 := Scalar.muli v260 c256_i32_254
  let v274 : Index := Scalar.indexCast v273
  let c256_255 : Index := 256#32
  ![v274.toNat, 256]
def k1_off7 (d0 : Dev nD) (c0_i32_261 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_260 : BitVec 32 := 1#32
  let v281 : BitVec 32 := Scalar.subi v19 c1_i32_260
  let v282 : BitVec 32 := Scalar.subi v281 c0_i32_261
  let c4_i32_262 : BitVec 32 := 4#32
  let c0_i32_263 : BitVec 32 := 0#32
  let v283 : BitVec 1 := Scalar.cmpi .eq c4_i32_262 c0_i32_263
  let c1_i32_264 : BitVec 32 := 1#32
  let v284 : BitVec 32 := Scalar.select v283 c1_i32_264 c4_i32_262
  let v285 : BitVec 32 := Scalar.remsi v282 v284
  let c0_i32_266 : BitVec 32 := 0#32
  let v287 : BitVec 1 := Scalar.cmpi .slt v285 c0_i32_266
  let c0_i32_267 : BitVec 32 := 0#32
  let v288 : BitVec 1 := Scalar.cmpi .slt v284 c0_i32_267
  let v289 : BitVec 1 := Scalar.xori v287 v288
  let c0_i32_265 : BitVec 32 := 0#32
  let v286 : BitVec 1 := Scalar.cmpi .ne v285 c0_i32_265
  let v290 : BitVec 1 := Scalar.andi v289 v286
  let v291 : BitVec 32 := Scalar.addi v285 v284
  let v292 : BitVec 32 := Scalar.select v290 v291 v285
  let c256_i32_280 : BitVec 32 := 256#32
  let v307 : BitVec 32 := Scalar.muli v292 c256_i32_280
  let v308 : Index := Scalar.indexCast v307
  let c512_281 : Index := 512#32
  ![v308.toNat, 512]
def k1_off8 (d0 : Dev nD) (c2_i32_268 : BitVec 32) (c0_i32_269 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v293 : BitVec 32 := Scalar.addi v19 c2_i32_268
  let v294 : BitVec 32 := Scalar.addi v293 c0_i32_269
  let c4_i32_270 : BitVec 32 := 4#32
  let c0_i32_271 : BitVec 32 := 0#32
  let v295 : BitVec 1 := Scalar.cmpi .eq c4_i32_270 c0_i32_271
  let c1_i32_272 : BitVec 32 := 1#32
  let v296 : BitVec 32 := Scalar.select v295 c1_i32_272 c4_i32_270
  let v297 : BitVec 32 := Scalar.remsi v294 v296
  let c0_i32_274 : BitVec 32 := 0#32
  let v299 : BitVec 1 := Scalar.cmpi .slt v297 c0_i32_274
  let c0_i32_275 : BitVec 32 := 0#32
  let v300 : BitVec 1 := Scalar.cmpi .slt v296 c0_i32_275
  let v301 : BitVec 1 := Scalar.xori v299 v300
  let c0_i32_273 : BitVec 32 := 0#32
  let v298 : BitVec 1 := Scalar.cmpi .ne v297 c0_i32_273
  let v302 : BitVec 1 := Scalar.andi v301 v298
  let v303 : BitVec 32 := Scalar.addi v297 v296
  let v304 : BitVec 32 := Scalar.select v302 v303 v297
  let c256_i32_290 : BitVec 32 := 256#32
  let v317 : BitVec 32 := Scalar.muli v304 c256_i32_290
  let v318 : Index := Scalar.indexCast v317
  let c768_291 : Index := 768#32
  ![v318.toNat, 768]
def k1_dev9 (d0 : Dev nD) : Nat :=
  let c0_i32_303 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_302 : BitVec 32 := 1#32
  let v325 : BitVec 32 := Scalar.muli v42 c1_i32_302
  let v326 : BitVec 32 := Scalar.addi c0_i32_303 v325
  v326.toNat
def k1_dev10 (d0 : Dev nD) : Nat :=
  let c0_i32_315 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_314 : BitVec 32 := 1#32
  let v335 : BitVec 32 := Scalar.muli v55 c1_i32_314
  let v336 : BitVec 32 := Scalar.addi c0_i32_315 v335
  v336.toNat
def k1_dev11 (d0 : Dev nD) : Nat :=
  let c0_i32_326 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_27 : BitVec 32 := 1#32
  let v56 : BitVec 32 := Scalar.addi v19 c1_i32_27
  let c4_i32_28 : BitVec 32 := 4#32
  let c0_i32_29 : BitVec 32 := 0#32
  let v57 : BitVec 1 := Scalar.cmpi .eq c4_i32_28 c0_i32_29
  let c1_i32_30 : BitVec 32 := 1#32
  let v58 : BitVec 32 := Scalar.select v57 c1_i32_30 c4_i32_28
  let v59 : BitVec 32 := Scalar.remsi v56 v58
  let c0_i32_32 : BitVec 32 := 0#32
  let v61 : BitVec 1 := Scalar.cmpi .slt v59 c0_i32_32
  let c0_i32_33 : BitVec 32 := 0#32
  let v62 : BitVec 1 := Scalar.cmpi .slt v58 c0_i32_33
  let v63 : BitVec 1 := Scalar.xori v61 v62
  let c0_i32_31 : BitVec 32 := 0#32
  let v60 : BitVec 1 := Scalar.cmpi .ne v59 c0_i32_31
  let v64 : BitVec 1 := Scalar.andi v63 v60
  let v65 : BitVec 32 := Scalar.addi v59 v58
  let v66 : BitVec 32 := Scalar.select v64 v65 v59
  let c4_i32_34 : BitVec 32 := 4#32
  let v67 : BitVec 32 := Scalar.muli v66 c4_i32_34
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v68 : BitVec 32 := Scalar.addi v67 v29
  let c1_i32_325 : BitVec 32 := 1#32
  let v345 : BitVec 32 := Scalar.muli v68 c1_i32_325
  let v346 : BitVec 32 := Scalar.addi c0_i32_326 v345
  v346.toNat
def k1_dev12 (d0 : Dev nD) : Nat :=
  let c0_i32_337 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_35 : BitVec 32 := 1#32
  let v69 : BitVec 32 := Scalar.subi v19 c1_i32_35
  let c4_i32_36 : BitVec 32 := 4#32
  let c0_i32_37 : BitVec 32 := 0#32
  let v70 : BitVec 1 := Scalar.cmpi .eq c4_i32_36 c0_i32_37
  let c1_i32_38 : BitVec 32 := 1#32
  let v71 : BitVec 32 := Scalar.select v70 c1_i32_38 c4_i32_36
  let v72 : BitVec 32 := Scalar.remsi v69 v71
  let c0_i32_40 : BitVec 32 := 0#32
  let v74 : BitVec 1 := Scalar.cmpi .slt v72 c0_i32_40
  let c0_i32_41 : BitVec 32 := 0#32
  let v75 : BitVec 1 := Scalar.cmpi .slt v71 c0_i32_41
  let v76 : BitVec 1 := Scalar.xori v74 v75
  let c0_i32_39 : BitVec 32 := 0#32
  let v73 : BitVec 1 := Scalar.cmpi .ne v72 c0_i32_39
  let v77 : BitVec 1 := Scalar.andi v76 v73
  let v78 : BitVec 32 := Scalar.addi v72 v71
  let v79 : BitVec 32 := Scalar.select v77 v78 v72
  let c4_i32_42 : BitVec 32 := 4#32
  let v80 : BitVec 32 := Scalar.muli v79 c4_i32_42
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v81 : BitVec 32 := Scalar.addi v80 v29
  let c1_i32_336 : BitVec 32 := 1#32
  let v355 : BitVec 32 := Scalar.muli v81 c1_i32_336
  let v356 : BitVec 32 := Scalar.addi c0_i32_337 v355
  v356.toNat
def k1_dev13 (d0 : Dev nD) : Nat :=
  let c0_i32_513 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_512 : BitVec 32 := 1#32
  let v509 : BitVec 32 := Scalar.muli v42 c1_i32_512
  let v510 : BitVec 32 := Scalar.addi c0_i32_513 v509
  v510.toNat
def k1_dev14 (d0 : Dev nD) : Nat :=
  let c0_i32_524 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_523 : BitVec 32 := 1#32
  let v519 : BitVec 32 := Scalar.muli v55 c1_i32_523
  let v520 : BitVec 32 := Scalar.addi c0_i32_524 v519
  v520.toNat
def k1_dev15 (d0 : Dev nD) : Nat :=
  let c0_i32_535 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_27 : BitVec 32 := 1#32
  let v56 : BitVec 32 := Scalar.addi v19 c1_i32_27
  let c4_i32_28 : BitVec 32 := 4#32
  let c0_i32_29 : BitVec 32 := 0#32
  let v57 : BitVec 1 := Scalar.cmpi .eq c4_i32_28 c0_i32_29
  let c1_i32_30 : BitVec 32 := 1#32
  let v58 : BitVec 32 := Scalar.select v57 c1_i32_30 c4_i32_28
  let v59 : BitVec 32 := Scalar.remsi v56 v58
  let c0_i32_32 : BitVec 32 := 0#32
  let v61 : BitVec 1 := Scalar.cmpi .slt v59 c0_i32_32
  let c0_i32_33 : BitVec 32 := 0#32
  let v62 : BitVec 1 := Scalar.cmpi .slt v58 c0_i32_33
  let v63 : BitVec 1 := Scalar.xori v61 v62
  let c0_i32_31 : BitVec 32 := 0#32
  let v60 : BitVec 1 := Scalar.cmpi .ne v59 c0_i32_31
  let v64 : BitVec 1 := Scalar.andi v63 v60
  let v65 : BitVec 32 := Scalar.addi v59 v58
  let v66 : BitVec 32 := Scalar.select v64 v65 v59
  let c4_i32_34 : BitVec 32 := 4#32
  let v67 : BitVec 32 := Scalar.muli v66 c4_i32_34
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v68 : BitVec 32 := Scalar.addi v67 v29
  let c1_i32_534 : BitVec 32 := 1#32
  let v529 : BitVec 32 := Scalar.muli v68 c1_i32_534
  let v530 : BitVec 32 := Scalar.addi c0_i32_535 v529
  v530.toNat
def k1_dev16 (d0 : Dev nD) : Nat :=
  let c0_i32_546 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_35 : BitVec 32 := 1#32
  let v69 : BitVec 32 := Scalar.subi v19 c1_i32_35
  let c4_i32_36 : BitVec 32 := 4#32
  let c0_i32_37 : BitVec 32 := 0#32
  let v70 : BitVec 1 := Scalar.cmpi .eq c4_i32_36 c0_i32_37
  let c1_i32_38 : BitVec 32 := 1#32
  let v71 : BitVec 32 := Scalar.select v70 c1_i32_38 c4_i32_36
  let v72 : BitVec 32 := Scalar.remsi v69 v71
  let c0_i32_40 : BitVec 32 := 0#32
  let v74 : BitVec 1 := Scalar.cmpi .slt v72 c0_i32_40
  let c0_i32_41 : BitVec 32 := 0#32
  let v75 : BitVec 1 := Scalar.cmpi .slt v71 c0_i32_41
  let v76 : BitVec 1 := Scalar.xori v74 v75
  let c0_i32_39 : BitVec 32 := 0#32
  let v73 : BitVec 1 := Scalar.cmpi .ne v72 c0_i32_39
  let v77 : BitVec 1 := Scalar.andi v76 v73
  let v78 : BitVec 32 := Scalar.addi v72 v71
  let v79 : BitVec 32 := Scalar.select v77 v78 v72
  let c4_i32_42 : BitVec 32 := 4#32
  let v80 : BitVec 32 := Scalar.muli v79 c4_i32_42
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v81 : BitVec 32 := Scalar.addi v80 v29
  let c1_i32_545 : BitVec 32 := 1#32
  let v539 : BitVec 32 := Scalar.muli v81 c1_i32_545
  let v540 : BitVec 32 := Scalar.addi c0_i32_546 v539
  v540.toNat
def k1_off9 (d0 : Dev nD) : Fin 3 → Nat :=
  let c0_728 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c128_i32 : BitVec 32 := 128#32
  let v703 : BitVec 32 := Scalar.muli v19 c128_i32
  let v704 : Index := Scalar.indexCast v703
  let c0_729 : Index := 0#32
  ![0, v704.toNat, 0]
def k1_off10 (d0 : Dev nD) : Fin 3 → Nat :=
  let c0_742 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_734 : BitVec 32 := 1#32
  let v710 : BitVec 32 := Scalar.addi v19 c1_i32_734
  let c4_i32_735 : BitVec 32 := 4#32
  let c0_i32_736 : BitVec 32 := 0#32
  let v711 : BitVec 1 := Scalar.cmpi .eq c4_i32_735 c0_i32_736
  let c1_i32_737 : BitVec 32 := 1#32
  let v712 : BitVec 32 := Scalar.select v711 c1_i32_737 c4_i32_735
  let v713 : BitVec 32 := Scalar.remsi v710 v712
  let c0_i32_739 : BitVec 32 := 0#32
  let v715 : BitVec 1 := Scalar.cmpi .slt v713 c0_i32_739
  let c0_i32_740 : BitVec 32 := 0#32
  let v716 : BitVec 1 := Scalar.cmpi .slt v712 c0_i32_740
  let v717 : BitVec 1 := Scalar.xori v715 v716
  let c0_i32_738 : BitVec 32 := 0#32
  let v714 : BitVec 1 := Scalar.cmpi .ne v713 c0_i32_738
  let v718 : BitVec 1 := Scalar.andi v717 v714
  let v719 : BitVec 32 := Scalar.addi v713 v712
  let v720 : BitVec 32 := Scalar.select v718 v719 v713
  let c128_i32_741 : BitVec 32 := 128#32
  let v721 : BitVec 32 := Scalar.muli v720 c128_i32_741
  let v722 : Index := Scalar.indexCast v721
  let c128 : Index := 128#32
  ![0, v722.toNat, 128]
def k1_off11 (d0 : Dev nD) : Fin 3 → Nat :=
  let c1_762 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32_761 : BitVec 32 := 128#32
  let v738 : BitVec 32 := Scalar.muli v29 c128_i32_761
  let v739 : Index := Scalar.indexCast v738
  let c0_763 : Index := 0#32
  ![1, v739.toNat, 0]
def k1_off12 (d0 : Dev nD) : Fin 3 → Nat :=
  let c1_776 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_768 : BitVec 32 := 1#32
  let v745 : BitVec 32 := Scalar.addi v29 c1_i32_768
  let c4_i32_769 : BitVec 32 := 4#32
  let c0_i32_770 : BitVec 32 := 0#32
  let v746 : BitVec 1 := Scalar.cmpi .eq c4_i32_769 c0_i32_770
  let c1_i32_771 : BitVec 32 := 1#32
  let v747 : BitVec 32 := Scalar.select v746 c1_i32_771 c4_i32_769
  let v748 : BitVec 32 := Scalar.remsi v745 v747
  let c0_i32_773 : BitVec 32 := 0#32
  let v750 : BitVec 1 := Scalar.cmpi .slt v748 c0_i32_773
  let c0_i32_774 : BitVec 32 := 0#32
  let v751 : BitVec 1 := Scalar.cmpi .slt v747 c0_i32_774
  let v752 : BitVec 1 := Scalar.xori v750 v751
  let c0_i32_772 : BitVec 32 := 0#32
  let v749 : BitVec 1 := Scalar.cmpi .ne v748 c0_i32_772
  let v753 : BitVec 1 := Scalar.andi v752 v749
  let v754 : BitVec 32 := Scalar.addi v748 v747
  let v755 : BitVec 32 := Scalar.select v753 v754 v748
  let c128_i32_775 : BitVec 32 := 128#32
  let v756 : BitVec 32 := Scalar.muli v755 c128_i32_775
  let v757 : Index := Scalar.indexCast v756
  let c128_777 : Index := 128#32
  ![1, v757.toNat, 128]
def k1_dev17 (d0 : Dev nD) : Nat :=
  let c0_i32_788 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_27 : BitVec 32 := 1#32
  let v56 : BitVec 32 := Scalar.addi v19 c1_i32_27
  let c4_i32_28 : BitVec 32 := 4#32
  let c0_i32_29 : BitVec 32 := 0#32
  let v57 : BitVec 1 := Scalar.cmpi .eq c4_i32_28 c0_i32_29
  let c1_i32_30 : BitVec 32 := 1#32
  let v58 : BitVec 32 := Scalar.select v57 c1_i32_30 c4_i32_28
  let v59 : BitVec 32 := Scalar.remsi v56 v58
  let c0_i32_32 : BitVec 32 := 0#32
  let v61 : BitVec 1 := Scalar.cmpi .slt v59 c0_i32_32
  let c0_i32_33 : BitVec 32 := 0#32
  let v62 : BitVec 1 := Scalar.cmpi .slt v58 c0_i32_33
  let v63 : BitVec 1 := Scalar.xori v61 v62
  let c0_i32_31 : BitVec 32 := 0#32
  let v60 : BitVec 1 := Scalar.cmpi .ne v59 c0_i32_31
  let v64 : BitVec 1 := Scalar.andi v63 v60
  let v65 : BitVec 32 := Scalar.addi v59 v58
  let v66 : BitVec 32 := Scalar.select v64 v65 v59
  let c4_i32_34 : BitVec 32 := 4#32
  let v67 : BitVec 32 := Scalar.muli v66 c4_i32_34
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v68 : BitVec 32 := Scalar.addi v67 v29
  let c1_i32_787 : BitVec 32 := 1#32
  let v763 : BitVec 32 := Scalar.muli v68 c1_i32_787
  let v764 : BitVec 32 := Scalar.addi c0_i32_788 v763
  v764.toNat
def k1_dev18 (d0 : Dev nD) : Nat :=
  let c0_i32_799 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_35 : BitVec 32 := 1#32
  let v69 : BitVec 32 := Scalar.subi v19 c1_i32_35
  let c4_i32_36 : BitVec 32 := 4#32
  let c0_i32_37 : BitVec 32 := 0#32
  let v70 : BitVec 1 := Scalar.cmpi .eq c4_i32_36 c0_i32_37
  let c1_i32_38 : BitVec 32 := 1#32
  let v71 : BitVec 32 := Scalar.select v70 c1_i32_38 c4_i32_36
  let v72 : BitVec 32 := Scalar.remsi v69 v71
  let c0_i32_40 : BitVec 32 := 0#32
  let v74 : BitVec 1 := Scalar.cmpi .slt v72 c0_i32_40
  let c0_i32_41 : BitVec 32 := 0#32
  let v75 : BitVec 1 := Scalar.cmpi .slt v71 c0_i32_41
  let v76 : BitVec 1 := Scalar.xori v74 v75
  let c0_i32_39 : BitVec 32 := 0#32
  let v73 : BitVec 1 := Scalar.cmpi .ne v72 c0_i32_39
  let v77 : BitVec 1 := Scalar.andi v76 v73
  let v78 : BitVec 32 := Scalar.addi v72 v71
  let v79 : BitVec 32 := Scalar.select v77 v78 v72
  let c4_i32_42 : BitVec 32 := 4#32
  let v80 : BitVec 32 := Scalar.muli v79 c4_i32_42
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v81 : BitVec 32 := Scalar.addi v80 v29
  let c1_i32_798 : BitVec 32 := 1#32
  let v773 : BitVec 32 := Scalar.muli v81 c1_i32_798
  let v774 : BitVec 32 := Scalar.addi c0_i32_799 v773
  v774.toNat
def k1_dev19 (d0 : Dev nD) : Nat :=
  let c0_i32_810 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_809 : BitVec 32 := 1#32
  let v783 : BitVec 32 := Scalar.muli v42 c1_i32_809
  let v784 : BitVec 32 := Scalar.addi c0_i32_810 v783
  v784.toNat
def k1_dev20 (d0 : Dev nD) : Nat :=
  let c0_i32_821 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_820 : BitVec 32 := 1#32
  let v793 : BitVec 32 := Scalar.muli v55 c1_i32_820
  let v794 : BitVec 32 := Scalar.addi c0_i32_821 v793
  v794.toNat
def k1_off13 (d0 : Dev nD) (c0_i32_919 : BitVec 32) : Fin 3 → Nat :=
  let c0_939 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_918 : BitVec 32 := 1#32
  let v859 : BitVec 32 := Scalar.subi v19 c1_i32_918
  let v860 : BitVec 32 := Scalar.subi v859 c0_i32_919
  let c4_i32_920 : BitVec 32 := 4#32
  let c0_i32_921 : BitVec 32 := 0#32
  let v861 : BitVec 1 := Scalar.cmpi .eq c4_i32_920 c0_i32_921
  let c1_i32_922 : BitVec 32 := 1#32
  let v862 : BitVec 32 := Scalar.select v861 c1_i32_922 c4_i32_920
  let v863 : BitVec 32 := Scalar.remsi v860 v862
  let c0_i32_924 : BitVec 32 := 0#32
  let v865 : BitVec 1 := Scalar.cmpi .slt v863 c0_i32_924
  let c0_i32_925 : BitVec 32 := 0#32
  let v866 : BitVec 1 := Scalar.cmpi .slt v862 c0_i32_925
  let v867 : BitVec 1 := Scalar.xori v865 v866
  let c0_i32_923 : BitVec 32 := 0#32
  let v864 : BitVec 1 := Scalar.cmpi .ne v863 c0_i32_923
  let v868 : BitVec 1 := Scalar.andi v867 v864
  let v869 : BitVec 32 := Scalar.addi v863 v862
  let v870 : BitVec 32 := Scalar.select v868 v869 v863
  let c128_i32_938 : BitVec 32 := 128#32
  let v885 : BitVec 32 := Scalar.muli v870 c128_i32_938
  let v886 : Index := Scalar.indexCast v885
  let c0_940 : Index := 0#32
  ![0, v886.toNat, 0]
def k1_off14 (d0 : Dev nD) (c2_i32_926 : BitVec 32) (c0_i32_927 : BitVec 32) : Fin 3 → Nat :=
  let c0_950 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v871 : BitVec 32 := Scalar.addi v19 c2_i32_926
  let v872 : BitVec 32 := Scalar.addi v871 c0_i32_927
  let c4_i32_928 : BitVec 32 := 4#32
  let c0_i32_929 : BitVec 32 := 0#32
  let v873 : BitVec 1 := Scalar.cmpi .eq c4_i32_928 c0_i32_929
  let c1_i32_930 : BitVec 32 := 1#32
  let v874 : BitVec 32 := Scalar.select v873 c1_i32_930 c4_i32_928
  let v875 : BitVec 32 := Scalar.remsi v872 v874
  let c0_i32_932 : BitVec 32 := 0#32
  let v877 : BitVec 1 := Scalar.cmpi .slt v875 c0_i32_932
  let c0_i32_933 : BitVec 32 := 0#32
  let v878 : BitVec 1 := Scalar.cmpi .slt v874 c0_i32_933
  let v879 : BitVec 1 := Scalar.xori v877 v878
  let c0_i32_931 : BitVec 32 := 0#32
  let v876 : BitVec 1 := Scalar.cmpi .ne v875 c0_i32_931
  let v880 : BitVec 1 := Scalar.andi v879 v876
  let v881 : BitVec 32 := Scalar.addi v875 v874
  let v882 : BitVec 32 := Scalar.select v880 v881 v875
  let c128_i32_949 : BitVec 32 := 128#32
  let v895 : BitVec 32 := Scalar.muli v882 c128_i32_949
  let v896 : Index := Scalar.indexCast v895
  let c128_951 : Index := 128#32
  ![0, v896.toNat, 128]
def k1_off15 (d0 : Dev nD) (c0_i32_957 : BitVec 32) : Fin 3 → Nat :=
  let c1_977 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_956 : BitVec 32 := 1#32
  let v903 : BitVec 32 := Scalar.subi v29 c1_i32_956
  let v904 : BitVec 32 := Scalar.subi v903 c0_i32_957
  let c4_i32_958 : BitVec 32 := 4#32
  let c0_i32_959 : BitVec 32 := 0#32
  let v905 : BitVec 1 := Scalar.cmpi .eq c4_i32_958 c0_i32_959
  let c1_i32_960 : BitVec 32 := 1#32
  let v906 : BitVec 32 := Scalar.select v905 c1_i32_960 c4_i32_958
  let v907 : BitVec 32 := Scalar.remsi v904 v906
  let c0_i32_962 : BitVec 32 := 0#32
  let v909 : BitVec 1 := Scalar.cmpi .slt v907 c0_i32_962
  let c0_i32_963 : BitVec 32 := 0#32
  let v910 : BitVec 1 := Scalar.cmpi .slt v906 c0_i32_963
  let v911 : BitVec 1 := Scalar.xori v909 v910
  let c0_i32_961 : BitVec 32 := 0#32
  let v908 : BitVec 1 := Scalar.cmpi .ne v907 c0_i32_961
  let v912 : BitVec 1 := Scalar.andi v911 v908
  let v913 : BitVec 32 := Scalar.addi v907 v906
  let v914 : BitVec 32 := Scalar.select v912 v913 v907
  let c128_i32_976 : BitVec 32 := 128#32
  let v929 : BitVec 32 := Scalar.muli v914 c128_i32_976
  let v930 : Index := Scalar.indexCast v929
  let c0_978 : Index := 0#32
  ![1, v930.toNat, 0]
def k1_off16 (d0 : Dev nD) (c2_i32_964 : BitVec 32) (c0_i32_965 : BitVec 32) : Fin 3 → Nat :=
  let c1_988 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v915 : BitVec 32 := Scalar.addi v29 c2_i32_964
  let v916 : BitVec 32 := Scalar.addi v915 c0_i32_965
  let c4_i32_966 : BitVec 32 := 4#32
  let c0_i32_967 : BitVec 32 := 0#32
  let v917 : BitVec 1 := Scalar.cmpi .eq c4_i32_966 c0_i32_967
  let c1_i32_968 : BitVec 32 := 1#32
  let v918 : BitVec 32 := Scalar.select v917 c1_i32_968 c4_i32_966
  let v919 : BitVec 32 := Scalar.remsi v916 v918
  let c0_i32_970 : BitVec 32 := 0#32
  let v921 : BitVec 1 := Scalar.cmpi .slt v919 c0_i32_970
  let c0_i32_971 : BitVec 32 := 0#32
  let v922 : BitVec 1 := Scalar.cmpi .slt v918 c0_i32_971
  let v923 : BitVec 1 := Scalar.xori v921 v922
  let c0_i32_969 : BitVec 32 := 0#32
  let v920 : BitVec 1 := Scalar.cmpi .ne v919 c0_i32_969
  let v924 : BitVec 1 := Scalar.andi v923 v920
  let v925 : BitVec 32 := Scalar.addi v919 v918
  let v926 : BitVec 32 := Scalar.select v924 v925 v919
  let c128_i32_987 : BitVec 32 := 128#32
  let v939 : BitVec 32 := Scalar.muli v926 c128_i32_987
  let v940 : Index := Scalar.indexCast v939
  let c128_989 : Index := 128#32
  ![1, v940.toNat, 128]
def k1_dev21 (d0 : Dev nD) : Nat :=
  let c0_i32_1000 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_27 : BitVec 32 := 1#32
  let v56 : BitVec 32 := Scalar.addi v19 c1_i32_27
  let c4_i32_28 : BitVec 32 := 4#32
  let c0_i32_29 : BitVec 32 := 0#32
  let v57 : BitVec 1 := Scalar.cmpi .eq c4_i32_28 c0_i32_29
  let c1_i32_30 : BitVec 32 := 1#32
  let v58 : BitVec 32 := Scalar.select v57 c1_i32_30 c4_i32_28
  let v59 : BitVec 32 := Scalar.remsi v56 v58
  let c0_i32_32 : BitVec 32 := 0#32
  let v61 : BitVec 1 := Scalar.cmpi .slt v59 c0_i32_32
  let c0_i32_33 : BitVec 32 := 0#32
  let v62 : BitVec 1 := Scalar.cmpi .slt v58 c0_i32_33
  let v63 : BitVec 1 := Scalar.xori v61 v62
  let c0_i32_31 : BitVec 32 := 0#32
  let v60 : BitVec 1 := Scalar.cmpi .ne v59 c0_i32_31
  let v64 : BitVec 1 := Scalar.andi v63 v60
  let v65 : BitVec 32 := Scalar.addi v59 v58
  let v66 : BitVec 32 := Scalar.select v64 v65 v59
  let c4_i32_34 : BitVec 32 := 4#32
  let v67 : BitVec 32 := Scalar.muli v66 c4_i32_34
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v68 : BitVec 32 := Scalar.addi v67 v29
  let c1_i32_999 : BitVec 32 := 1#32
  let v947 : BitVec 32 := Scalar.muli v68 c1_i32_999
  let v948 : BitVec 32 := Scalar.addi c0_i32_1000 v947
  v948.toNat
def k1_dev22 (d0 : Dev nD) : Nat :=
  let c0_i32_1011 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_35 : BitVec 32 := 1#32
  let v69 : BitVec 32 := Scalar.subi v19 c1_i32_35
  let c4_i32_36 : BitVec 32 := 4#32
  let c0_i32_37 : BitVec 32 := 0#32
  let v70 : BitVec 1 := Scalar.cmpi .eq c4_i32_36 c0_i32_37
  let c1_i32_38 : BitVec 32 := 1#32
  let v71 : BitVec 32 := Scalar.select v70 c1_i32_38 c4_i32_36
  let v72 : BitVec 32 := Scalar.remsi v69 v71
  let c0_i32_40 : BitVec 32 := 0#32
  let v74 : BitVec 1 := Scalar.cmpi .slt v72 c0_i32_40
  let c0_i32_41 : BitVec 32 := 0#32
  let v75 : BitVec 1 := Scalar.cmpi .slt v71 c0_i32_41
  let v76 : BitVec 1 := Scalar.xori v74 v75
  let c0_i32_39 : BitVec 32 := 0#32
  let v73 : BitVec 1 := Scalar.cmpi .ne v72 c0_i32_39
  let v77 : BitVec 1 := Scalar.andi v76 v73
  let v78 : BitVec 32 := Scalar.addi v72 v71
  let v79 : BitVec 32 := Scalar.select v77 v78 v72
  let c4_i32_42 : BitVec 32 := 4#32
  let v80 : BitVec 32 := Scalar.muli v79 c4_i32_42
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v81 : BitVec 32 := Scalar.addi v80 v29
  let c1_i32_1010 : BitVec 32 := 1#32
  let v957 : BitVec 32 := Scalar.muli v81 c1_i32_1010
  let v958 : BitVec 32 := Scalar.addi c0_i32_1011 v957
  v958.toNat
def k1_dev23 (d0 : Dev nD) : Nat :=
  let c0_i32_1022 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1021 : BitVec 32 := 1#32
  let v967 : BitVec 32 := Scalar.muli v42 c1_i32_1021
  let v968 : BitVec 32 := Scalar.addi c0_i32_1022 v967
  v968.toNat
def k1_dev24 (d0 : Dev nD) : Nat :=
  let c0_i32_1033 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_1032 : BitVec 32 := 1#32
  let v977 : BitVec 32 := Scalar.muli v55 c1_i32_1032
  let v978 : BitVec 32 := Scalar.addi c0_i32_1033 v977
  v978.toNat
def k1_dev25 (d0 : Dev nD) : Nat :=
  let c0_i32_1212 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_27 : BitVec 32 := 1#32
  let v56 : BitVec 32 := Scalar.addi v19 c1_i32_27
  let c4_i32_28 : BitVec 32 := 4#32
  let c0_i32_29 : BitVec 32 := 0#32
  let v57 : BitVec 1 := Scalar.cmpi .eq c4_i32_28 c0_i32_29
  let c1_i32_30 : BitVec 32 := 1#32
  let v58 : BitVec 32 := Scalar.select v57 c1_i32_30 c4_i32_28
  let v59 : BitVec 32 := Scalar.remsi v56 v58
  let c0_i32_32 : BitVec 32 := 0#32
  let v61 : BitVec 1 := Scalar.cmpi .slt v59 c0_i32_32
  let c0_i32_33 : BitVec 32 := 0#32
  let v62 : BitVec 1 := Scalar.cmpi .slt v58 c0_i32_33
  let v63 : BitVec 1 := Scalar.xori v61 v62
  let c0_i32_31 : BitVec 32 := 0#32
  let v60 : BitVec 1 := Scalar.cmpi .ne v59 c0_i32_31
  let v64 : BitVec 1 := Scalar.andi v63 v60
  let v65 : BitVec 32 := Scalar.addi v59 v58
  let v66 : BitVec 32 := Scalar.select v64 v65 v59
  let c4_i32_34 : BitVec 32 := 4#32
  let v67 : BitVec 32 := Scalar.muli v66 c4_i32_34
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v68 : BitVec 32 := Scalar.addi v67 v29
  let c1_i32_1211 : BitVec 32 := 1#32
  let v1131 : BitVec 32 := Scalar.muli v68 c1_i32_1211
  let v1132 : BitVec 32 := Scalar.addi c0_i32_1212 v1131
  v1132.toNat
def k1_dev26 (d0 : Dev nD) : Nat :=
  let c0_i32_1223 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_35 : BitVec 32 := 1#32
  let v69 : BitVec 32 := Scalar.subi v19 c1_i32_35
  let c4_i32_36 : BitVec 32 := 4#32
  let c0_i32_37 : BitVec 32 := 0#32
  let v70 : BitVec 1 := Scalar.cmpi .eq c4_i32_36 c0_i32_37
  let c1_i32_38 : BitVec 32 := 1#32
  let v71 : BitVec 32 := Scalar.select v70 c1_i32_38 c4_i32_36
  let v72 : BitVec 32 := Scalar.remsi v69 v71
  let c0_i32_40 : BitVec 32 := 0#32
  let v74 : BitVec 1 := Scalar.cmpi .slt v72 c0_i32_40
  let c0_i32_41 : BitVec 32 := 0#32
  let v75 : BitVec 1 := Scalar.cmpi .slt v71 c0_i32_41
  let v76 : BitVec 1 := Scalar.xori v74 v75
  let c0_i32_39 : BitVec 32 := 0#32
  let v73 : BitVec 1 := Scalar.cmpi .ne v72 c0_i32_39
  let v77 : BitVec 1 := Scalar.andi v76 v73
  let v78 : BitVec 32 := Scalar.addi v72 v71
  let v79 : BitVec 32 := Scalar.select v77 v78 v72
  let c4_i32_42 : BitVec 32 := 4#32
  let v80 : BitVec 32 := Scalar.muli v79 c4_i32_42
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v81 : BitVec 32 := Scalar.addi v80 v29
  let c1_i32_1222 : BitVec 32 := 1#32
  let v1141 : BitVec 32 := Scalar.muli v81 c1_i32_1222
  let v1142 : BitVec 32 := Scalar.addi c0_i32_1223 v1141
  v1142.toNat
def k1_dev27 (d0 : Dev nD) : Nat :=
  let c0_i32_1234 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1233 : BitVec 32 := 1#32
  let v1151 : BitVec 32 := Scalar.muli v42 c1_i32_1233
  let v1152 : BitVec 32 := Scalar.addi c0_i32_1234 v1151
  v1152.toNat
def k1_dev28 (d0 : Dev nD) : Nat :=
  let c0_i32_1245 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_1244 : BitVec 32 := 1#32
  let v1161 : BitVec 32 := Scalar.muli v55 c1_i32_1244
  let v1162 : BitVec 32 := Scalar.addi c0_i32_1245 v1161
  v1162.toNat
def k1_off17 (d0 : Dev nD) : Fin 3 → Nat :=
  let c0_1430 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_1422 : BitVec 32 := 1#32
  let v1317 : BitVec 32 := Scalar.addi v19 c1_i32_1422
  let c4_i32_1423 : BitVec 32 := 4#32
  let c0_i32_1424 : BitVec 32 := 0#32
  let v1318 : BitVec 1 := Scalar.cmpi .eq c4_i32_1423 c0_i32_1424
  let c1_i32_1425 : BitVec 32 := 1#32
  let v1319 : BitVec 32 := Scalar.select v1318 c1_i32_1425 c4_i32_1423
  let v1320 : BitVec 32 := Scalar.remsi v1317 v1319
  let c0_i32_1427 : BitVec 32 := 0#32
  let v1322 : BitVec 1 := Scalar.cmpi .slt v1320 c0_i32_1427
  let c0_i32_1428 : BitVec 32 := 0#32
  let v1323 : BitVec 1 := Scalar.cmpi .slt v1319 c0_i32_1428
  let v1324 : BitVec 1 := Scalar.xori v1322 v1323
  let c0_i32_1426 : BitVec 32 := 0#32
  let v1321 : BitVec 1 := Scalar.cmpi .ne v1320 c0_i32_1426
  let v1325 : BitVec 1 := Scalar.andi v1324 v1321
  let v1326 : BitVec 32 := Scalar.addi v1320 v1319
  let v1327 : BitVec 32 := Scalar.select v1325 v1326 v1320
  let c128_i32_1429 : BitVec 32 := 128#32
  let v1328 : BitVec 32 := Scalar.muli v1327 c128_i32_1429
  let v1329 : Index := Scalar.indexCast v1328
  let c0_1431 : Index := 0#32
  ![0, v1329.toNat, 0]
def k1_off18 (d0 : Dev nD) : Fin 3 → Nat :=
  let c0_1437 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c128_i32_1436 : BitVec 32 := 128#32
  let v1335 : BitVec 32 := Scalar.muli v19 c128_i32_1436
  let v1336 : Index := Scalar.indexCast v1335
  let c128_1438 : Index := 128#32
  ![0, v1336.toNat, 128]
def k1_off19 (d0 : Dev nD) : Fin 3 → Nat :=
  let c1_1451 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_1443 : BitVec 32 := 1#32
  let v1342 : BitVec 32 := Scalar.addi v29 c1_i32_1443
  let c4_i32_1444 : BitVec 32 := 4#32
  let c0_i32_1445 : BitVec 32 := 0#32
  let v1343 : BitVec 1 := Scalar.cmpi .eq c4_i32_1444 c0_i32_1445
  let c1_i32_1446 : BitVec 32 := 1#32
  let v1344 : BitVec 32 := Scalar.select v1343 c1_i32_1446 c4_i32_1444
  let v1345 : BitVec 32 := Scalar.remsi v1342 v1344
  let c0_i32_1448 : BitVec 32 := 0#32
  let v1347 : BitVec 1 := Scalar.cmpi .slt v1345 c0_i32_1448
  let c0_i32_1449 : BitVec 32 := 0#32
  let v1348 : BitVec 1 := Scalar.cmpi .slt v1344 c0_i32_1449
  let v1349 : BitVec 1 := Scalar.xori v1347 v1348
  let c0_i32_1447 : BitVec 32 := 0#32
  let v1346 : BitVec 1 := Scalar.cmpi .ne v1345 c0_i32_1447
  let v1350 : BitVec 1 := Scalar.andi v1349 v1346
  let v1351 : BitVec 32 := Scalar.addi v1345 v1344
  let v1352 : BitVec 32 := Scalar.select v1350 v1351 v1345
  let c128_i32_1450 : BitVec 32 := 128#32
  let v1353 : BitVec 32 := Scalar.muli v1352 c128_i32_1450
  let v1354 : Index := Scalar.indexCast v1353
  let c0_1452 : Index := 0#32
  ![1, v1354.toNat, 0]
def k1_off20 (d0 : Dev nD) : Fin 3 → Nat :=
  let c1_1458 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32_1457 : BitVec 32 := 128#32
  let v1360 : BitVec 32 := Scalar.muli v29 c128_i32_1457
  let v1361 : Index := Scalar.indexCast v1360
  let c128_1459 : Index := 128#32
  ![1, v1361.toNat, 128]
def k1_dev29 (d0 : Dev nD) : Nat :=
  let c0_i32_1466 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_27 : BitVec 32 := 1#32
  let v56 : BitVec 32 := Scalar.addi v19 c1_i32_27
  let c4_i32_28 : BitVec 32 := 4#32
  let c0_i32_29 : BitVec 32 := 0#32
  let v57 : BitVec 1 := Scalar.cmpi .eq c4_i32_28 c0_i32_29
  let c1_i32_30 : BitVec 32 := 1#32
  let v58 : BitVec 32 := Scalar.select v57 c1_i32_30 c4_i32_28
  let v59 : BitVec 32 := Scalar.remsi v56 v58
  let c0_i32_32 : BitVec 32 := 0#32
  let v61 : BitVec 1 := Scalar.cmpi .slt v59 c0_i32_32
  let c0_i32_33 : BitVec 32 := 0#32
  let v62 : BitVec 1 := Scalar.cmpi .slt v58 c0_i32_33
  let v63 : BitVec 1 := Scalar.xori v61 v62
  let c0_i32_31 : BitVec 32 := 0#32
  let v60 : BitVec 1 := Scalar.cmpi .ne v59 c0_i32_31
  let v64 : BitVec 1 := Scalar.andi v63 v60
  let v65 : BitVec 32 := Scalar.addi v59 v58
  let v66 : BitVec 32 := Scalar.select v64 v65 v59
  let c4_i32_34 : BitVec 32 := 4#32
  let v67 : BitVec 32 := Scalar.muli v66 c4_i32_34
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v68 : BitVec 32 := Scalar.addi v67 v29
  let c1_i32_1465 : BitVec 32 := 1#32
  let v1365 : BitVec 32 := Scalar.muli v68 c1_i32_1465
  let v1366 : BitVec 32 := Scalar.addi c0_i32_1466 v1365
  v1366.toNat
def k1_dev30 (d0 : Dev nD) : Nat :=
  let c0_i32_1477 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_35 : BitVec 32 := 1#32
  let v69 : BitVec 32 := Scalar.subi v19 c1_i32_35
  let c4_i32_36 : BitVec 32 := 4#32
  let c0_i32_37 : BitVec 32 := 0#32
  let v70 : BitVec 1 := Scalar.cmpi .eq c4_i32_36 c0_i32_37
  let c1_i32_38 : BitVec 32 := 1#32
  let v71 : BitVec 32 := Scalar.select v70 c1_i32_38 c4_i32_36
  let v72 : BitVec 32 := Scalar.remsi v69 v71
  let c0_i32_40 : BitVec 32 := 0#32
  let v74 : BitVec 1 := Scalar.cmpi .slt v72 c0_i32_40
  let c0_i32_41 : BitVec 32 := 0#32
  let v75 : BitVec 1 := Scalar.cmpi .slt v71 c0_i32_41
  let v76 : BitVec 1 := Scalar.xori v74 v75
  let c0_i32_39 : BitVec 32 := 0#32
  let v73 : BitVec 1 := Scalar.cmpi .ne v72 c0_i32_39
  let v77 : BitVec 1 := Scalar.andi v76 v73
  let v78 : BitVec 32 := Scalar.addi v72 v71
  let v79 : BitVec 32 := Scalar.select v77 v78 v72
  let c4_i32_42 : BitVec 32 := 4#32
  let v80 : BitVec 32 := Scalar.muli v79 c4_i32_42
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v81 : BitVec 32 := Scalar.addi v80 v29
  let c1_i32_1476 : BitVec 32 := 1#32
  let v1375 : BitVec 32 := Scalar.muli v81 c1_i32_1476
  let v1376 : BitVec 32 := Scalar.addi c0_i32_1477 v1375
  v1376.toNat
def k1_dev31 (d0 : Dev nD) : Nat :=
  let c0_i32_1488 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1487 : BitVec 32 := 1#32
  let v1385 : BitVec 32 := Scalar.muli v42 c1_i32_1487
  let v1386 : BitVec 32 := Scalar.addi c0_i32_1488 v1385
  v1386.toNat
def k1_dev32 (d0 : Dev nD) : Nat :=
  let c0_i32_1499 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_1498 : BitVec 32 := 1#32
  let v1395 : BitVec 32 := Scalar.muli v55 c1_i32_1498
  let v1396 : BitVec 32 := Scalar.addi c0_i32_1499 v1395
  v1396.toNat
def k1_off21 (d0 : Dev nD) (c0_i32_1599 : BitVec 32) : Fin 3 → Nat :=
  let c0_1607 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1463 : BitVec 32 := Scalar.subi v19 c0_i32_1599
  let c4_i32_1600 : BitVec 32 := 4#32
  let c0_i32_1601 : BitVec 32 := 0#32
  let v1464 : BitVec 1 := Scalar.cmpi .eq c4_i32_1600 c0_i32_1601
  let c1_i32_1602 : BitVec 32 := 1#32
  let v1465 : BitVec 32 := Scalar.select v1464 c1_i32_1602 c4_i32_1600
  let v1466 : BitVec 32 := Scalar.remsi v1463 v1465
  let c0_i32_1604 : BitVec 32 := 0#32
  let v1468 : BitVec 1 := Scalar.cmpi .slt v1466 c0_i32_1604
  let c0_i32_1605 : BitVec 32 := 0#32
  let v1469 : BitVec 1 := Scalar.cmpi .slt v1465 c0_i32_1605
  let v1470 : BitVec 1 := Scalar.xori v1468 v1469
  let c0_i32_1603 : BitVec 32 := 0#32
  let v1467 : BitVec 1 := Scalar.cmpi .ne v1466 c0_i32_1603
  let v1471 : BitVec 1 := Scalar.andi v1470 v1467
  let v1472 : BitVec 32 := Scalar.addi v1466 v1465
  let v1473 : BitVec 32 := Scalar.select v1471 v1472 v1466
  let c128_i32_1606 : BitVec 32 := 128#32
  let v1474 : BitVec 32 := Scalar.muli v1473 c128_i32_1606
  let v1475 : Index := Scalar.indexCast v1474
  let c0_1608 : Index := 0#32
  ![0, v1475.toNat, 0]
def k1_off22 (d0 : Dev nD) (c0_i32_1628 : BitVec 32) : Fin 3 → Nat :=
  let c1_1636 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1500 : BitVec 32 := Scalar.subi v29 c0_i32_1628
  let c4_i32_1629 : BitVec 32 := 4#32
  let c0_i32_1630 : BitVec 32 := 0#32
  let v1501 : BitVec 1 := Scalar.cmpi .eq c4_i32_1629 c0_i32_1630
  let c1_i32_1631 : BitVec 32 := 1#32
  let v1502 : BitVec 32 := Scalar.select v1501 c1_i32_1631 c4_i32_1629
  let v1503 : BitVec 32 := Scalar.remsi v1500 v1502
  let c0_i32_1633 : BitVec 32 := 0#32
  let v1505 : BitVec 1 := Scalar.cmpi .slt v1503 c0_i32_1633
  let c0_i32_1634 : BitVec 32 := 0#32
  let v1506 : BitVec 1 := Scalar.cmpi .slt v1502 c0_i32_1634
  let v1507 : BitVec 1 := Scalar.xori v1505 v1506
  let c0_i32_1632 : BitVec 32 := 0#32
  let v1504 : BitVec 1 := Scalar.cmpi .ne v1503 c0_i32_1632
  let v1508 : BitVec 1 := Scalar.andi v1507 v1504
  let v1509 : BitVec 32 := Scalar.addi v1503 v1502
  let v1510 : BitVec 32 := Scalar.select v1508 v1509 v1503
  let c128_i32_1635 : BitVec 32 := 128#32
  let v1511 : BitVec 32 := Scalar.muli v1510 c128_i32_1635
  let v1512 : Index := Scalar.indexCast v1511
  let c0_1637 : Index := 0#32
  ![1, v1512.toNat, 0]
def k1_dev33 (d0 : Dev nD) : Nat :=
  let c0_i32_1659 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_27 : BitVec 32 := 1#32
  let v56 : BitVec 32 := Scalar.addi v19 c1_i32_27
  let c4_i32_28 : BitVec 32 := 4#32
  let c0_i32_29 : BitVec 32 := 0#32
  let v57 : BitVec 1 := Scalar.cmpi .eq c4_i32_28 c0_i32_29
  let c1_i32_30 : BitVec 32 := 1#32
  let v58 : BitVec 32 := Scalar.select v57 c1_i32_30 c4_i32_28
  let v59 : BitVec 32 := Scalar.remsi v56 v58
  let c0_i32_32 : BitVec 32 := 0#32
  let v61 : BitVec 1 := Scalar.cmpi .slt v59 c0_i32_32
  let c0_i32_33 : BitVec 32 := 0#32
  let v62 : BitVec 1 := Scalar.cmpi .slt v58 c0_i32_33
  let v63 : BitVec 1 := Scalar.xori v61 v62
  let c0_i32_31 : BitVec 32 := 0#32
  let v60 : BitVec 1 := Scalar.cmpi .ne v59 c0_i32_31
  let v64 : BitVec 1 := Scalar.andi v63 v60
  let v65 : BitVec 32 := Scalar.addi v59 v58
  let v66 : BitVec 32 := Scalar.select v64 v65 v59
  let c4_i32_34 : BitVec 32 := 4#32
  let v67 : BitVec 32 := Scalar.muli v66 c4_i32_34
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v68 : BitVec 32 := Scalar.addi v67 v29
  let c1_i32_1658 : BitVec 32 := 1#32
  let v1535 : BitVec 32 := Scalar.muli v68 c1_i32_1658
  let v1536 : BitVec 32 := Scalar.addi c0_i32_1659 v1535
  v1536.toNat
def k1_dev34 (d0 : Dev nD) : Nat :=
  let c0_i32_1671 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_35 : BitVec 32 := 1#32
  let v69 : BitVec 32 := Scalar.subi v19 c1_i32_35
  let c4_i32_36 : BitVec 32 := 4#32
  let c0_i32_37 : BitVec 32 := 0#32
  let v70 : BitVec 1 := Scalar.cmpi .eq c4_i32_36 c0_i32_37
  let c1_i32_38 : BitVec 32 := 1#32
  let v71 : BitVec 32 := Scalar.select v70 c1_i32_38 c4_i32_36
  let v72 : BitVec 32 := Scalar.remsi v69 v71
  let c0_i32_40 : BitVec 32 := 0#32
  let v74 : BitVec 1 := Scalar.cmpi .slt v72 c0_i32_40
  let c0_i32_41 : BitVec 32 := 0#32
  let v75 : BitVec 1 := Scalar.cmpi .slt v71 c0_i32_41
  let v76 : BitVec 1 := Scalar.xori v74 v75
  let c0_i32_39 : BitVec 32 := 0#32
  let v73 : BitVec 1 := Scalar.cmpi .ne v72 c0_i32_39
  let v77 : BitVec 1 := Scalar.andi v76 v73
  let v78 : BitVec 32 := Scalar.addi v72 v71
  let v79 : BitVec 32 := Scalar.select v77 v78 v72
  let c4_i32_42 : BitVec 32 := 4#32
  let v80 : BitVec 32 := Scalar.muli v79 c4_i32_42
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v81 : BitVec 32 := Scalar.addi v80 v29
  let c1_i32_1670 : BitVec 32 := 1#32
  let v1545 : BitVec 32 := Scalar.muli v81 c1_i32_1670
  let v1546 : BitVec 32 := Scalar.addi c0_i32_1671 v1545
  v1546.toNat
def k1_dev35 (d0 : Dev nD) : Nat :=
  let c0_i32_1682 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1681 : BitVec 32 := 1#32
  let v1555 : BitVec 32 := Scalar.muli v42 c1_i32_1681
  let v1556 : BitVec 32 := Scalar.addi c0_i32_1682 v1555
  v1556.toNat
def k1_dev36 (d0 : Dev nD) : Nat :=
  let c0_i32_1693 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_1692 : BitVec 32 := 1#32
  let v1565 : BitVec 32 := Scalar.muli v55 c1_i32_1692
  let v1566 : BitVec 32 := Scalar.addi c0_i32_1693 v1565
  v1566.toNat
def k1_dev37 (d0 : Dev nD) : Nat :=
  let c0_i32_1853 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_27 : BitVec 32 := 1#32
  let v56 : BitVec 32 := Scalar.addi v19 c1_i32_27
  let c4_i32_28 : BitVec 32 := 4#32
  let c0_i32_29 : BitVec 32 := 0#32
  let v57 : BitVec 1 := Scalar.cmpi .eq c4_i32_28 c0_i32_29
  let c1_i32_30 : BitVec 32 := 1#32
  let v58 : BitVec 32 := Scalar.select v57 c1_i32_30 c4_i32_28
  let v59 : BitVec 32 := Scalar.remsi v56 v58
  let c0_i32_32 : BitVec 32 := 0#32
  let v61 : BitVec 1 := Scalar.cmpi .slt v59 c0_i32_32
  let c0_i32_33 : BitVec 32 := 0#32
  let v62 : BitVec 1 := Scalar.cmpi .slt v58 c0_i32_33
  let v63 : BitVec 1 := Scalar.xori v61 v62
  let c0_i32_31 : BitVec 32 := 0#32
  let v60 : BitVec 1 := Scalar.cmpi .ne v59 c0_i32_31
  let v64 : BitVec 1 := Scalar.andi v63 v60
  let v65 : BitVec 32 := Scalar.addi v59 v58
  let v66 : BitVec 32 := Scalar.select v64 v65 v59
  let c4_i32_34 : BitVec 32 := 4#32
  let v67 : BitVec 32 := Scalar.muli v66 c4_i32_34
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v68 : BitVec 32 := Scalar.addi v67 v29
  let c1_i32_1852 : BitVec 32 := 1#32
  let v1705 : BitVec 32 := Scalar.muli v68 c1_i32_1852
  let v1706 : BitVec 32 := Scalar.addi c0_i32_1853 v1705
  v1706.toNat
def k1_dev38 (d0 : Dev nD) : Nat :=
  let c0_i32_1864 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_35 : BitVec 32 := 1#32
  let v69 : BitVec 32 := Scalar.subi v19 c1_i32_35
  let c4_i32_36 : BitVec 32 := 4#32
  let c0_i32_37 : BitVec 32 := 0#32
  let v70 : BitVec 1 := Scalar.cmpi .eq c4_i32_36 c0_i32_37
  let c1_i32_38 : BitVec 32 := 1#32
  let v71 : BitVec 32 := Scalar.select v70 c1_i32_38 c4_i32_36
  let v72 : BitVec 32 := Scalar.remsi v69 v71
  let c0_i32_40 : BitVec 32 := 0#32
  let v74 : BitVec 1 := Scalar.cmpi .slt v72 c0_i32_40
  let c0_i32_41 : BitVec 32 := 0#32
  let v75 : BitVec 1 := Scalar.cmpi .slt v71 c0_i32_41
  let v76 : BitVec 1 := Scalar.xori v74 v75
  let c0_i32_39 : BitVec 32 := 0#32
  let v73 : BitVec 1 := Scalar.cmpi .ne v72 c0_i32_39
  let v77 : BitVec 1 := Scalar.andi v76 v73
  let v78 : BitVec 32 := Scalar.addi v72 v71
  let v79 : BitVec 32 := Scalar.select v77 v78 v72
  let c4_i32_42 : BitVec 32 := 4#32
  let v80 : BitVec 32 := Scalar.muli v79 c4_i32_42
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v81 : BitVec 32 := Scalar.addi v80 v29
  let c1_i32_1863 : BitVec 32 := 1#32
  let v1715 : BitVec 32 := Scalar.muli v81 c1_i32_1863
  let v1716 : BitVec 32 := Scalar.addi c0_i32_1864 v1715
  v1716.toNat
def k1_dev39 (d0 : Dev nD) : Nat :=
  let c0_i32_1875 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1874 : BitVec 32 := 1#32
  let v1725 : BitVec 32 := Scalar.muli v42 c1_i32_1874
  let v1726 : BitVec 32 := Scalar.addi c0_i32_1875 v1725
  v1726.toNat
def k1_dev40 (d0 : Dev nD) : Nat :=
  let c0_i32_1886 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_1885 : BitVec 32 := 1#32
  let v1735 : BitVec 32 := Scalar.muli v55 c1_i32_1885
  let v1736 : BitVec 32 := Scalar.addi c0_i32_1886 v1735
  v1736.toNat
def k1_off23 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_2043 : BitVec 32 := 1#32
  let v1877 : BitVec 32 := Scalar.addi v29 c1_i32_2043
  let c4_i32_2044 : BitVec 32 := 4#32
  let c0_i32_2045 : BitVec 32 := 0#32
  let v1878 : BitVec 1 := Scalar.cmpi .eq c4_i32_2044 c0_i32_2045
  let c1_i32_2046 : BitVec 32 := 1#32
  let v1879 : BitVec 32 := Scalar.select v1878 c1_i32_2046 c4_i32_2044
  let v1880 : BitVec 32 := Scalar.remsi v1877 v1879
  let c0_i32_2048 : BitVec 32 := 0#32
  let v1882 : BitVec 1 := Scalar.cmpi .slt v1880 c0_i32_2048
  let c0_i32_2049 : BitVec 32 := 0#32
  let v1883 : BitVec 1 := Scalar.cmpi .slt v1879 c0_i32_2049
  let v1884 : BitVec 1 := Scalar.xori v1882 v1883
  let c0_i32_2047 : BitVec 32 := 0#32
  let v1881 : BitVec 1 := Scalar.cmpi .ne v1880 c0_i32_2047
  let v1885 : BitVec 1 := Scalar.andi v1884 v1881
  let v1886 : BitVec 32 := Scalar.addi v1880 v1879
  let v1887 : BitVec 32 := Scalar.select v1885 v1886 v1880
  let c256_i32_2050 : BitVec 32 := 256#32
  let v1888 : BitVec 32 := Scalar.muli v1887 c256_i32_2050
  let v1889 : Index := Scalar.indexCast v1888
  let c0_2051 : Index := 0#32
  ![v1889.toNat, 0]
def k1_off24 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c256_i32_2055 : BitVec 32 := 256#32
  let v1893 : BitVec 32 := Scalar.muli v29 c256_i32_2055
  let v1894 : Index := Scalar.indexCast v1893
  let c256_2056 : Index := 256#32
  ![v1894.toNat, 256]
def k1_off25 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_2060 : BitVec 32 := 1#32
  let v1898 : BitVec 32 := Scalar.addi v19 c1_i32_2060
  let c4_i32_2061 : BitVec 32 := 4#32
  let c0_i32_2062 : BitVec 32 := 0#32
  let v1899 : BitVec 1 := Scalar.cmpi .eq c4_i32_2061 c0_i32_2062
  let c1_i32_2063 : BitVec 32 := 1#32
  let v1900 : BitVec 32 := Scalar.select v1899 c1_i32_2063 c4_i32_2061
  let v1901 : BitVec 32 := Scalar.remsi v1898 v1900
  let c0_i32_2065 : BitVec 32 := 0#32
  let v1903 : BitVec 1 := Scalar.cmpi .slt v1901 c0_i32_2065
  let c0_i32_2066 : BitVec 32 := 0#32
  let v1904 : BitVec 1 := Scalar.cmpi .slt v1900 c0_i32_2066
  let v1905 : BitVec 1 := Scalar.xori v1903 v1904
  let c0_i32_2064 : BitVec 32 := 0#32
  let v1902 : BitVec 1 := Scalar.cmpi .ne v1901 c0_i32_2064
  let v1906 : BitVec 1 := Scalar.andi v1905 v1902
  let v1907 : BitVec 32 := Scalar.addi v1901 v1900
  let v1908 : BitVec 32 := Scalar.select v1906 v1907 v1901
  let c256_i32_2067 : BitVec 32 := 256#32
  let v1909 : BitVec 32 := Scalar.muli v1908 c256_i32_2067
  let v1910 : Index := Scalar.indexCast v1909
  let c512_2068 : Index := 512#32
  ![v1910.toNat, 512]
def k1_off26 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c256_i32_2072 : BitVec 32 := 256#32
  let v1914 : BitVec 32 := Scalar.muli v19 c256_i32_2072
  let v1915 : Index := Scalar.indexCast v1914
  let c768_2073 : Index := 768#32
  ![v1915.toNat, 768]
def k1_dev41 (d0 : Dev nD) : Nat :=
  let c0_i32_2079 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_2078 : BitVec 32 := 1#32
  let v1917 : BitVec 32 := Scalar.muli v42 c1_i32_2078
  let v1918 : BitVec 32 := Scalar.addi c0_i32_2079 v1917
  v1918.toNat
def k1_dev42 (d0 : Dev nD) : Nat :=
  let c0_i32_2089 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_2088 : BitVec 32 := 1#32
  let v1927 : BitVec 32 := Scalar.muli v55 c1_i32_2088
  let v1928 : BitVec 32 := Scalar.addi c0_i32_2089 v1927
  v1928.toNat
def k1_dev43 (d0 : Dev nD) : Nat :=
  let c0_i32_2099 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_27 : BitVec 32 := 1#32
  let v56 : BitVec 32 := Scalar.addi v19 c1_i32_27
  let c4_i32_28 : BitVec 32 := 4#32
  let c0_i32_29 : BitVec 32 := 0#32
  let v57 : BitVec 1 := Scalar.cmpi .eq c4_i32_28 c0_i32_29
  let c1_i32_30 : BitVec 32 := 1#32
  let v58 : BitVec 32 := Scalar.select v57 c1_i32_30 c4_i32_28
  let v59 : BitVec 32 := Scalar.remsi v56 v58
  let c0_i32_32 : BitVec 32 := 0#32
  let v61 : BitVec 1 := Scalar.cmpi .slt v59 c0_i32_32
  let c0_i32_33 : BitVec 32 := 0#32
  let v62 : BitVec 1 := Scalar.cmpi .slt v58 c0_i32_33
  let v63 : BitVec 1 := Scalar.xori v61 v62
  let c0_i32_31 : BitVec 32 := 0#32
  let v60 : BitVec 1 := Scalar.cmpi .ne v59 c0_i32_31
  let v64 : BitVec 1 := Scalar.andi v63 v60
  let v65 : BitVec 32 := Scalar.addi v59 v58
  let v66 : BitVec 32 := Scalar.select v64 v65 v59
  let c4_i32_34 : BitVec 32 := 4#32
  let v67 : BitVec 32 := Scalar.muli v66 c4_i32_34
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v68 : BitVec 32 := Scalar.addi v67 v29
  let c1_i32_2098 : BitVec 32 := 1#32
  let v1937 : BitVec 32 := Scalar.muli v68 c1_i32_2098
  let v1938 : BitVec 32 := Scalar.addi c0_i32_2099 v1937
  v1938.toNat
def k1_dev44 (d0 : Dev nD) : Nat :=
  let c0_i32_2109 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_35 : BitVec 32 := 1#32
  let v69 : BitVec 32 := Scalar.subi v19 c1_i32_35
  let c4_i32_36 : BitVec 32 := 4#32
  let c0_i32_37 : BitVec 32 := 0#32
  let v70 : BitVec 1 := Scalar.cmpi .eq c4_i32_36 c0_i32_37
  let c1_i32_38 : BitVec 32 := 1#32
  let v71 : BitVec 32 := Scalar.select v70 c1_i32_38 c4_i32_36
  let v72 : BitVec 32 := Scalar.remsi v69 v71
  let c0_i32_40 : BitVec 32 := 0#32
  let v74 : BitVec 1 := Scalar.cmpi .slt v72 c0_i32_40
  let c0_i32_41 : BitVec 32 := 0#32
  let v75 : BitVec 1 := Scalar.cmpi .slt v71 c0_i32_41
  let v76 : BitVec 1 := Scalar.xori v74 v75
  let c0_i32_39 : BitVec 32 := 0#32
  let v73 : BitVec 1 := Scalar.cmpi .ne v72 c0_i32_39
  let v77 : BitVec 1 := Scalar.andi v76 v73
  let v78 : BitVec 32 := Scalar.addi v72 v71
  let v79 : BitVec 32 := Scalar.select v77 v78 v72
  let c4_i32_42 : BitVec 32 := 4#32
  let v80 : BitVec 32 := Scalar.muli v79 c4_i32_42
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v81 : BitVec 32 := Scalar.addi v80 v29
  let c1_i32_2108 : BitVec 32 := 1#32
  let v1947 : BitVec 32 := Scalar.muli v81 c1_i32_2108
  let v1948 : BitVec 32 := Scalar.addi c0_i32_2109 v1947
  v1948.toNat
def k1_off27 (d0 : Dev nD) (c0_i32_2202 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v2015 : BitVec 32 := Scalar.subi v29 c0_i32_2202
  let c4_i32_2203 : BitVec 32 := 4#32
  let c0_i32_2204 : BitVec 32 := 0#32
  let v2016 : BitVec 1 := Scalar.cmpi .eq c4_i32_2203 c0_i32_2204
  let c1_i32_2205 : BitVec 32 := 1#32
  let v2017 : BitVec 32 := Scalar.select v2016 c1_i32_2205 c4_i32_2203
  let v2018 : BitVec 32 := Scalar.remsi v2015 v2017
  let c0_i32_2207 : BitVec 32 := 0#32
  let v2020 : BitVec 1 := Scalar.cmpi .slt v2018 c0_i32_2207
  let c0_i32_2208 : BitVec 32 := 0#32
  let v2021 : BitVec 1 := Scalar.cmpi .slt v2017 c0_i32_2208
  let v2022 : BitVec 1 := Scalar.xori v2020 v2021
  let c0_i32_2206 : BitVec 32 := 0#32
  let v2019 : BitVec 1 := Scalar.cmpi .ne v2018 c0_i32_2206
  let v2023 : BitVec 1 := Scalar.andi v2022 v2019
  let v2024 : BitVec 32 := Scalar.addi v2018 v2017
  let v2025 : BitVec 32 := Scalar.select v2023 v2024 v2018
  let c256_i32_2209 : BitVec 32 := 256#32
  let v2026 : BitVec 32 := Scalar.muli v2025 c256_i32_2209
  let v2027 : Index := Scalar.indexCast v2026
  let c0_2210 : Index := 0#32
  ![v2027.toNat, 0]
def k1_off28 (d0 : Dev nD) (c0_i32_2229 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v2048 : BitVec 32 := Scalar.subi v19 c0_i32_2229
  let c4_i32_2230 : BitVec 32 := 4#32
  let c0_i32_2231 : BitVec 32 := 0#32
  let v2049 : BitVec 1 := Scalar.cmpi .eq c4_i32_2230 c0_i32_2231
  let c1_i32_2232 : BitVec 32 := 1#32
  let v2050 : BitVec 32 := Scalar.select v2049 c1_i32_2232 c4_i32_2230
  let v2051 : BitVec 32 := Scalar.remsi v2048 v2050
  let c0_i32_2234 : BitVec 32 := 0#32
  let v2053 : BitVec 1 := Scalar.cmpi .slt v2051 c0_i32_2234
  let c0_i32_2235 : BitVec 32 := 0#32
  let v2054 : BitVec 1 := Scalar.cmpi .slt v2050 c0_i32_2235
  let v2055 : BitVec 1 := Scalar.xori v2053 v2054
  let c0_i32_2233 : BitVec 32 := 0#32
  let v2052 : BitVec 1 := Scalar.cmpi .ne v2051 c0_i32_2233
  let v2056 : BitVec 1 := Scalar.andi v2055 v2052
  let v2057 : BitVec 32 := Scalar.addi v2051 v2050
  let v2058 : BitVec 32 := Scalar.select v2056 v2057 v2051
  let c256_i32_2236 : BitVec 32 := 256#32
  let v2059 : BitVec 32 := Scalar.muli v2058 c256_i32_2236
  let v2060 : Index := Scalar.indexCast v2059
  let c512_2237 : Index := 512#32
  ![v2060.toNat, 512]
def k1_dev45 (d0 : Dev nD) : Nat :=
  let c0_i32_2258 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_2257 : BitVec 32 := 1#32
  let v2079 : BitVec 32 := Scalar.muli v42 c1_i32_2257
  let v2080 : BitVec 32 := Scalar.addi c0_i32_2258 v2079
  v2080.toNat
def k1_dev46 (d0 : Dev nD) : Nat :=
  let c0_i32_2269 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_2268 : BitVec 32 := 1#32
  let v2089 : BitVec 32 := Scalar.muli v55 c1_i32_2268
  let v2090 : BitVec 32 := Scalar.addi c0_i32_2269 v2089
  v2090.toNat
def k1_dev47 (d0 : Dev nD) : Nat :=
  let c0_i32_2280 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_27 : BitVec 32 := 1#32
  let v56 : BitVec 32 := Scalar.addi v19 c1_i32_27
  let c4_i32_28 : BitVec 32 := 4#32
  let c0_i32_29 : BitVec 32 := 0#32
  let v57 : BitVec 1 := Scalar.cmpi .eq c4_i32_28 c0_i32_29
  let c1_i32_30 : BitVec 32 := 1#32
  let v58 : BitVec 32 := Scalar.select v57 c1_i32_30 c4_i32_28
  let v59 : BitVec 32 := Scalar.remsi v56 v58
  let c0_i32_32 : BitVec 32 := 0#32
  let v61 : BitVec 1 := Scalar.cmpi .slt v59 c0_i32_32
  let c0_i32_33 : BitVec 32 := 0#32
  let v62 : BitVec 1 := Scalar.cmpi .slt v58 c0_i32_33
  let v63 : BitVec 1 := Scalar.xori v61 v62
  let c0_i32_31 : BitVec 32 := 0#32
  let v60 : BitVec 1 := Scalar.cmpi .ne v59 c0_i32_31
  let v64 : BitVec 1 := Scalar.andi v63 v60
  let v65 : BitVec 32 := Scalar.addi v59 v58
  let v66 : BitVec 32 := Scalar.select v64 v65 v59
  let c4_i32_34 : BitVec 32 := 4#32
  let v67 : BitVec 32 := Scalar.muli v66 c4_i32_34
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v68 : BitVec 32 := Scalar.addi v67 v29
  let c1_i32_2279 : BitVec 32 := 1#32
  let v2099 : BitVec 32 := Scalar.muli v68 c1_i32_2279
  let v2100 : BitVec 32 := Scalar.addi c0_i32_2280 v2099
  v2100.toNat
def k1_dev48 (d0 : Dev nD) : Nat :=
  let c0_i32_2291 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_35 : BitVec 32 := 1#32
  let v69 : BitVec 32 := Scalar.subi v19 c1_i32_35
  let c4_i32_36 : BitVec 32 := 4#32
  let c0_i32_37 : BitVec 32 := 0#32
  let v70 : BitVec 1 := Scalar.cmpi .eq c4_i32_36 c0_i32_37
  let c1_i32_38 : BitVec 32 := 1#32
  let v71 : BitVec 32 := Scalar.select v70 c1_i32_38 c4_i32_36
  let v72 : BitVec 32 := Scalar.remsi v69 v71
  let c0_i32_40 : BitVec 32 := 0#32
  let v74 : BitVec 1 := Scalar.cmpi .slt v72 c0_i32_40
  let c0_i32_41 : BitVec 32 := 0#32
  let v75 : BitVec 1 := Scalar.cmpi .slt v71 c0_i32_41
  let v76 : BitVec 1 := Scalar.xori v74 v75
  let c0_i32_39 : BitVec 32 := 0#32
  let v73 : BitVec 1 := Scalar.cmpi .ne v72 c0_i32_39
  let v77 : BitVec 1 := Scalar.andi v76 v73
  let v78 : BitVec 32 := Scalar.addi v72 v71
  let v79 : BitVec 32 := Scalar.select v77 v78 v72
  let c4_i32_42 : BitVec 32 := 4#32
  let v80 : BitVec 32 := Scalar.muli v79 c4_i32_42
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v81 : BitVec 32 := Scalar.addi v80 v29
  let c1_i32_2290 : BitVec 32 := 1#32
  let v2109 : BitVec 32 := Scalar.muli v81 c1_i32_2290
  let v2110 : BitVec 32 := Scalar.addi c0_i32_2291 v2109
  v2110.toNat
def k1_dev49 (d0 : Dev nD) : Nat :=
  let c0_i32_2448 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_2447 : BitVec 32 := 1#32
  let v2241 : BitVec 32 := Scalar.muli v42 c1_i32_2447
  let v2242 : BitVec 32 := Scalar.addi c0_i32_2448 v2241
  v2242.toNat
def k1_dev50 (d0 : Dev nD) : Nat :=
  let c0_i32_2459 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_2458 : BitVec 32 := 1#32
  let v2251 : BitVec 32 := Scalar.muli v55 c1_i32_2458
  let v2252 : BitVec 32 := Scalar.addi c0_i32_2459 v2251
  v2252.toNat
def k1_dev51 (d0 : Dev nD) : Nat :=
  let c0_i32_2470 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_27 : BitVec 32 := 1#32
  let v56 : BitVec 32 := Scalar.addi v19 c1_i32_27
  let c4_i32_28 : BitVec 32 := 4#32
  let c0_i32_29 : BitVec 32 := 0#32
  let v57 : BitVec 1 := Scalar.cmpi .eq c4_i32_28 c0_i32_29
  let c1_i32_30 : BitVec 32 := 1#32
  let v58 : BitVec 32 := Scalar.select v57 c1_i32_30 c4_i32_28
  let v59 : BitVec 32 := Scalar.remsi v56 v58
  let c0_i32_32 : BitVec 32 := 0#32
  let v61 : BitVec 1 := Scalar.cmpi .slt v59 c0_i32_32
  let c0_i32_33 : BitVec 32 := 0#32
  let v62 : BitVec 1 := Scalar.cmpi .slt v58 c0_i32_33
  let v63 : BitVec 1 := Scalar.xori v61 v62
  let c0_i32_31 : BitVec 32 := 0#32
  let v60 : BitVec 1 := Scalar.cmpi .ne v59 c0_i32_31
  let v64 : BitVec 1 := Scalar.andi v63 v60
  let v65 : BitVec 32 := Scalar.addi v59 v58
  let v66 : BitVec 32 := Scalar.select v64 v65 v59
  let c4_i32_34 : BitVec 32 := 4#32
  let v67 : BitVec 32 := Scalar.muli v66 c4_i32_34
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v68 : BitVec 32 := Scalar.addi v67 v29
  let c1_i32_2469 : BitVec 32 := 1#32
  let v2261 : BitVec 32 := Scalar.muli v68 c1_i32_2469
  let v2262 : BitVec 32 := Scalar.addi c0_i32_2470 v2261
  v2262.toNat
def k1_dev52 (d0 : Dev nD) : Nat :=
  let c0_i32_2481 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_35 : BitVec 32 := 1#32
  let v69 : BitVec 32 := Scalar.subi v19 c1_i32_35
  let c4_i32_36 : BitVec 32 := 4#32
  let c0_i32_37 : BitVec 32 := 0#32
  let v70 : BitVec 1 := Scalar.cmpi .eq c4_i32_36 c0_i32_37
  let c1_i32_38 : BitVec 32 := 1#32
  let v71 : BitVec 32 := Scalar.select v70 c1_i32_38 c4_i32_36
  let v72 : BitVec 32 := Scalar.remsi v69 v71
  let c0_i32_40 : BitVec 32 := 0#32
  let v74 : BitVec 1 := Scalar.cmpi .slt v72 c0_i32_40
  let c0_i32_41 : BitVec 32 := 0#32
  let v75 : BitVec 1 := Scalar.cmpi .slt v71 c0_i32_41
  let v76 : BitVec 1 := Scalar.xori v74 v75
  let c0_i32_39 : BitVec 32 := 0#32
  let v73 : BitVec 1 := Scalar.cmpi .ne v72 c0_i32_39
  let v77 : BitVec 1 := Scalar.andi v76 v73
  let v78 : BitVec 32 := Scalar.addi v72 v71
  let v79 : BitVec 32 := Scalar.select v77 v78 v72
  let c4_i32_42 : BitVec 32 := 4#32
  let v80 : BitVec 32 := Scalar.muli v79 c4_i32_42
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v81 : BitVec 32 := Scalar.addi v80 v29
  let c1_i32_2480 : BitVec 32 := 1#32
  let v2271 : BitVec 32 := Scalar.muli v81 c1_i32_2480
  let v2272 : BitVec 32 := Scalar.addi c0_i32_2481 v2271
  v2272.toNat
abbrev stage1_0 : Fin 1 → Memref sig .tc .vmem S1024x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
-- ==== ReferenceIdeal.lean ====
abbrev S4x256x1024 : Shape := ⟨3, ![4, 256, 1024]⟩
abbrev S1024x16384 : Shape := ⟨2, ![1024, 16384]⟩
abbrev S4x1024x128x128 : Shape := ⟨4, ![4, 1024, 128, 128]⟩
abbrev S16384x1024 : Shape := ⟨2, ![16384, 1024]⟩
abbrev S4x256x16384 : Shape := ⟨3, ![4, 256, 16384]⟩
abbrev S4x256x128x128 : Shape := ⟨4, ![4, 256, 128, 128]⟩
abbrev S4x128x256x1024 : Shape := ⟨4, ![4, 128, 256, 1024]⟩
abbrev S_ : Shape := ⟨0, ![]⟩
abbrev S4x128x256 : Shape := ⟨3, ![4, 128, 256]⟩
abbrev S4x128x256x1 : Shape := ⟨4, ![4, 128, 256, 1]⟩
abbrev S4x128x128x256 : Shape := ⟨4, ![4, 128, 128, 256]⟩
abbrev S4x256x128x1 : Shape := ⟨4, ![4, 256, 128, 1]⟩

abbrev nBuf : Space → Nat
  | .hbm => 27
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1024x16384, .f32⟩
  | .hbm, ⟨2, _⟩ => ⟨S4x1024x128x128, .f32⟩
  | .hbm, ⟨3, _⟩ => ⟨S4x1024x128x128, .f32⟩
  | .hbm, ⟨4, _⟩ => ⟨S16384x1024, .f32⟩
  | .hbm, ⟨5, _⟩ => ⟨S4x256x16384, .f32⟩
  | .hbm, ⟨6, _⟩ => ⟨S4x256x128x128, .f32⟩
  | .hbm, ⟨7, _⟩ => ⟨S4x128x256x1024, .f32⟩
  | .hbm, ⟨8, _⟩ => ⟨S_, .f32⟩
  | .hbm, ⟨9, _⟩ => ⟨S4x128x256x1024, .f32⟩
  | .hbm, ⟨10, _⟩ => ⟨S4x128x256x1024, .f32⟩
  | .hbm, ⟨11, _⟩ => ⟨S_, .f32⟩
  | .hbm, ⟨12, _⟩ => ⟨S4x128x256, .f32⟩
  | .hbm, ⟨13, _⟩ => ⟨S4x128x256x1, .f32⟩
  | .hbm, ⟨14, _⟩ => ⟨S4x128x256x1024, .f32⟩
  | .hbm, ⟨15, _⟩ => ⟨S4x128x256x1024, .f32⟩
  | .hbm, ⟨16, _⟩ => ⟨S4x128x256x1024, .f32⟩
  | .hbm, ⟨17, _⟩ => ⟨S_, .f32⟩
  | .hbm, ⟨18, _⟩ => ⟨S4x128x256, .f32⟩
  | .hbm, ⟨19, _⟩ => ⟨S4x128x256x1, .f32⟩
  | .hbm, ⟨20, _⟩ => ⟨S4x128x128x256, .f32⟩
  | .hbm, ⟨21, _⟩ => ⟨S4x256x128x128, .f32⟩
  | .hbm, ⟨22, _⟩ => ⟨S4x256x128x1, .f32⟩
  | .hbm, ⟨23, _⟩ => ⟨S4x256x128x128, .f32⟩
  | .hbm, ⟨24, _⟩ => ⟨S4x256x128x128, .f32⟩
  | .hbm, ⟨25, _⟩ => ⟨S4x256x16384, .f32⟩
  | .hbm, ⟨26, _⟩ => ⟨S4x256x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Proof.Chan.lean ====
/-
# The all-reduce's channels

Sixteen devices `c = 4 z + q`. The exchange runs twelve stages; in a stage each device starts four transfers,
one per PIPE (0, 1) and DIRECTION (0 plus, 1 minus). A CHANNEL `k < 48` is the index of the transfer's two
semaphores: `k = 24 pipe + 6 phase + 3 direction + t`, its stage `3 phase + t`. Here: which device a channel
addresses, the slot it reads and the slot it fills.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.AllReduce

open Cert.KernelIdeal Cert.KernelIdeal.Gen
open Idealize.ShloMosaic
open Idealize.ShloMosaic.TcCoe

/-! ## The devices -/

/-- The neighbour in direction `d`: 0 and 1 along `q` (right, left), 2 and 3 along `z` (right, left). -/
def nb : Fin 4 → Dev nD → Dev nD
  | 0, c => ⟨4 * (c.val / 4) + (c.val % 4 + 1) % 4, by have h : c.val < 16 := c.isLt; show _ < 16; omega⟩
  | 1, c => ⟨4 * (c.val / 4) + (c.val % 4 + 3) % 4, by have h : c.val < 16 := c.isLt; show _ < 16; omega⟩
  | 2, c => ⟨4 * ((c.val / 4 + 1) % 4) + c.val % 4, by have h : c.val < 16 := c.isLt; show _ < 16; omega⟩
  | 3, c => ⟨4 * ((c.val / 4 + 3) % 4) + c.val % 4, by have h : c.val < 16 := c.isLt; show _ < 16; omega⟩

/-- The direction back. -/
def opp : Fin 4 → Fin 4 := ![1, 0, 3, 2]

theorem nb_opp (d : Fin 4) (c : Dev nD) : nb d (nb (opp d) c) = c := by revert d c; decide
theorem opp_nb (d : Fin 4) (c : Dev nD) : nb (opp d) (nb d c) = c := by revert d c; decide
theorem opp_opp (d : Fin 4) : opp (opp d) = d := by revert d; decide

/-- The permutation of the devices that `nb d` is. -/
def nbE (d : Fin 4) : Dev nD ≃ Dev nD := ⟨nb d, nb (opp d), opp_nb d, nb_opp d⟩

/-! ## The channels -/

abbrev Ch : Type := Fin 48

/-- The pipe. -/
def pipe (k : Ch) : Fin 2 := ⟨k.val / 24, by have := k.isLt; omega⟩
/-- The phase: reduce over the first ring, reduce over the second, gather over the second, gather over the first. -/
def phase (k : Ch) : Fin 4 := ⟨k.val % 24 / 6, by have := k.isLt; omega⟩
/-- The direction around the ring. -/
def dir (k : Ch) : Fin 2 := ⟨k.val % 6 / 3, by have := k.isLt; omega⟩
/-- The step within the phase. -/
def step (k : Ch) : Fin 3 := ⟨k.val % 3, by have := k.isLt; omega⟩
/-- The stage. -/
def stage (k : Ch) : ℕ := 3 * (phase k).val + (step k).val

/-- The direction among the four neighbours: pipe 0 takes the `q` ring first, pipe 1 the `z` ring. -/
def gdOf (p : Fin 2) (g : Fin 4) (b : Fin 2) : Fin 4 :=
  match g, p with
  | 0, 0 | 3, 0 | 1, 1 | 2, 1 => if b = 0 then 0 else 1
  | _, _ => if b = 0 then 2 else 3

def gd (k : Ch) : Fin 4 := gdOf (pipe k) (phase k) (dir k)

/-- The device channel `k` addresses from `c`, and the device whose transfer on channel `k` comes to `c`. -/
def dst (k : Ch) (c : Dev nD) : Dev nD := nb (gd k) c
def org (k : Ch) (c : Dev nD) : Dev nD := nb (opp (gd k)) c

theorem org_dst (k : Ch) (c : Dev nD) : org k (dst k c) = c := opp_nb _ c
theorem dst_org (k : Ch) (c : Dev nD) : dst k (org k c) = c := nb_opp _ c

/-! ## The slots -/

/-- The shape of the block a phase moves. -/
def shG : Fin 4 → Shape
  | 0 => S256x256
  | 1 => S128x128
  | 2 => S128x128
  | 3 => S256x256

abbrev sh (k : Ch) : Shape := shG (phase k)

theorem inbA {n : ℕ} (p : Fin 2) (t : Fin n) :
    ∀ a, (![p.val, t.val, 0, 0] : Fin 4 → ℕ) a + S1x1x256x256.size a ≤ (⟨4, ![2, n, 256, 256]⟩ : Shape).size a := by
  have hp := p.isLt; have ht := t.isLt
  intro a; fin_cases a
  · show p.val + 1 ≤ 2; omega
  · show t.val + 1 ≤ n; omega
  · exact Nat.le_refl _
  · exact Nat.le_refl _

theorem inbB {n : ℕ} (p : Fin 2) (t : Fin n) :
    ∀ a, (![p.val, t.val, 0, 0] : Fin 4 → ℕ) a + S1x1x128x128.size a ≤ (⟨4, ![2, n, 128, 128]⟩ : Shape).size a := by
  have hp := p.isLt; have ht := t.isLt
  intro a; fin_cases a
  · show p.val + 1 ≤ 2; omega
  · show t.val + 1 ≤ n; omega
  · exact Nat.le_refl _
  · exact Nat.le_refl _

theorem inbZ (p b : Fin 2) :
    ∀ a, (![p.val, 256 * b.val, 0] : Fin 3 → ℕ) a + S1x256x256.size a ≤ S2x512x256.size a := by
  have hp := p.isLt; have hb := b.isLt
  intro a; fin_cases a
  · show p.val + 1 ≤ 2; omega
  · show 256 * b.val + 256 ≤ 512; omega
  · exact Nat.le_refl _

/-- Slot (p, t) of a buffer of 256 by 256 blocks. -/
abbrev slotA {n : ℕ} (M : Memref sig .tc .vmem ⟨4, ![2, n, 256, 256]⟩ .f32) (p : Fin 2) (t : Fin n) : Memref sig .tc .vmem S256x256 .f32 :=
  (M.slice (Rect.unit (s := ⟨4, ![2, n, 256, 256]⟩) ![p.val, t.val, 0, 0] S1x1x256x256.size (inbA p t)) (fun _ => rfl)).squeeze S256x256
    squeezes_S1x1x256x256_S256x256
/-- Slot (p, t) of a buffer of 128 by 128 blocks. -/
abbrev slotB {n : ℕ} (M : Memref sig .tc .vmem ⟨4, ![2, n, 128, 128]⟩ .f32) (p : Fin 2) (t : Fin n) : Memref sig .tc .vmem S128x128 .f32 :=
  (M.slice (Rect.unit (s := ⟨4, ![2, n, 128, 128]⟩) ![p.val, t.val, 0, 0] S1x1x128x128.size (inbB p t)) (fun _ => rfl)).squeeze S128x128
    squeezes_S1x1x128x128_S128x128
/-- Half b (256 rows) of pipe p of the reduced chunk's buffer. -/
abbrev slotZ (M : Memref sig .tc .vmem S2x512x256 .f32) (p b : Fin 2) : Memref sig .tc .vmem S256x256 .f32 :=
  (M.slice (Rect.unit (s := S2x512x256) ![p.val, 256 * b.val, 0] S1x256x256.size (inbZ p b)) (fun _ => rfl)).squeeze S256x256
    squeezes_S1x256x256_S256x256

abbrev mX : Memref sig .tc .vmem S1024x1024 .f32 := Memref.whole cc1_stg0_0
abbrev mO : Memref sig .tc .vmem S1024x1024 .f32 := Memref.whole cc1_stg1_0
abbrev mSA : Memref sig .tc .vmem S2x2x256x256 .f32 := Memref.whole cc1_scratch0
abbrev mZ : Memref sig .tc .vmem S2x512x256 .f32 := Memref.whole cc1_scratch3
abbrev mSB : Memref sig .tc .vmem S2x2x128x128 .f32 := Memref.whole cc1_scratch4
/-- The landing buffers of the three groups, by direction. -/
abbrev mA : Fin 2 → Memref sig .tc .vmem S2x3x256x256 .f32
  | 0 => Memref.whole cc1_scratch1
  | 1 => Memref.whole cc1_scratch2
abbrev mB : Fin 2 → Memref sig .tc .vmem S2x6x128x128 .f32
  | 0 => Memref.whole cc1_scratch5
  | 1 => Memref.whole cc1_scratch6
abbrev mC : Fin 2 → Memref sig .tc .vmem S2x3x256x256 .f32
  | 0 => Memref.whole cc1_scratch7
  | 1 => Memref.whole cc1_scratch8

/-- The landing slot at step `t` of each phase. -/
def landG : (g : Fin 4) → Fin 2 → Fin 3 → Fin 2 → Memref sig .tc .vmem (shG g) .f32
  | 0, p, t, b => slotA (n := 3) (mA b) p t
  | 1, p, t, b => slotB (n := 6) (mB b) p ⟨t.val, by omega⟩
  | 2, p, t, b => slotB (n := 6) (mB b) p ⟨3 + t.val, by omega⟩
  | 3, p, t, b => slotA (n := 3) (mC b) p t

/-- The source slot at step `t` of each phase: first the staged block (in the third phase the second's last landing
    slot), then the slot just landed. -/
def srcG : (g : Fin 4) → Fin 2 → Fin 3 → Fin 2 → Memref sig .tc .vmem (shG g) .f32
  | 0, p, 0, b => slotA (n := 2) mSA p b
  | 0, p, 1, b => slotA (n := 3) (mA b) p 0
  | 0, p, 2, b => slotA (n := 3) (mA b) p 1
  | 1, p, 0, b => slotB (n := 2) mSB p b
  | 1, p, 1, b => slotB (n := 6) (mB b) p 0
  | 1, p, 2, b => slotB (n := 6) (mB b) p 1
  | 2, p, 0, b => slotB (n := 6) (mB b) p 2
  | 2, p, 1, b => slotB (n := 6) (mB b) p 3
  | 2, p, 2, b => slotB (n := 6) (mB b) p 4
  | 3, p, 0, b => slotZ mZ p b
  | 3, p, 1, b => slotA (n := 3) (mC b) p 0
  | 3, p, 2, b => slotA (n := 3) (mC b) p 1

abbrev landM (k : Ch) : Memref sig .tc .vmem (sh k) .f32 := landG (phase k) (pipe k) (step k) (dir k)
abbrev srcM (k : Ch) : Memref sig .tc .vmem (sh k) .f32 := srcG (phase k) (pipe k) (step k) (dir k)

/-! ## The semaphores -/

def sendSem (k : Ch) : DmaSem sig := ⟨10 + k.val, by have := k.isLt; show 10 + k.val < 106; omega⟩
def recvSem (k : Ch) : DmaSem sig := ⟨58 + k.val, by have := k.isLt; show 58 + k.val < 106; omega⟩
abbrev barS : Sem sig := (SemArray.scalar (sig.barrier 0 rfl) : Sems sig S_).sem

end Cert.AllReduce

end
-- ==== Proof.Sched.lean ====
/-
# The all-reduce's schedule

One round per semaphore. A channel's send cell and receive cell have one duty each; a device's barrier cell has four
duties, one per neighbour, each of one unit, and the neighbour in direction `d` hands over with it its landing slots of
the channels that run in direction `d`. The block a device sends on a channel is a parameter `vs`.
-/
module

public import proofs.«01_k».proof.Proof.Chan

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy and the ring's -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

abbrev barCell (c : Dev nD) : GSem nD τ sig := ((c : Thread nD τ), .reg barS)
abbrev sendCell (c : Dev nD) (k : Ch) : GSem nD τ sig := ((c : Thread nD τ), .dma (sendSem k))
abbrev recvCell (c : Dev nD) (k : Ch) : GSem nD τ sig := ((c : Thread nD τ), .dma (recvSem k))

/-- The channel of a semaphore, and whether it is the sender's (false) or the receiver's (true). -/
def dec (q : DmaSem sig) : Option (Bool × Ch) :=
  if h : 10 ≤ q.val ∧ q.val < 58 then some (false, ⟨q.val - 10, by omega⟩)
  else if h : 58 ≤ q.val ∧ q.val < 106 then some (true, ⟨q.val - 58, by omega⟩) else none

theorem dec_send (k : Ch) : dec (sendSem k) = some (false, k) := by revert k; decide
theorem dec_recv (k : Ch) : dec (recvSem k) = some (true, k) := by revert k; decide

/-- The credit of channel `k`'s block. -/
def N (k : Ch) : ℕ := (landM k).view.dmaCredit

theorem srcCredit (k : Ch) : (srcM k).view.dmaCredit = N k := by revert k; decide +kernel
theorem N_pos (k : Ch) : 0 < N k := by revert k; decide +kernel

/-! ## What the cells hand over -/

variable (vs : (k : Ch) → Dev nD → (sh k).Idx → Elt F .f32)

/-- A landing slot of `c`, at any contents. -/
def slotPay (c : Dev nD) (k : Ch) : sProp 𝕄 := iprop(∃ X, owns (c : Thread nD τ) (landM k) fullShare X)
/-- The slot, with the word that the channel's receive cell is at round 0. -/
def lent (c : Dev nD) (k : Ch) : sProp 𝕄 := iprop(slotPay c k ∗ reached ER (recvCell c k) 0)
/-- What the neighbour in direction `d` hands over at the barrier: its landing slots of the channels in direction `d`. -/
def barPay (c : Dev nD) (d : Fin 4) : sProp 𝕄 := bigSep (Finset.univ.filter fun k => gd k = d) fun k => lent (nb d c) k
def sendPay (c : Dev nD) (k : Ch) : sProp 𝕄 := owns (c : Thread nD τ) (srcM k) fullShare (vs k c)
def recvPay (c : Dev nD) (k : Ch) : sProp 𝕄 := owns (c : Thread nD τ) (landM k) fullShare (vs k (org k c))

omit [FloatOps F] in
instance slotPay_storable (c : Dev nD) (k : Ch) : BI.Storable (upEmb : UEmb _ 𝕄) (slotPay (F := F) c k) := by unfold slotPay; infer_instance
omit [FloatOps F] in
instance lent_storable (c : Dev nD) (k : Ch) : BI.Storable (upEmb : UEmb _ 𝕄) (lent (F := F) c k) := by unfold lent; infer_instance
omit [FloatOps F] in
instance barPay_storable (c : Dev nD) (d : Fin 4) : BI.Storable (upEmb : UEmb _ 𝕄) (barPay (F := F) c d) := by unfold barPay; infer_instance
omit [FloatOps F] in
instance sendPay_storable (c : Dev nD) (k : Ch) : BI.Storable (upEmb : UEmb _ 𝕄) (sendPay vs c k) := by unfold sendPay; infer_instance
omit [FloatOps F] in
instance recvPay_storable (c : Dev nD) (k : Ch) : BI.Storable (upEmb : UEmb _ 𝕄) (recvPay vs c k) := by unfold recvPay; infer_instance

def dutiesOf : SemLoc sig → Finset (Fin 4)
  | .reg s => if s = barS then Finset.univ else ∅
  | .dma q => if (dec q).isSome then {0} else ∅
def amountOf : SemLoc sig → ℕ
  | .reg _ => 1
  | .dma q => match dec q with | some (_, k) => N k | none => 1
def payOf (c : Dev nD) (d : Fin 4) : SemLoc sig → sProp 𝕄
  | .reg _ => barPay c d
  | .dma q => match dec q with | some (false, k) => sendPay vs c k | some (true, k) => recvPay vs c k | none => iprop(emp)

def Rd : Rounds.Schedule (GSem nD τ sig) (Fin 4) 𝕄 where
  duties g r := if r = 0 ∧ g.1.2 = .tc then dutiesOf g.2 else ∅
  unitless _ := False
  amount g _ _ := amountOf g.2
  payload g _ d := payOf vs g.1.1 d g.2
  amount_pos g _ _ _ := by
    unfold amountOf; split
    · exact Nat.one_pos
    · split
      · exact N_pos _
      · exact Nat.one_pos

instance Rd_payload_storable (g : GSem nD τ sig) (r : ℕ) (d : Fin 4) : BI.Storable (upEmb : UEmb _ 𝕄) ((Rd vs).payload g r d) := by
  show BI.Storable upEmb (payOf vs g.1.1 d g.2)
  unfold payOf; (repeat' split) <;> infer_instance

section Sched
variable (c : Dev nD) (k : Ch) (d : Fin 4)
omit [FloatOps F]

theorem duties_bar : (Rd vs).duties (barCell c) 0 = Finset.univ := by dsimp only [Rd, dutiesOf]; rw [if_pos ⟨rfl, rfl⟩, if_pos rfl]
theorem duties_send : (Rd vs).duties (sendCell c k) 0 = {0} := by
  dsimp only [Rd, dutiesOf]; rw [if_pos ⟨rfl, rfl⟩, dec_send]; rfl
theorem duties_recv : (Rd vs).duties (recvCell c k) 0 = {0} := by
  dsimp only [Rd, dutiesOf]; rw [if_pos ⟨rfl, rfl⟩, dec_recv]; rfl
theorem duties_later (g : GSem nD τ sig) : ∀ r, 1 ≤ r → (Rd vs).duties g r = ∅ :=
  fun r hr => by dsimp only [Rd]; rw [if_neg fun h => by omega]

theorem amount_bar : (Rd vs).amount (barCell c) 0 d = 1 := rfl
theorem amount_send : (Rd vs).amount (sendCell c k) 0 d = N k := by dsimp only [Rd, amountOf]; rw [dec_send]
theorem amount_recv : (Rd vs).amount (recvCell c k) 0 d = N k := by dsimp only [Rd, amountOf]; rw [dec_recv]

theorem expect_bar : (Rd vs).expect (barCell c) 0 = 4 := by
  unfold Schedule.expect Schedule.amountOf
  rw [duties_bar, Finset.sum_congr rfl fun d _ => amount_bar vs c d, Finset.sum_const, Finset.card_univ, Fintype.card_fin, smul_eq_mul]
theorem expect_send : (Rd vs).expect (sendCell c k) 0 = N k := by
  unfold Schedule.expect Schedule.amountOf; rw [duties_send, Finset.sum_singleton, amount_send]
theorem expect_recv : (Rd vs).expect (recvCell c k) 0 = N k := by
  unfold Schedule.expect Schedule.amountOf; rw [duties_recv, Finset.sum_singleton, amount_recv]

theorem payload_bar : (Rd vs).payload (barCell c) 0 d = barPay c d := rfl
theorem payload_send : (Rd vs).payload (sendCell c k) 0 d = sendPay vs c k := by dsimp only [Rd, payOf]; rw [dec_send]
theorem payload_recv : (Rd vs).payload (recvCell c k) 0 d = recvPay vs c k := by dsimp only [Rd, payOf]; rw [dec_recv]

theorem rest_bar : bigSep ((Rd vs).duties (barCell c) 0 \ ∅) (fun d => (Rd vs).payload (barCell c) 0 d)
    = bigSep Finset.univ fun d => barPay (F := F) c d := by
  rw [Finset.sdiff_empty, duties_bar]; rfl
theorem rest_send : bigSep ((Rd vs).duties (sendCell c k) 0 \ ∅) (fun d => (Rd vs).payload (sendCell c k) 0 d) = sendPay vs c k := by
  rw [Finset.sdiff_empty, duties_send, bigSep_singleton, payload_send]
theorem rest_recv : bigSep ((Rd vs).duties (recvCell c k) 0 \ ∅) (fun d => (Rd vs).payload (recvCell c k) 0 d) = recvPay vs c k := by
  rw [Finset.sdiff_empty, duties_recv, bigSep_singleton, payload_recv]

end Sched

/-! ## What each device owes; the levels -/

/-- The channels in program order, four per stage. -/
def chs : List Ch := [0, 3, 24, 27, 1, 4, 25, 28, 2, 5, 26, 29, 6, 9, 30, 33, 7, 10, 31, 34, 8, 11, 32, 35,
  12, 15, 36, 39, 13, 16, 37, 40, 14, 17, 38, 41, 18, 21, 42, 45, 19, 22, 43, 46, 20, 23, 44, 47]

theorem chs_univ : (Finset.univ : Finset Ch) = chs.toFinset := by decide +kernel
theorem chs_nodup : chs.Nodup := by decide +kernel

/-- The credits device `c` owes on the channels of a list, the head on the outside. -/
def oweL (c : Dev nD) : List Ch → CellTallies nD τ sig Unit
  | [] => 0
  | k :: l => oweL c l + tallyAt (recvCell (dst k c) k) () (N k)

/-- Before the barrier a device owes also one unit to each neighbour's barrier cell. -/
def oweB (c : Dev nD) : List (Fin 4) → CellTallies nD τ sig Unit
  | [] => oweL c chs
  | d :: l => oweB c l + tallyAt (barCell (nb d c)) () 1

def O₀ (c : Dev nD) : CellTallies nD τ sig Unit := oweB c [0, 1, 2, 3]

def L (g : GSem nD τ sig) : Finset Unit := if g.1.2 = .tc then {()} else ∅
/-- Barrier cells at 1, the receive cells above by stage, everything else at 0. -/
def lvS : SemLoc sig → ℕ
  | .reg _ => 1
  | .dma q => match dec q with | some (true, k) => 2 + stage k | _ => 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem lvS_recv (k : Ch) : lvS (.dma (recvSem k)) = 2 + stage k := by dsimp only [lvS]; rw [dec_recv]
theorem lvS_send (k : Ch) : lvS (.dma (sendSem k)) = 0 := by dsimp only [lvS]; rw [dec_send]

theorem oweL_pos {c : Dev nD} {l : List Ch} {g : GSem nD τ sig} {u : Unit} (h : 0 < oweL c l g u) : ∃ k ∈ l, g = recvCell (dst k c) k := by
  induction l with
  | nil => exact absurd h (Nat.lt_irrefl 0)
  | cons k l ih =>
    unfold oweL at h
    rw [Pi.add_apply, Finsupp.add_apply, tallyAt_apply] at h
    by_cases hg : g = recvCell (dst k c) k ∧ u = ()
    · exact ⟨k, List.mem_cons_self, hg.1⟩
    · rw [if_neg hg, Nat.add_zero] at h
      obtain ⟨j, hj, e⟩ := ih h
      exact ⟨j, List.mem_cons_of_mem _ hj, e⟩

theorem oweB_pos {c : Dev nD} {l : List (Fin 4)} {g : GSem nD τ sig} {u : Unit} (h : 0 < oweB c l g u) :
    (∃ k, g = recvCell (dst k c) k) ∨ ∃ d, g = barCell (nb d c) := by
  induction l with
  | nil => obtain ⟨k, -, e⟩ := oweL_pos h; exact .inl ⟨k, e⟩
  | cons k l ih =>
    unfold oweB at h
    rw [Pi.add_apply, Finsupp.add_apply, tallyAt_apply] at h
    by_cases hg : g = barCell (nb k c) ∧ u = ()
    · exact .inr ⟨k, hg.1⟩
    · rw [if_neg hg, Nat.add_zero] at h
      exact ih h

omit [FloatOps F] in
/-- A device may wait at a level below every channel it still owes. -/
theorem mayWait_L (c : Dev nD) (sm : SemLoc sig) (n : ℕ) (hs : lvS sm ≤ n) (l : List Ch) (hl : ∀ j ∈ l, n < 2 + stage j) :
    (levAts L lv : sProp 𝕄) ⊢ MayWait (c : Thread nD τ) sm () (oweL c l) :=
  MayOwe.of_cut (L := L) (lev := lv) n (fun p hp => by rw [Finset.mem_singleton.mp hp, L_tc]; exact Finset.mem_singleton_self _)
    (fun g u hg => by obtain ⟨k, -, rfl⟩ := oweL_pos hg; exact Finset.mem_singleton_self _)
    (fun p hp => by rw [Finset.mem_singleton.mp hp]; exact hs)
    (fun g u hg => by obtain ⟨k, hk, rfl⟩ := oweL_pos hg; show n < lvS _; rw [lvS_recv]; exact hl k hk)

omit [FloatOps F] in
theorem mayWait_stage (c : Dev nD) (q : DmaSem sig) (hq : lvS (.dma q) = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases oweB_pos hg with ⟨k, rfl⟩ | ⟨d, rfl⟩ <;> exact Finset.mem_singleton_self _)
      (fun p hp => by rw [Finset.mem_singleton.mp hp]; exact hq.le)
      (fun g u hg => by
        rcases oweB_pos hg with ⟨k, rfl⟩ | ⟨d, rfl⟩
        · show 0 < lvS _; rw [lvS_recv]; omega
        · exact Nat.one_pos)
  · rw [MayWait_zero]; iintro -; iempintro

end Cert.AllReduce

end
-- ==== Proof.Steps.lean ====
/-
# One transfer, one stage

A device starts a channel from its source slot and its own rights, and finishes it with its two waits; a stage is four
of each. Devices, memrefs and semaphores of the program are matched against the channel's.
-/
module

public import proofs.«01_k».proof.Proof.Sched

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (vs : (k : Ch) → Dev nD → (sh k).Idx → Elt F .f32)

/-! ## The records: every cell's invariant, every barrier cell at round 0 -/

/-- A device's cells: its barrier cell, and per channel its send (false) and receive (true) cell. -/
abbrev CI : Type := Option (Bool × Ch)
def csem : CI → SemLoc sig
  | none => .reg barS
  | some (false, k) => .dma (sendSem k)
  | some (true, k) => .dma (recvSem k)
abbrev kcell (p : Dev nD × CI) : GSem nD τ sig := ((p.1 : Thread nD τ), csem p.2)

/-- The level facts, kept folded. -/
@[irreducible] def levs : sProp 𝕄 := levAts L lv
omit [FloatOps F] in
instance levs_persistent : BI.Persistent (levs (F := F)) := by unfold levs; infer_instance

@[irreducible] def records (K : Dev nD × CI → ℕ) : sProp 𝕄 :=
  iprop((bigSep Finset.univ fun p : Dev nD × CI => cellInv ER (Rd vs) (K p) (kcell p)) ∗ (bigSep Finset.univ fun d : Dev nD => reached ER (barCell d) 0)
    ∗ levAts L lv)

instance records_persistent (K : Dev nD × CI → ℕ) : BI.Persistent (records vs K) := by unfold records; infer_instance

variable (K : Dev nD × CI → ℕ)

omit [FloatOps F] in
theorem inv_at (p : Dev nD × CI) : records vs K ⊢ cellInv ER (Rd vs) (K p) (kcell p) := by
  unfold records
  iintro ⟨H, -⟩
  iapply (show (bigSep Finset.univ fun p : Dev nD × CI => (cellInv ER (Rd vs) (K p) (kcell p) : sProp 𝕄)) ⊢ cellInv ER (Rd vs) (K p) (kcell p)
    from bigSep_elim (Finset.mem_univ p)) $$ H
omit [FloatOps F] in
theorem reached_at (d : Dev nD) : records vs K ⊢ reached ER (barCell d) 0 := by
  unfold records
  iintro ⟨-, H, -⟩
  iapply (show (bigSep Finset.univ fun d : Dev nD => (reached ER (barCell d) 0 : sProp 𝕄)) ⊢ reached ER (barCell d) 0
    from bigSep_elim (Finset.mem_univ d)) $$ H
omit [FloatOps F] in
theorem lev_at : records vs K ⊢ levs := by
  unfold records levs
  iintro ⟨-, -, H⟩
  iexact H

/-! ## One channel -/

/-- What device `c` owes, at some set of waits done. -/
def owesR (c : Dev nD) (O : CellTallies nD τ sig Unit) : sProp 𝕄 := iprop(∃ W, owes (c : Thread nD τ) O W)

/-- The rights on channel `k` a device starts with. -/
def rights (c : Dev nD) (k : Ch) : sProp 𝕄 :=
  iprop(atPos ER (sendCell c k) 0 ∅ 0 ∗ atPos ER (recvCell c k) 0 ∅ 0 ∗ dutyTok ER (sendCell c k) 0 0 ∗ dutyTok ER (recvCell (dst k c) k) 0 0
    ∗ cred (tallyAt (recvCell c k) () (N k)) ∗ reached ER (sendCell c k) 0)
/-- With the slot the channel fills. -/
def pre (c : Dev nD) (k : Ch) : sProp 𝕄 := iprop(rights c k ∗ lent (dst k c) k)
/-- While the transfer runs. -/
def mid (c : Dev nD) (k : Ch) : sProp 𝕄 :=
  iprop(atPos ER (sendCell c k) 0 ∅ 0 ∗ atPos ER (recvCell c k) 0 ∅ 0 ∗ cred (tallyAt (sendCell c k) () (N k)) ∗ cred (tallyAt (recvCell c k) () (N k)))
/-- The channel's two cells closed. -/
def closed (c : Dev nD) (k : Ch) : sProp 𝕄 := iprop(semVal (sendCell c k) 0 ∗ semVal (recvCell c k) 0)

/-! A transfer at any memrefs and semaphores: what is asked of the schedule is a hypothesis. -/

omit [FloatOps F] in
theorem Entails.trans' {P Q R : sProp 𝕄} (h₁ : P ⊢ Q) (h₂ : Q ⊢ R) : P ⊢ R := h₁.trans h₂

section Generic

variable (c n : Dev nD) {s : Shape} (src land : Memref sig .tc .vmem s .f32) (sS rS : DmaSem sig) (X Y : s.Idx → Elt F .f32) (κs κr Nk : ℕ)

theorem wp_start_gen (hN : land.view.dmaCredit = Nk)
    (hd₁ : (0 : Fin 4) ∈ (Rd vs).duties ((c : Thread nD τ), .dma sS) 0) (hd₂ : (0 : Fin 4) ∈ (Rd vs).duties ((n : Thread nD τ), .dma rS) 0)
    (ha₁ : (Rd vs).amount ((c : Thread nD τ), .dma sS) 0 0 = Nk) (ha₂ : (Rd vs).amount ((n : Thread nD τ), .dma rS) 0 0 = Nk)
    (P D : sProp 𝕄) (hP : P = owns (c : Thread nD τ) src fullShare X) (hD : D = iprop(∃ X', owns (n : Thread nD τ) land fullShare X'))
    (hp₁ : (Rd vs).payload ((c : Thread nD τ), .dma sS) 0 0 = P)
    (hp₂ : (Rd vs).payload ((n : Thread nD τ), .dma rS) 0 0 = owns (n : Thread nD τ) land fullShare X)
    (O₀ O : CellTallies nD τ sig Unit) (hO : O₀ = O + tallyAt ((n : Thread nD τ), .dma rS) () Nk)
    {hsc : (land : Memref sig (Dev.tc n : Thread nD τ).2.kind .vmem s .f32).view.ref.isScScratch = false}
    {hsrc : src.view.WordExact} {hdst : land.view.WordExact}
    {hsem : DmaTarget.Typed .vmem (.dma rS) (.remote (Dev.tc n : Thread nD τ) land (.dma sS) hsc)}
    {α : Type} {Q : α → sProp 𝕄} {kt : PUnit → Prog (TpuEff nD τ sig (Elt F) Λ₀ .tc) α} :
    iprop(cellInv ER (Rd vs) κs ((c : Thread nD τ), .dma sS) ∗ cellInv ER (Rd vs) κr ((n : Thread nD τ), .dma rS)
        ∗ P ∗ D ∗ owesR c O₀
        ∗ dutyTok ER ((c : Thread nD τ), .dma sS) 0 0 ∗ reached ER ((c : Thread nD τ), .dma sS) 0
        ∗ dutyTok ER ((n : Thread nD τ), .dma rS) 0 0 ∗ reached ER ((n : Thread nD τ), .dma rS) 0
        ∗ ((cred (tallyAt ((c : Thread nD τ), .dma sS) () Nk) ∗ owesR c O)
            -∗ wp frame (wpE (defs₀ (F := F)) 𝒱₀ (c : Thread nD τ) none) Set.univ (kt ⟨⟩) Q))
      ⊢ wp frame (wpE (defs₀ (F := F)) 𝒱₀ (c : Thread nD τ) none) Set.univ
          (.op (.enqueueDma src (.remote (Dev.tc n : Thread nD τ) land (.dma sS) hsc) (.dma rS) hsrc hdst hsem) kt) Q := by
  subst hP hD
  unfold owesR owns
  iintro ⟨#HI₁, #HI₂, ⟨%fs, %hfs, Hs⟩, ⟨%X', %fd, %hfd, Hd⟩, ⟨%W, HO⟩, HtS, #Hr₁, HtV, #Hr₂, Hk⟩
  iapply (Rounds.wp_send_pointsTo 𝒱₀ ER (Rd vs) (c : Thread nD τ) none (κ₁ := κs) (κ₂ := κr)
    (r₁ := 0) (r₂ := 0) (d₁ := 0) (d₂ := 0) (fs := fs) (fd := fd) hd₁ hd₂ () () Nk hN ha₁ ha₂ O hO (W := W)
    (by
      rw [hp₁]; unfold owns
      iintro H; iexists fs; isplitr; · (ipureintro; exact hfs)
      iexact H)
    (by
      rw [hp₂]; unfold owns
      iintro H; iexists (land.view.write (Elt F) fd (src.view.read (Elt F) fs) Finset.univ); isplitr
      · ipureintro; exact (View.read_write_univ _ _).trans hfs
      iexact H)) $$ [Hs Hd HO HtS HtV]
  · isplitr; · iexact HI₁
    isplitr; · iexact HI₂
    isplitl [Hs]; · iexact Hs
    isplitl [Hd]; · iexact Hd
    isplitl [HO]; · iexact HO
    isplitl [HtS]; · iexact HtS
    isplitr; · iexact Hr₁
    isplitl [HtV]; · iexact HtV
    iexact Hr₂
  iintro ⟨HcS, HO⟩
  iapply Hk
  isplitl [HcS]; · iexact HcS
  iexists W; iexact HO

/-- One wait, its cell closed after it. -/
theorem wp_wait_gen (P : sProp 𝕄) (hd : (Rd vs).expect ((c : Thread nD τ), .dma sS) 0 = Nk)
    (hp : bigSep ((Rd vs).duties ((c : Thread nD τ), .dma sS) 0 \ ∅) (fun d => (Rd vs).payload ((c : Thread nD τ), .dma sS) 0 d)
      = P)
    (O : CellTallies nD τ sig Unit) (hO : (levs : sProp 𝕄) ⊢ MayWait (c : Thread nD τ) (.dma sS) () O)
    {sp₁ sp₂ : Space} {s₁ s₂ : Shape} {e₁ e₂ : EltTy} {κ₁ : Kind}
    {a₁ : Memref sig .tc sp₁ s₁ e₁} {b₁ : Memref sig κ₁ sp₂ s₂ e₂} {ha₁ : a₁.view.WordExact} {hb₁ : b₁.view.WordExact}
    (h₁ : b₁.view.dmaCredit = Nk)
    {α : Type} {Q : α → sProp 𝕄} {kt : PUnit → Prog (TpuEff nD τ sig (Elt F) Λ₀ .tc) α} :
    iprop(cellInv ER (Rd vs) κs ((c : Thread nD τ), .dma sS) ∗ levs ∗ atPos ER ((c : Thread nD τ), .dma sS) 0 ∅ 0
        ∗ cred (tallyAt ((c : Thread nD τ), .dma sS) () Nk) ∗ owesR c O
        ∗ ((P ∗ semVal ((c : Thread nD τ), .dma sS) 0 ∗ owesR c O)
            -∗ wp frame (wpE (defs₀ (F := F)) 𝒱₀ (c : Thread nD τ) none) Set.univ (kt ⟨⟩) Q))
      ⊢ wp frame (wpE (defs₀ (F := F)) 𝒱₀ (c : Thread nD τ) none) Set.univ (.op (.waitDma2 sS a₁ b₁ ha₁ hb₁) kt) Q := by
  subst h₁
  unfold owesR
  iintro ⟨#HI, #Hlev, Hat, Hc, ⟨%W, HO⟩, Hk⟩
  iapply (Rounds.wp_wait_rest_token 𝒱₀ ER (Rd vs) (c : Thread nD τ) none (κ := κs)
      (wpE_waitDma2_eq 𝒱₀ (c : Thread nD τ) none Set.univ) (Set.mem_univ _) () (O := O) (W := W) (R := 0) (m := 0) (T := ∅)
      (by rw [Nat.zero_add, hd])) $$ [Hc HO Hat]
  · isplitr; · iexact HI
    isplitl [Hc]; · iexact Hc
    isplitl [HO]; · iexact HO
    isplitr; · iapply hO; iexact Hlev
    iexact Hat
  iintro ⟨HO, Hat, -, Hpay⟩
  ihave Hs := (Entails.of_eq hp) $$ Hpay
  imod (Rounds.cell_close ER (Rd vs) (Set.mem_univ κs) (fun h => h) (R := 0 + 1) (duties_later vs ((c : Thread nD τ), .dma sS))) $$ [Hat] with Hz
  · isplitr; · iexact HI
    iexact Hat
  iapply Hk
  isplitl [Hs]; · iexact Hs
  isplitl [Hz]; · iexact Hz
  iexists _; iexact HO

end Generic

omit [FloatOps F] in
theorem mayWait_send (c : Dev nD) (k : Ch) (l : List Ch) : (levs : sProp 𝕄) ⊢ MayWait (c : Thread nD τ) (.dma (sendSem k)) () (oweL c l) := by
  unfold levs; exact mayWait_L c _ 0 (Nat.le_of_eq (lvS_send k)) l fun j _ => Nat.lt_of_lt_of_le Nat.two_pos (Nat.le_add_right 2 (stage j))

omit [FloatOps F] in
theorem mayWait_recv (c : Dev nD) (k : Ch) (l : List Ch) (hl : ∀ j ∈ l, stage k < stage j) :
    (levs : sProp 𝕄) ⊢ MayWait (c : Thread nD τ) (.dma (recvSem k)) () (oweL c l) := by
  unfold levs; exact mayWait_L c _ (2 + stage k) (Nat.le_of_eq (lvS_recv k)) l fun j hj => Nat.add_lt_add_left (hl j hj) 2

theorem wp_start (c : Dev nD) (k : Ch) (l : List Ch) (n : Dev nD) (hn : n = dst k c)
    {hsc : (landM k : Memref sig (Dev.tc n : Thread nD τ).2.kind .vmem (sh k) .f32).view.ref.isScScratch = false}
    {hsrc : (srcM k).view.WordExact} {hdst : (landM k).view.WordExact}
    {hsem : DmaTarget.Typed .vmem (.dma (recvSem k)) (.remote (Dev.tc n : Thread nD τ) (landM k) (.dma (sendSem k)) hsc)}
    {α : Type} {Q : α → sProp 𝕄} {kt : PUnit → Prog (TpuEff nD τ sig (Elt F) Λ₀ .tc) α} :
    iprop(records vs K ∗ sendPay vs c k ∗ pre c k ∗ owesR c (oweL c (k :: l))
        ∗ ((mid c k ∗ owesR c (oweL c l)) -∗ wp frame (wpE (defs₀ (F := F)) 𝒱₀ (c : Thread nD τ) none) Set.univ (kt ⟨⟩) Q))
      ⊢ wp frame (wpE (defs₀ (F := F)) 𝒱₀ (c : Thread nD τ) none) Set.univ
          (.op (.enqueueDma (srcM k) (.remote (Dev.tc n : Thread nD τ) (landM k) (.dma (sendSem k)) hsc) (.dma (recvSem k)) hsrc hdst hsem) kt) Q := by
  subst hn
  refine Entails.trans' ?_ (wp_start_gen vs c (dst k c) (srcM k) (landM k) (sendSem k) (recvSem k) (vs k c) (K (c, some (false, k)))
    (K (dst k c, some (true, k))) (N k) rfl
    (by rw [duties_send]; exact Finset.mem_singleton_self _) (by rw [duties_recv]; exact Finset.mem_singleton_self _)
    (amount_send vs c k 0) (amount_recv vs (dst k c) k 0) (sendPay vs c k) (slotPay (dst k c) k) rfl rfl (payload_send vs c k 0)
    (by rw [payload_recv]; unfold recvPay; rw [org_dst]) (oweL c (k :: l)) (oweL c l) rfl)
  unfold pre rights lent
  iintro ⟨#HR, Hs, ⟨⟨HaS, HaV, HtS, HtV, HcV, #HrS⟩, Hd, #HrV⟩, HO, Hk⟩
  isplitr; · iapply (inv_at vs K (c, some (false, k))); iexact HR
  isplitr; · iapply (inv_at vs K (dst k c, some (true, k))); iexact HR
  isplitl [Hs]; · iexact Hs
  isplitl [Hd]; · iexact Hd
  isplitl [HO]; · iexact HO
  isplitl [HtS]; · iexact HtS
  isplitr; · iexact HrS
  isplitl [HtV]; · iexact HtV
  isplitr; · iexact HrV
  iintro ⟨HcS, HO⟩
  iapply Hk
  isplitr [HO]
  · unfold mid
    isplitl [HaS]; · iexact HaS
    isplitl [HaV]; · iexact HaV
    isplitl [HcS]; · iexact HcS
    iexact HcV
  · iexact HO

theorem wp_fin (c : Dev nD) (k : Ch) (l : List Ch) (hl : ∀ j ∈ l, stage k < stage j)
    {sp₁ sp₂ sp₃ sp₄ : Space} {s₁ s₂ s₃ s₄ : Shape} {e₁ e₂ e₃ e₄ : EltTy} {κ₁ κ₂ : Kind}
    {a₁ : Memref sig .tc sp₁ s₁ e₁} {b₁ : Memref sig κ₁ sp₂ s₂ e₂} {ha₁ : a₁.view.WordExact} {hb₁ : b₁.view.WordExact}
    {a₂ : Memref sig .tc sp₃ s₃ e₃} {b₂ : Memref sig κ₂ sp₄ s₄ e₄} {ha₂ : a₂.view.WordExact} {hb₂ : b₂.view.WordExact}
    (h₁ : b₁.view.dmaCredit = N k) (h₂ : b₂.view.dmaCredit = N k)
    {α : Type} {Q : α → sProp 𝕄} {kt : PUnit → Prog (TpuEff nD τ sig (Elt F) Λ₀ .tc) α} :
    iprop(records vs K ∗ mid c k ∗ owesR c (oweL c l)
        ∗ ((sendPay vs c k ∗ recvPay vs c k ∗ closed c k ∗ owesR c (oweL c l))
            -∗ wp frame (wpE (defs₀ (F := F)) 𝒱₀ (c : Thread nD τ) none) Set.univ (kt ⟨⟩) Q))
      ⊢ wp frame (wpE (defs₀ (F := F)) 𝒱₀ (c : Thread nD τ) none) Set.univ
          (.op (.waitDma2 (sendSem k) a₁ b₁ ha₁ hb₁) fun _ => .op (.waitDma2 (recvSem k) a₂ b₂ ha₂ hb₂) kt) Q := by
  refine Entails.trans' ?_ (wp_wait_gen vs c (sendSem k) (K (c, some (false, k))) (N k) (sendPay vs c k) (expect_send vs c k) (rest_send vs c k)
    (oweL c l) (mayWait_send c k l) h₁)
  unfold mid
  iintro ⟨#HR, ⟨HaS, HaV, HcS, HcV⟩, HO, Hk⟩
  isplitr; · iapply (inv_at vs K (c, some (false, k))); iexact HR
  isplitr; · iapply (lev_at vs K); iexact HR
  isplitl [HaS]; · iexact HaS
  isplitl [HcS]; · iexact HcS
  isplitl [HO]; · iexact HO
  iintro ⟨Hs, HzS, HO⟩
  iapply (wp_wait_gen vs c (recvSem k) (K (c, some (true, k))) (N k) (recvPay vs c k) (expect_recv vs c k) (rest_recv vs c k)
    (oweL c l) (mayWait_recv c k l hl) h₂)
  isplitr; · iapply (inv_at vs K (c, some (true, k))); iexact HR
  isplitr; · iapply (lev_at vs K); iexact HR
  isplitl [HaV]; · iexact HaV
  isplitl [HcV]; · iexact HcV
  isplitl [HO]; · iexact HO
  iintro ⟨Hv, HzV, HO⟩
  iapply Hk
  isplitl [Hs]; · iexact Hs
  isplitl [Hv]; · iexact Hv
  isplitl [HzS HzV]
  · unfold closed; isplitl [HzS] <;> iassumption
  iexact HO

/-! ## One stage: four transfers started, then each finished -/

theorem we_srcG (g : Fin 4) (p : Fin 2) (t : Fin 3) (b : Fin 2) : (srcG g p t b).view.WordExact := by
  fin_cases g <;> fin_cases t <;> exact (View.wordExact_bits rfl).reshape _ _
theorem we_landG (g : Fin 4) (p : Fin 2) (t : Fin 3) (b : Fin 2) : (landG g p t b).view.WordExact := by
  fin_cases g <;> exact (View.wordExact_bits rfl).reshape _ _
theorem sc_landG (g : Fin 4) (p : Fin 2) (t : Fin 3) (b : Fin 2) : (landG g p t b).view.ref.isScScratch = false := by
  fin_cases g <;> fin_cases b <;> rfl

/-- The program that starts channel `k`, addressed to `n`. -/
def startP (k : Ch) (n : Dev nD) {α : Type} (kt : PUnit → Prog (TpuEff nD τ sig (Elt F) Λ₀ .tc) α) : Prog (TpuEff nD τ sig (Elt F) Λ₀ .tc) α :=
  .op (.enqueueDma (srcM k) (.remote (Dev.tc n : Thread nD τ) (landM k) (.dma (sendSem k)) (sc_landG _ _ _ _)) (.dma (recvSem k)) (we_srcG _ _ _ _)
    (we_landG _ _ _ _) ⟨⟨rfl, Or.inl rfl⟩, trivial⟩) kt

/-- The program that waits for channel `k`'s two semaphores. -/
def finP (k : Ch) {α : Type} (kt : PUnit → Prog (TpuEff nD τ sig (Elt F) Λ₀ .tc) α) : Prog (TpuEff nD τ sig (Elt F) Λ₀ .tc) α :=
  .op (.waitDma2 (sendSem k) (landM k) (srcM k) (we_landG _ _ _ _) (we_srcG _ _ _ _)) fun _ =>
    .op (.waitDma2 (recvSem k) (srcM k) (landM k) (we_srcG _ _ _ _) (we_landG _ _ _ _)) kt

/-- A stage's exchange. -/
def exchP (k₀ k₁ k₂ k₃ : Ch) (n₀ n₁ n₂ n₃ : Dev nD) {α : Type} (kt : PUnit → Prog (TpuEff nD τ sig (Elt F) Λ₀ .tc) α) :
    Prog (TpuEff nD τ sig (Elt F) Λ₀ .tc) α :=
  startP k₀ n₀ fun _ => startP k₁ n₁ fun _ => startP k₂ n₂ fun _ => startP k₃ n₃ fun _ =>
    finP k₀ fun _ => finP k₁ fun _ => finP k₂ fun _ => finP k₃ kt

/-- Four of something, one per channel of a stage. -/
def four (Φ : Ch → sProp 𝕄) (k₀ k₁ k₂ k₃ : Ch) : sProp 𝕄 := iprop(Φ k₀ ∗ Φ k₁ ∗ Φ k₂ ∗ Φ k₃)

theorem wp_exch (c : Dev nD) (k₀ k₁ k₂ k₃ : Ch) (l : List Ch) (n₀ n₁ n₂ n₃ : Dev nD) (hn₀ : n₀ = dst k₀ c) (hn₁ : n₁ = dst k₁ c)
    (hn₂ : n₂ = dst k₂ c) (hn₃ : n₃ = dst k₃ c) (hl : ∀ j ∈ l, stage k₀ < stage j ∧ stage k₁ < stage j ∧ stage k₂ < stage j ∧ stage k₃ < stage j)
    {α : Type} {Q : α → sProp 𝕄} {kt : PUnit → Prog (TpuEff nD τ sig (Elt F) Λ₀ .tc) α} :
    iprop(records vs K ∗ four (sendPay vs c) k₀ k₁ k₂ k₃ ∗ four (pre c) k₀ k₁ k₂ k₃ ∗ owesR c (oweL c (k₀ :: k₁ :: k₂ :: k₃ :: l))
        ∗ ((four (sendPay vs c) k₀ k₁ k₂ k₃ ∗ four (recvPay vs c) k₀ k₁ k₂ k₃ ∗ four (closed c) k₀ k₁ k₂ k₃ ∗ owesR c (oweL c l))
            -∗ wp frame (wpE (defs₀ (F := F)) 𝒱₀ (c : Thread nD τ) none) Set.univ (kt ⟨⟩) Q))
      ⊢ wp frame (wpE (defs₀ (F := F)) 𝒱₀ (c : Thread nD τ) none) Set.univ (exchP k₀ k₁ k₂ k₃ n₀ n₁ n₂ n₃ kt) Q := by
  unfold four exchP startP finP
  iintro ⟨#HR, ⟨HS₀, HS₁, HS₂, HS₃⟩, ⟨HP₀, HP₁, HP₂, HP₃⟩, HO, Hk⟩
  iapply (wp_start vs K c k₀ _ n₀ hn₀)
  isplitr; · iexact HR
  isplitl [HS₀]; · iexact HS₀
  isplitl [HP₀]; · iexact HP₀
  isplitl [HO]; · iexact HO
  iintro ⟨HM₀, HO⟩
  iapply (wp_start vs K c k₁ _ n₁ hn₁)
  isplitr; · iexact HR
  isplitl [HS₁]; · iexact HS₁
  isplitl [HP₁]; · iexact HP₁
  isplitl [HO]; · iexact HO
  iintro ⟨HM₁, HO⟩
  iapply (wp_start vs K c k₂ _ n₂ hn₂)
  isplitr; · iexact HR
  isplitl [HS₂]; · iexact HS₂
  isplitl [HP₂]; · iexact HP₂
  isplitl [HO]; · iexact HO
  iintro ⟨HM₂, HO⟩
  iapply (wp_start vs K c k₃ _ n₃ hn₃)
  isplitr; · iexact HR
  isplitl [HS₃]; · iexact HS₃
  isplitl [HP₃]; · iexact HP₃
  isplitl [HO]; · iexact HO
  iintro ⟨HM₃, HO⟩
  iapply (wp_fin vs K c k₀ l (fun j hj => (hl j hj).1) (srcCredit k₀) rfl)
  isplitr; · iexact HR
  isplitl [HM₀]; · iexact HM₀
  isplitl [HO]; · iexact HO
  iintro ⟨HS₀, HV₀, HC₀, HO⟩
  iapply (wp_fin vs K c k₁ l (fun j hj => (hl j hj).2.1) (srcCredit k₁) rfl)
  isplitr; · iexact HR
  isplitl [HM₁]; · iexact HM₁
  isplitl [HO]; · iexact HO
  iintro ⟨HS₁, HV₁, HC₁, HO⟩
  iapply (wp_fin vs K c k₂ l (fun j hj => (hl j hj).2.2.1) (srcCredit k₂) rfl)
  isplitr; · iexact HR
  isplitl [HM₂]; · iexact HM₂
  isplitl [HO]; · iexact HO
  iintro ⟨HS₂, HV₂, HC₂, HO⟩
  iapply (wp_fin vs K c k₃ l (fun j hj => (hl j hj).2.2.2) (srcCredit k₃) rfl)
  isplitr; · iexact HR
  isplitl [HM₃]; · iexact HM₃
  isplitl [HO]; · iexact HO
  iintro ⟨HS₃, HV₃, HC₃, HO⟩
  iapply Hk
  isplitl [HS₀ HS₁ HS₂ HS₃]
  · isplitl [HS₀]; · iexact HS₀
    isplitl [HS₁]; · iexact HS₁
    isplitl [HS₂] <;> iassumption
  isplitl [HV₀ HV₁ HV₂ HV₃]
  · isplitl [HV₀]; · iexact HV₀
    isplitl [HV₁]; · iexact HV₁
    isplitl [HV₂] <;> iassumption
  isplitl [HC₀ HC₁ HC₂ HC₃]
  · isplitl [HC₀]; · iexact HC₀
    isplitl [HC₁]; · iexact HC₁
    isplitl [HC₂] <;> iassumption
  iexact HO

end Cert.AllReduce

end
-- ==== Proof.Slots.lean ====
/-
# Places: what a load reads, what a store leaves

A PLACE is a resource with a buffer's rectangle in it. `Reads R M r P`: from `R` the rectangle may be loaded, the value
satisfies `P`. `Writes R M r w R'`: from `R` the value `w` may be stored into it, which leaves `R'`. Places are: a slot
(a block of a buffer, held alone), the input block (held whole, read only), and a buffer filled piece by piece.
-/
module

public import proofs.«01_k».proof.Proof.Steps

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Places

variable (c : Dev nD) {S : Shape}

structure Reads (R : sProp 𝕄) (M : Memref sig .tc .vmem S .f32) (r : Rect S) (P : (r.shape.Idx → Elt F .f32) → Prop) : Prop where
  run : ∀ {α : Type} (Q : α → sProp 𝕄) (hl : M.view.LoadsAt r.toLoadRect) (k : (r.shape.Idx → Elt F .f32) → Prog (TpuEff nD τ sig (Elt F) Λ₀ .tc) α),
    iprop(R ∗ (∀ v, ⌜P v⌝ -∗ R -∗ wp frame (wpE (defs₀ (F := F)) 𝒱₀ (c : Thread nD τ) none) Set.univ (k v) Q))
      ⊢ wp frame (wpE (defs₀ (F := F)) 𝒱₀ (c : Thread nD τ) none) Set.univ (.op (.load M r.toLoadRect hl) k) Q

structure Writes (R : sProp 𝕄) (M : Memref sig .tc .vmem S .f32) (r : Rect S) (w : r.shape.Idx → Elt F .f32) (R' : sProp 𝕄) : Prop where
  run : ∀ {α : Type} (Q : α → sProp 𝕄) (hx : (M.access r).Stores Finset.univ) (hm : (Finset.univ : Finset r.shape.Idx) = Finset.univ ∨ ∀ a, r.stride a = 1)
    (k : PUnit → Prog (TpuEff nD τ sig (Elt F) Λ₀ .tc) α),
    iprop(R ∗ (R' -∗ wp frame (wpE (defs₀ (F := F)) 𝒱₀ (c : Thread nD τ) none) Set.univ (k ⟨⟩) Q))
      ⊢ wp frame (wpE (defs₀ (F := F)) 𝒱₀ (c : Thread nD τ) none) Set.univ (.op (.store M r w Finset.univ hx hm) k) Q

/-- Load a block from one place, store what is made of it into another (read first, the value unused). -/
theorem wp_copy {S₁ S₂ : Shape} {R D D' : sProp 𝕄} {M₁ : Memref sig .tc .vmem S₁ .f32} {r₁ : Rect S₁} {M₂ : Memref sig .tc .vmem S₂ .f32} {r₂ : Rect S₂}
    {P : (r₁.shape.Idx → Elt F .f32) → Prop} {P₂ : (r₂.shape.Idx → Elt F .f32) → Prop} (hr : Reads c R M₁ r₁ P) (hd : Reads c D M₂ r₂ P₂)
    {pay : (r₁.shape.Idx → Elt F .f32) → (r₂.shape.Idx → Elt F .f32) → (r₂.shape.Idx → Elt F .f32)}
    (hw : ∀ v u, P v → Writes c D M₂ r₂ (pay v u) D')
    {α : Type} {Q : α → sProp 𝕄} {hl : M₁.view.LoadsAt r₁.toLoadRect} {hl₂ : M₂.view.LoadsAt r₂.toLoadRect} {hx : (M₂.access r₂).Stores Finset.univ}
    {hm : (Finset.univ : Finset r₂.shape.Idx) = Finset.univ ∨ ∀ a, r₂.stride a = 1} {k : PUnit → Prog (TpuEff nD τ sig (Elt F) Λ₀ .tc) α} :
    iprop(R ∗ D ∗ ((R ∗ D') -∗ wp frame (wpE (defs₀ (F := F)) 𝒱₀ (c : Thread nD τ) none) Set.univ (k ⟨⟩) Q))
      ⊢ wp frame (wpE (defs₀ (F := F)) 𝒱₀ (c : Thread nD τ) none) Set.univ
          (.op (.load M₁ r₁.toLoadRect hl) fun v => .op (.load M₂ r₂.toLoadRect hl₂) fun u => .op (.store M₂ r₂ (pay v u) Finset.univ hx hm) k) Q := by
  iintro ⟨HR, HD, Hk⟩
  iapply (hr.run Q hl _)
  isplitl [HR]; · iexact HR
  iintro %v %hv HR
  iapply (hd.run Q hl₂ _)
  isplitl [HD]; · iexact HD
  iintro %u - HD
  iapply ((hw v u hv).run Q hx hm k)
  isplitl [HD]; · iexact HD
  iintro HD
  iapply Hk
  isplitl [HR]; · iexact HR
  iexact HD

/-- Load a block from a place and one from another, store what is made of them into the first (read first). -/
theorem wp_add {S₁ S₂ : Shape} {R D D' : sProp 𝕄} {M₁ : Memref sig .tc .vmem S₁ .f32} {r₁ : Rect S₁} {M₂ : Memref sig .tc .vmem S₂ .f32} {r₂ : Rect S₂}
    {P : (r₁.shape.Idx → Elt F .f32) → Prop} {P₂ : (r₂.shape.Idx → Elt F .f32) → Prop} (hr : Reads c R M₁ r₁ P) (hd : Reads c D M₂ r₂ P₂)
    {pay : (r₂.shape.Idx → Elt F .f32) → (r₁.shape.Idx → Elt F .f32) → (r₂.shape.Idx → Elt F .f32) → (r₂.shape.Idx → Elt F .f32)}
    (hw : ∀ w v u, P₂ w → P v → Writes c D M₂ r₂ (pay w v u) D')
    {α : Type} {Q : α → sProp 𝕄} {hl : M₁.view.LoadsAt r₁.toLoadRect} {hl₂ hl₃ : M₂.view.LoadsAt r₂.toLoadRect} {hx : (M₂.access r₂).Stores Finset.univ}
    {hm : (Finset.univ : Finset r₂.shape.Idx) = Finset.univ ∨ ∀ a, r₂.stride a = 1} {k : PUnit → Prog (TpuEff nD τ sig (Elt F) Λ₀ .tc) α} :
    iprop(R ∗ D ∗ ((R ∗ D') -∗ wp frame (wpE (defs₀ (F := F)) 𝒱₀ (c : Thread nD τ) none) Set.univ (k ⟨⟩) Q))
      ⊢ wp frame (wpE (defs₀ (F := F)) 𝒱₀ (c : Thread nD τ) none) Set.univ
          (.op (.load M₂ r₂.toLoadRect hl₃) fun w => .op (.load M₁ r₁.toLoadRect hl) fun v => .op (.load M₂ r₂.toLoadRect hl₂) fun u =>
            .op (.store M₂ r₂ (pay w v u) Finset.univ hx hm) k) Q := by
  iintro ⟨HR, HD, Hk⟩
  iapply (hd.run Q hl₃ _)
  isplitl [HD]; · iexact HD
  iintro %w %hw' HD
  iapply (wp_copy c hr hd (pay := fun v u => pay w v u) (fun v u hv => hw w v u hw' hv))
  isplitl [HR]; · iexact HR
  isplitl [HD]; · iexact HD
  iexact Hk

/-! ## A slot -/

section Slot

variable {t : Shape} (M : Memref sig .tc .vmem S .f32) (r : Rect S) (h : ∀ a, r.stride a = 1) (hs : r.shape.Squeezes t)

omit [FloatOps F] in
theorem slot_set : ((M.slice r h).squeeze t hs).view.set = (M.access r).set := View.set_reshape _ _

theorem reads_slot (X : t.Idx → Elt F .f32) :
    Reads c (owns (c : Thread nD τ) ((M.slice r h).squeeze t hs) fullShare X) M r fun v => ∀ hc : r.shape.ShapeCasts t, shapeCast t v hc = X := by
  constructor; intro α Q hl k
  unfold owns
  iintro ⟨⟨%f, %hf, H⟩, Hk⟩
  iapply (wp_load_rect 𝒱₀ (c : Thread nD τ) none Set.univ (m := M) (r := r) (by rw [slot_set])) $$ H
  iintro H
  iapply Hk $$ %((M.access r).read (Elt F) f) [] [H]
  · ipureintro; intro hc; exact hf
  · iexists f; isplitr; · (ipureintro; exact hf)
    iexact H

theorem writes_slot (X Y : t.Idx → Elt F .f32) (w : r.shape.Idx → Elt F .f32) (hc : r.shape.ShapeCasts t) (hw : shapeCast t w hc = Y) :
    Writes c (owns (c : Thread nD τ) ((M.slice r h).squeeze t hs) fullShare X) M r w (owns (c : Thread nD τ) ((M.slice r h).squeeze t hs) fullShare Y) := by
  constructor; intro α Q hx hm k
  unfold owns
  iintro ⟨⟨%f, %hf, H⟩, Hk⟩
  iapply (wp_store 𝒱₀ (c : Thread nD τ) none Set.univ (m := M) (r := r) (Mk := Finset.univ) (by rw [slot_set]; exact View.setOn_subset_set _ _)) $$ H
  iintro H
  iapply Hk
  iexists ((M.access r).write (Elt F) f w Finset.univ)
  isplitr
  · ipureintro
    rw [← hw]
    show (fun j => ((M.access r).read (Elt F) ((M.access r).write (Elt F) f w Finset.univ)) (Shape.reshapeEquiv _ j)) = _
    rw [View.read_write_univ]; rfl
  · iexact H

end Slot

/-! ## Any contents, and a buffer filled piece by piece -/

theorem reads_any {I : Type} {R : I → sProp 𝕄} {M : Memref sig .tc .vmem S .f32} {r : Rect S} {P : (r.shape.Idx → Elt F .f32) → Prop}
    (h : ∀ i, Reads c (R i) M r P) : Reads c iprop(∃ i, R i) M r P := by
  constructor; intro α Q hl k
  iintro ⟨⟨%i, H⟩, Hk⟩
  iapply ((h i).run Q hl k)
  isplitl [H]; · iexact H
  iintro %v %hv H
  iapply Hk $$ %v [] [H]
  · ipureintro; exact hv
  · iexists i; iexact H

theorem reads_weaken {R : sProp 𝕄} {M : Memref sig .tc .vmem S .f32} {r : Rect S} {P P' : (r.shape.Idx → Elt F .f32) → Prop}
    (h : Reads c R M r P) (hp : ∀ v, P v → P' v) : Reads c R M r P' := by
  constructor; intro α Q hl k
  iintro ⟨H, Hk⟩
  iapply (h.run Q hl k)
  isplitl [H]; · iexact H
  iintro %v %hv H
  iapply Hk $$ %v [] [H]
  · ipureintro; exact hp v hv
  · iexact H

theorem writes_any {I : Type} {R : I → sProp 𝕄} {R' : sProp 𝕄} {M : Memref sig .tc .vmem S .f32} {r : Rect S} {w : r.shape.Idx → Elt F .f32}
    (h : ∀ i, Writes c (R i) M r w R') : Writes c iprop(∃ i, R i) M r w R' := by
  constructor; intro α Q hx hm k
  iintro ⟨⟨%i, H⟩, Hk⟩
  iapply ((h i).run Q hx hm k)
  isplitl [H]; · iexact H
  iexact Hk

/-- A buffer owned whole, its contents those of `T` where `D` holds. -/
def part (M : Memref sig .tc .vmem S .f32) (T : S.Idx → Elt F .f32) (D : S.Idx → Prop) : sProp 𝕄 :=
  iprop(∃ X, ⌜∀ i, D i → X i = T i⌝ ∗ owns (c : Thread nD τ) M fullShare X)

section Part

variable (M : Memref sig .tc .vmem S .f32) (r : Rect S)

theorem reads_owns (X : S.Idx → Elt F .f32) : Reads c (owns (c : Thread nD τ) M fullShare X) M r fun v => v = fun j => X (r.emb j) := by
  constructor; intro α Q hl k
  unfold owns
  iintro ⟨⟨%f, %hf, H⟩, Hk⟩
  iapply (wp_load_rect 𝒱₀ (c : Thread nD τ) none Set.univ (m := M) (r := r) (View.set_slice_subset _ _)) $$ H
  iintro H
  iapply Hk $$ %((M.access r).read (Elt F) f) [] [H]
  · ipureintro; rw [← hf]; rfl
  · iexists f; isplitr; · (ipureintro; exact hf)
    iexact H

theorem reads_part (T : S.Idx → Elt F .f32) (D : S.Idx → Prop) (hD : ∀ j, D (r.emb j)) :
    Reads c (part c M T D) M r fun v => v = fun j => T (r.emb j) := by
  unfold part
  refine reads_any c fun X => ?_
  constructor; intro α Q hl k
  iintro ⟨⟨%hX, H⟩, Hk⟩
  iapply ((reads_owns c M r X).run Q hl k)
  isplitl [H]; · iexact H
  iintro %v %hv H
  iapply Hk $$ %v [] [H]
  · ipureintro; rw [hv]; exact funext fun j => hX _ (hD j)
  · isplitr; · (ipureintro; exact hX)
    iexact H

theorem reads_part_any (T : S.Idx → Elt F .f32) (D : S.Idx → Prop) : Reads c (part c M T D) M r fun _ => True := by
  unfold part
  refine reads_any c fun X => ?_
  constructor; intro α Q hl k
  iintro ⟨⟨%hX, H⟩, Hk⟩
  iapply ((reads_owns c M r X).run Q hl k)
  isplitl [H]; · iexact H
  iintro %v %hv H
  iapply Hk $$ %v [] [H]
  · ipureintro; trivial
  · isplitr; · (ipureintro; exact hX)
    iexact H

theorem writes_part (T : S.Idx → Elt F .f32) (D : S.Idx → Prop) (w : r.shape.Idx → Elt F .f32) (hw : ∀ j, w j = T (r.emb j)) :
    Writes c (part c M T D) M r w (part c M T fun i => D i ∨ i ∈ r.set) := by
  unfold part owns
  refine writes_any c fun X => ?_
  constructor; intro α Q hx hm k
  iintro ⟨⟨%hX, %f, %hf, H⟩, Hk⟩
  iapply (wp_store 𝒱₀ (c : Thread nD τ) none Set.univ (m := M) (r := r) (Mk := Finset.univ)
    ((View.setOn_subset_set _ _).trans (View.set_slice_subset _ _))) $$ H
  iintro H
  iapply Hk
  iexists (M.view.read (Elt F) ((M.access r).write (Elt F) f w Finset.univ))
  isplitr
  · ipureintro; intro i hi
    by_cases hr : i ∈ r.set
    · rw [← Rect.map_emb_univ] at hr
      obtain ⟨j, -, rfl⟩ := Finset.mem_map.mp hr
      rw [← hw j]; exact View.read_slice_write_emb r f w (Finset.mem_univ j)
    · refine (View.read_slice_write_of_not_mem r f w Finset.univ (by rw [Rect.map_emb_univ]; exact hr)).trans ?_
      rw [hf]; exact hX i (hi.resolve_right hr)
  · iexists _; isplitr
    · ipureintro; rfl
    · iexact H

omit [FloatOps F] in
theorem part_full (T : S.Idx → Elt F .f32) (D : S.Idx → Prop) (hD : ∀ i, D i) : part c M T D ⊢ owns (c : Thread nD τ) M fullShare T := by
  unfold part
  iintro ⟨%X, %hX, H⟩
  have e : X = T := funext fun i => hX i (hD i)
  subst e
  iexact H

end Part

end Places

end Cert.AllReduce

end
-- ==== Proof.Values.lean ====
/-
# The values of the all-reduce

The contents are read as functions of a row and a column number. `x c` is device `c`'s summand. A pipe `p` reduces its
column half first around ring `p` (0: the four devices of equal `z`, 1: the four of equal `q`), then around ring `1 - p`;
direction `b` carries one half of the columns one way around, the other the other way.
-/
module

public import proofs.«01_k».proof.Proof.Chan

@[expose] public section

noncomputable section

namespace Cert.AllReduce

open Cert.KernelIdeal Cert.KernelIdeal.Gen
open Idealize.ShloMosaic
open Idealize.ShloMosaic.TcCoe

variable {F : FTy → Type} [FloatOps F]

/-- Contents by row and column number. -/
abbrev Tab (F : FTy → Type) : Type := ℕ → ℕ → F .f32

/-- The position of device `c` on ring `r`. -/
def pos (r : Fin 2) (c : Dev nD) : ℕ := if r = 0 then c.val % 4 else c.val / 4
/-- The device whose transfers in direction `b` of ring `r` come to `c`. -/
def frm (r b : Fin 2) (c : Dev nD) : Dev nD := nb (opp ⟨2 * r.val + b.val, by omega⟩) c
/-- The chunk a device at position `q` takes part in at step `n`, in direction `b`. -/
def chk (b : Fin 2) (q n : ℕ) : ℕ := if b = 0 then (q + 4 - n) % 4 else (q + 1 + n) % 4
/-- The chunk gathered at step `n`, and the step at which chunk `k` is gathered. -/
def gch (b : Fin 2) (q n : ℕ) : ℕ := if b = 0 then (q + 5 - n) % 4 else (q + n) % 4
def gst (b : Fin 2) (q k : ℕ) : ℕ := if b = 0 then (q + 5 - k) % 4 else (k + 4 - q) % 4

/-- The other ring. -/
def oth (p : Fin 2) : Fin 2 := if p = 0 then 1 else 0

variable (x : Dev nD → Tab F)

/-- Elementwise sum. -/
def plus (f g : Tab F) : Tab F := fun i j => FloatOps.addf (f i j) (g i j)
/-- The part of `f` from row `r` and column `s` on. -/
def shift (f : Tab F) (r s : ℕ) : Tab F := fun i j => f (r + i) (s + j)

/-- The first reduction's partial sum at device `c`, after `n` steps. -/
def VA (p b : Fin 2) : ℕ → Dev nD → Tab F
  | 0, c => shift (x c) (256 * chk b (pos p c) 0) (512 * p.val + 256 * b.val)
  | n + 1, c => plus (VA p b n (frm p b c)) (shift (x c) (256 * chk b (pos p c) (n + 1)) (512 * p.val + 256 * b.val))

/-- The first reduction's result at device `c`: direction 0's block above direction 1's. -/
def Z1 (p : Fin 2) (c : Dev nD) : Tab F := fun i j => if i < 256 then VA x p 0 3 c i j else VA x p 1 3 c (i - 256) j

/-- The second reduction's partial sum. -/
def VB (p b : Fin 2) : ℕ → Dev nD → Tab F
  | 0, c => shift (Z1 x p c) (128 * chk b (pos (oth p) c) 0) (128 * b.val)
  | n + 1, c => plus (VB p b n (frm (oth p) b c)) (shift (Z1 x p c) (128 * chk b (pos (oth p) c) (n + 1)) (128 * b.val))

/-- What the first gather passes on at step `n`. -/
def VC (p b : Fin 2) (n : ℕ) (c : Dev nD) : Tab F := VB x p b 3 ((frm (oth p) b)^[n] c)

/-- The first gather's result at device `c`. -/
def Z2 (p : Fin 2) (c : Dev nD) : Tab F := fun i j =>
  let b : Fin 2 := if j < 128 then 0 else 1
  VC x p b (gst b (pos (oth p) c) (i / 128)) c (i % 128) (j % 128)

/-- What the second gather passes on at step `n`. -/
def VD (p b : Fin 2) (n : ℕ) (c : Dev nD) : Tab F := shift (Z2 x p ((frm p b)^[n] c)) (256 * b.val) 0

/-- The all-reduce's result at device `c`. -/
def Out (c : Dev nD) : Tab F := fun i j =>
  let p : Fin 2 := if j < 512 then 0 else 1
  let b : Fin 2 := if j % 512 < 256 then 0 else 1
  VD x p b (gst b (pos p c) (i / 256)) c (i % 256) (j % 256)

/-- The block sent in phase `g` at step `t`. -/
def V (g : Fin 4) (p b : Fin 2) (t : ℕ) (c : Dev nD) : Tab F :=
  match g with
  | 0 => VA x p b t c
  | 1 => VB x p b t c
  | 2 => VC x p b t c
  | 3 => VD x p b t c

/-- A table as the contents of a two-dimensional block. -/
def blk {n m : ℕ} (f : Tab F) : (⟨2, ![n, m]⟩ : Shape).Idx → F .f32 := fun j => f (j 0).val (j 1).val

def blkG : (g : Fin 4) → Tab F → (shG g).Idx → F .f32
  | 0, f => blk f
  | 1, f => blk f
  | 2, f => blk f
  | 3, f => blk f

/-- The block device `c` sends on channel `k`. -/
def vs (k : Ch) (c : Dev nD) : (sh k).Idx → Elt F .f32 := blkG (phase k) (V x (phase k) (pipe k) (dir k) (step k).val c)

/-! ## The closed forms of the program's devices and offsets -/

theorem devEq {f : Dev nD → ℕ} {hf : ∀ c, f c < nD} {k : Ch} (h : ∀ c, f c = (dst k c).val) (c : Dev nD) : (⟨f c, hf c⟩ : Dev nD) = dst k c :=
  Fin.ext (h c)

/-- The offset of pipe `p`, direction `b`, at chunk `k` of the input block or of the result. -/
def offX (p b : Fin 2) (k : ℕ) : Fin 2 → ℕ := ![256 * k, 512 * p.val + 256 * b.val]
/-- The same in the buffer of the reduced chunk. -/
def offZ (p b : Fin 2) (k : ℕ) : Fin 3 → ℕ := ![p.val, 128 * k, 128 * b.val]

theorem off1_eq (c : Dev nD) : k1_off1 c = offX 0 0 (chk 0 (pos 0 c) 0) := by revert c; decide +kernel
theorem off2_eq (c : Dev nD) : k1_off2 c = offX 0 1 (chk 1 (pos 0 c) 0) := by revert c; decide +kernel
theorem off3_eq (c : Dev nD) : k1_off3 c = offX 1 0 (chk 0 (pos 1 c) 0) := by revert c; decide +kernel
theorem off4_eq (c : Dev nD) : k1_off4 c = offX 1 1 (chk 1 (pos 1 c) 0) := by revert c; decide +kernel

theorem off5_eq (c : Dev nD) (t : Fin 3) : k1_off5 c (BitVec.ofNat 32 t.val) = offX 0 0 (chk 0 (pos 0 c) (t.val + 1)) := by revert c t; decide +kernel
theorem off6_eq (c : Dev nD) (t : Fin 3) : k1_off6 c 2#32 (BitVec.ofNat 32 t.val) = offX 0 1 (chk 1 (pos 0 c) (t.val + 1)) := by
  revert c t; decide +kernel
theorem off7_eq (c : Dev nD) (t : Fin 3) : k1_off7 c (BitVec.ofNat 32 t.val) = offX 1 0 (chk 0 (pos 1 c) (t.val + 1)) := by revert c t; decide +kernel
theorem off8_eq (c : Dev nD) (t : Fin 3) : k1_off8 c 2#32 (BitVec.ofNat 32 t.val) = offX 1 1 (chk 1 (pos 1 c) (t.val + 1)) := by
  revert c t; decide +kernel

theorem off9_eq (c : Dev nD) : k1_off9 c = offZ 0 0 (chk 0 (pos 1 c) 0) := by revert c; decide +kernel
theorem off10_eq (c : Dev nD) : k1_off10 c = offZ 0 1 (chk 1 (pos 1 c) 0) := by revert c; decide +kernel
theorem off11_eq (c : Dev nD) : k1_off11 c = offZ 1 0 (chk 0 (pos 0 c) 0) := by revert c; decide +kernel
theorem off12_eq (c : Dev nD) : k1_off12 c = offZ 1 1 (chk 1 (pos 0 c) 0) := by revert c; decide +kernel
theorem off13_eq (c : Dev nD) (t : Fin 3) : k1_off13 c (BitVec.ofNat 32 t.val) = offZ 0 0 (chk 0 (pos 1 c) (t.val + 1)) := by
  revert c t; decide +kernel
theorem off14_eq (c : Dev nD) (t : Fin 3) : k1_off14 c 2#32 (BitVec.ofNat 32 t.val) = offZ 0 1 (chk 1 (pos 1 c) (t.val + 1)) := by
  revert c t; decide +kernel
theorem off15_eq (c : Dev nD) (t : Fin 3) : k1_off15 c (BitVec.ofNat 32 t.val) = offZ 1 0 (chk 0 (pos 0 c) (t.val + 1)) := by
  revert c t; decide +kernel
theorem off16_eq (c : Dev nD) (t : Fin 3) : k1_off16 c 2#32 (BitVec.ofNat 32 t.val) = offZ 1 1 (chk 1 (pos 0 c) (t.val + 1)) := by
  revert c t; decide +kernel

theorem off17_eq (c : Dev nD) : k1_off17 c = offZ 0 0 (gch 0 (pos 1 c) 0) := by revert c; decide +kernel
theorem off18_eq (c : Dev nD) : k1_off18 c = offZ 0 1 (gch 1 (pos 1 c) 0) := by revert c; decide +kernel
theorem off19_eq (c : Dev nD) : k1_off19 c = offZ 1 0 (gch 0 (pos 0 c) 0) := by revert c; decide +kernel
theorem off20_eq (c : Dev nD) : k1_off20 c = offZ 1 1 (gch 1 (pos 0 c) 0) := by revert c; decide +kernel
theorem off21_eq (c : Dev nD) (t : Fin 3) : k1_off21 c (BitVec.ofNat 32 t.val) = offZ 0 0 (gch 0 (pos 1 c) (t.val + 1)) := by
  revert c t; decide +kernel
theorem off14_eq' (c : Dev nD) (t : Fin 3) : k1_off14 c 1#32 (BitVec.ofNat 32 t.val) = offZ 0 1 (gch 1 (pos 1 c) (t.val + 1)) := by
  revert c t; decide +kernel
theorem off22_eq (c : Dev nD) (t : Fin 3) : k1_off22 c (BitVec.ofNat 32 t.val) = offZ 1 0 (gch 0 (pos 0 c) (t.val + 1)) := by
  revert c t; decide +kernel
theorem off16_eq' (c : Dev nD) (t : Fin 3) : k1_off16 c 1#32 (BitVec.ofNat 32 t.val) = offZ 1 1 (gch 1 (pos 0 c) (t.val + 1)) := by
  revert c t; decide +kernel

theorem off23_eq (c : Dev nD) : k1_off23 c = offX 0 0 (gch 0 (pos 0 c) 0) := by revert c; decide +kernel
theorem off24_eq (c : Dev nD) : k1_off24 c = offX 0 1 (gch 1 (pos 0 c) 0) := by revert c; decide +kernel
theorem off25_eq (c : Dev nD) : k1_off25 c = offX 1 0 (gch 0 (pos 1 c) 0) := by revert c; decide +kernel
theorem off26_eq (c : Dev nD) : k1_off26 c = offX 1 1 (gch 1 (pos 1 c) 0) := by revert c; decide +kernel
theorem off27_eq (c : Dev nD) (t : Fin 3) : k1_off27 c (BitVec.ofNat 32 t.val) = offX 0 0 (gch 0 (pos 0 c) (t.val + 1)) := by
  revert c t; decide +kernel
theorem off6_eq' (c : Dev nD) (t : Fin 3) : k1_off6 c 1#32 (BitVec.ofNat 32 t.val) = offX 0 1 (gch 1 (pos 0 c) (t.val + 1)) := by
  revert c t; decide +kernel
theorem off28_eq (c : Dev nD) (t : Fin 3) : k1_off28 c (BitVec.ofNat 32 t.val) = offX 1 0 (gch 0 (pos 1 c) (t.val + 1)) := by
  revert c t; decide +kernel
theorem off8_eq' (c : Dev nD) (t : Fin 3) : k1_off8 c 1#32 (BitVec.ofNat 32 t.val) = offX 1 1 (gch 1 (pos 1 c) (t.val + 1)) := by
  revert c t; decide +kernel

end Cert.AllReduce

end
-- ==== Proof.Blocks.lean ====
/-
# Single blocks added and copied

One lemma per kind of block operation of the kernel: the program piece, the places before and after.
-/
module

public import proofs.«01_k».proof.Proof.Slots
public import proofs.«01_k».proof.Proof.Values
public import Idealize.ShloMosaic.Lib.Pipeline.Value

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A program, and its continuation. -/
abbrev PP (F : FTy → Type) [FloatOps F] (α : Type) : Type 1 := Prog (TpuEff nD τ sig (Elt F) Λ₀ .tc) α

/-- A pair of tables as the contents of the reduced chunks' buffer. -/
def blk3 {n m l : ℕ} (f : Fin n → Tab F) : (⟨3, ![n, m, l]⟩ : Shape).Idx → F .f32 := fun j => f (j 0) (j 1).val (j 2).val

/-- The rectangles: a slot's, a block of the input or the result, a block of the reduced chunks' buffer. -/
abbrev rA {n : ℕ} (p : Fin 2) (t : Fin n) : Rect ⟨4, ![2, n, 256, 256]⟩ := Rect.unit ![p.val, t.val, 0, 0] S1x1x256x256.size (inbA p t)
abbrev rB {n : ℕ} (p : Fin 2) (t : Fin n) : Rect ⟨4, ![2, n, 128, 128]⟩ := Rect.unit ![p.val, t.val, 0, 0] S1x1x128x128.size (inbB p t)
abbrev rZ (p b : Fin 2) : Rect S2x512x256 := Rect.unit ![p.val, 256 * b.val, 0] S1x256x256.size (inbZ p b)
abbrev rX (off : Fin 2 → ℕ) (hin : ∀ a, off a + S256x256.size a ≤ S1024x1024.size a) : Rect S1024x1024 := Rect.unit off S256x256.size hin
abbrev rY (off : Fin 3 → ℕ) (hin : ∀ a, off a + S1x128x128.size a ≤ S2x512x256.size a) : Rect S2x512x256 := Rect.unit off S1x128x128.size hin

variable (c : Dev nD)

/-- A slot holding the block of a table. -/
abbrev hasA {n : ℕ} (M : Memref sig .tc .vmem ⟨4, ![2, n, 256, 256]⟩ .f32) (p : Fin 2) (t : Fin n) (f : Tab F) : sProp 𝕄 :=
  owns (c : Thread nD τ) (slotA M p t) fullShare (blk (n := 256) (m := 256) f)
abbrev hasB {n : ℕ} (M : Memref sig .tc .vmem ⟨4, ![2, n, 128, 128]⟩ .f32) (p : Fin 2) (t : Fin n) (f : Tab F) : sProp 𝕄 :=
  owns (c : Thread nD τ) (slotB M p t) fullShare (blk (n := 128) (m := 128) f)
abbrev anyA {n : ℕ} (M : Memref sig .tc .vmem ⟨4, ![2, n, 256, 256]⟩ .f32) (p : Fin 2) (t : Fin n) : sProp 𝕄 :=
  iprop(∃ X, owns (c : Thread nD τ) (slotA M p t) fullShare X)
abbrev anyB {n : ℕ} (M : Memref sig .tc .vmem ⟨4, ![2, n, 128, 128]⟩ .f32) (p : Fin 2) (t : Fin n) : sProp 𝕄 :=
  iprop(∃ X, owns (c : Thread nD τ) (slotB M p t) fullShare X)
/-- The input block. -/
abbrev hasX (x : Tab F) : sProp 𝕄 := owns (c : Thread nD τ) mX fullShare (blk (n := 1024) (m := 1024) x)

/-! ## Places -/

section Reads

omit [FloatOps F] in
theorem emb_rX (x : Tab F) (r s : ℕ) (hin : ∀ a, (![r, s] : Fin 2 → ℕ) a + S256x256.size a ≤ S1024x1024.size a) :
    (fun j => blk (n := 1024) (m := 1024) x ((rX ![r, s] hin).emb j)) = blk (n := 256) (m := 256) (shift x r s) := by
  funext j
  show x (r + 1 * (j 0).val) (s + 1 * (j 1).val) = x (r + (j 0).val) (s + (j 1).val)
  rw [Nat.one_mul, Nat.one_mul]

omit [FloatOps F] in
theorem cast_rY (f : Fin 2 → Tab F) (p : Fin 2) (r s : ℕ) (hin : ∀ a, (![p.val, r, s] : Fin 3 → ℕ) a + S1x128x128.size a ≤ S2x512x256.size a) :
    shapeCast S128x128 (fun j => blk3 (n := 2) (m := 512) (l := 256) f ((rY ![p.val, r, s] hin).emb j)) shapeCasts_S1x128x128_S128x128
      = blk (n := 128) (m := 128) (shift (f p) r s) := by
  funext j
  refine (shapeCast_dropUnit_apply (n := 2) ![128, 128] _ shapeCasts_S1x128x128_S128x128 j).trans ?_
  show f ⟨p.val + 1 * 0, _⟩ (r + 1 * (j 0).val) (s + 1 * (j 1).val) = f p (r + (j 0).val) (s + (j 1).val)
  simp only [Nat.one_mul, Nat.add_zero]

theorem rd_X (x : Tab F) (r s : ℕ) (hin : ∀ a, (![r, s] : Fin 2 → ℕ) a + S256x256.size a ≤ S1024x1024.size a) :
    Reads c (hasX c x) mX (rX ![r, s] hin) fun v => v = blk (n := 256) (m := 256) (shift x r s) :=
  reads_weaken c (reads_owns c mX (rX ![r, s] hin) (blk (n := 1024) (m := 1024) x)) fun v hv => hv.trans (emb_rX x r s hin)

variable {n : ℕ} (M : Memref sig .tc .vmem ⟨4, ![2, n, 256, 256]⟩ .f32) (M' : Memref sig .tc .vmem ⟨4, ![2, n, 128, 128]⟩ .f32) (p : Fin 2) (t : Fin n)

theorem rd_A (f : Tab F) : Reads c (hasA c M p t f) M (rA p t) fun v => shapeCast S256x256 v shapeCasts_S1x1x256x256_S256x256 = blk (n := 256) (m := 256) f :=
  reads_weaken c (reads_slot c M (rA p t) (fun _ => rfl) squeezes_S1x1x256x256_S256x256 (blk f)) fun v hv => hv _
theorem rd_anyA : Reads (F := F) c (anyA c M p t) M (rA p t) fun _ => True :=
  reads_any c fun X => reads_weaken c (reads_slot c M (rA p t) (fun _ => rfl) squeezes_S1x1x256x256_S256x256 X) fun _ _ => trivial
theorem wr_A (f g : Tab F) (w : FVec F S256x256 .f32) (hw : w = blk (n := 256) (m := 256) g) :
    Writes c (hasA c M p t f) M (rA p t) (shapeCast S1x1x256x256 w shapeCasts_S256x256_S1x1x256x256 : FVec F _ _) (hasA c M p t g) :=
  writes_slot c M (rA p t) (fun _ => rfl) squeezes_S1x1x256x256_S256x256 (blk f) _ _ shapeCasts_S1x1x256x256_S256x256 ((shapeCast_shapeCast _ _ _).trans hw)
theorem wr_anyA (g : Tab F) (w : FVec F S256x256 .f32) (hw : w = blk (n := 256) (m := 256) g) :
    Writes c (anyA c M p t) M (rA p t) (shapeCast S1x1x256x256 w shapeCasts_S256x256_S1x1x256x256 : FVec F _ _) (hasA c M p t g) :=
  writes_any c fun X => writes_slot c M (rA p t) (fun _ => rfl) squeezes_S1x1x256x256_S256x256 X _ _ shapeCasts_S1x1x256x256_S256x256
    ((shapeCast_shapeCast _ _ _).trans hw)

theorem rd_B (f : Tab F) : Reads c (hasB c M' p t f) M' (rB p t) fun v => shapeCast S128x128 v shapeCasts_S1x1x128x128_S128x128 = blk (n := 128) (m := 128) f :=
  reads_weaken c (reads_slot c M' (rB p t) (fun _ => rfl) squeezes_S1x1x128x128_S128x128 (blk f)) fun v hv => hv _
theorem rd_anyB : Reads (F := F) c (anyB c M' p t) M' (rB p t) fun _ => True :=
  reads_any c fun X => reads_weaken c (reads_slot c M' (rB p t) (fun _ => rfl) squeezes_S1x1x128x128_S128x128 X) fun _ _ => trivial
theorem wr_B (f g : Tab F) (w : FVec F S128x128 .f32) (hw : w = blk (n := 128) (m := 128) g) :
    Writes c (hasB c M' p t f) M' (rB p t) (shapeCast S1x1x128x128 w shapeCasts_S128x128_S1x1x128x128 : FVec F _ _) (hasB c M' p t g) :=
  writes_slot c M' (rB p t) (fun _ => rfl) squeezes_S1x1x128x128_S128x128 (blk f) _ _ shapeCasts_S1x1x128x128_S128x128 ((shapeCast_shapeCast _ _ _).trans hw)
theorem wr_anyB (g : Tab F) (w : FVec F S128x128 .f32) (hw : w = blk (n := 128) (m := 128) g) :
    Writes c (anyB c M' p t) M' (rB p t) (shapeCast S1x1x128x128 w shapeCasts_S128x128_S1x1x128x128 : FVec F _ _) (hasB c M' p t g) :=
  writes_any c fun X => writes_slot c M' (rB p t) (fun _ => rfl) squeezes_S1x1x128x128_S128x128 X _ _ shapeCasts_S1x1x128x128_S128x128
    ((shapeCast_shapeCast _ _ _).trans hw)

end Reads

/-- The buffer of the reduced chunks, its contents those of `f` where `D` holds; the result's likewise. -/
abbrev partZ (f : Fin 2 → Tab F) (D : S2x512x256.Idx → Prop) : sProp 𝕄 := part c mZ (blk3 (n := 2) (m := 512) (l := 256) f) D
abbrev partO (f : Tab F) (D : S1024x1024.Idx → Prop) : sProp 𝕄 := part c mO (blk (n := 1024) (m := 1024) f) D
/-- Half `b` of pipe `p` of the buffer of the reduced chunks. -/
abbrev hasZ (p b : Fin 2) (f : Tab F) : sProp 𝕄 := owns (c : Thread nD τ) (slotZ mZ p b) fullShare (blk (n := 256) (m := 256) f)

theorem rd_Zp (f : Fin 2 → Tab F) (D : S2x512x256.Idx → Prop) (p : Fin 2) (r s : ℕ)
    (hin : ∀ a, (![p.val, r, s] : Fin 3 → ℕ) a + S1x128x128.size a ≤ S2x512x256.size a) (hD : ∀ j, D ((rY ![p.val, r, s] hin).emb j)) :
    Reads c (partZ c f D) mZ (rY ![p.val, r, s] hin) fun v => shapeCast S128x128 v shapeCasts_S1x128x128_S128x128 = blk (n := 128) (m := 128) (shift (f p) r s) :=
  reads_weaken c (reads_part c mZ (rY ![p.val, r, s] hin) _ D hD) fun v hv => by rw [hv]; exact cast_rY f p r s hin

theorem rd_Z (p b : Fin 2) (f : Tab F) :
    Reads c (hasZ c p b f) mZ (rZ p b) fun v => shapeCast S256x256 v shapeCasts_S1x256x256_S256x256 = blk (n := 256) (m := 256) f :=
  reads_weaken c (reads_slot c mZ (rZ p b) (fun _ => rfl) squeezes_S1x256x256_S256x256 (blk f)) fun v hv => hv _

theorem wr_Zh (f : Fin 2 → Tab F) (D : S2x512x256.Idx → Prop) (p b : Fin 2) (g : Tab F) (hg : ∀ i j, i < 256 → j < 256 → g i j = f p (256 * b.val + i) j)
    (w : FVec F S256x256 .f32) (hw : w = blk (n := 256) (m := 256) g) :
    Writes c (partZ c f D) mZ (rZ p b) (shapeCast S1x256x256 w shapeCasts_S256x256_S1x256x256 : FVec F _ _) (partZ c f fun i => D i ∨ i ∈ (rZ p b).set) :=
  writes_part c mZ (rZ p b) _ D _ fun j => by
    refine (shapeCast_addUnit_apply (n := 2) ![256, 256] w shapeCasts_S256x256_S1x256x256 j).trans ?_
    rw [hw]
    have h0 : (j 0).val = 0 := by have h : (j 0).val < 1 := (j 0).isLt; omega
    refine (hg (j 1).val (j 2).val (j 1).isLt (j 2).isLt).trans ?_
    show f p (256 * b.val + (j 1).val) (j 2).val = f ⟨p.val + 1 * (j 0).val, _⟩ (256 * b.val + 1 * (j 1).val) (0 + 1 * (j 2).val)
    simp only [h0, Nat.one_mul, Nat.zero_add, Nat.add_zero]

theorem wr_Zp (f : Fin 2 → Tab F) (D : S2x512x256.Idx → Prop) (p : Fin 2) (r s : ℕ)
    (hin : ∀ a, (![p.val, r, s] : Fin 3 → ℕ) a + S1x128x128.size a ≤ S2x512x256.size a) (g : Tab F) (hg : ∀ i j, i < 128 → j < 128 → g i j = f p (r + i) (s + j))
    (w : FVec F S128x128 .f32) (hw : w = blk (n := 128) (m := 128) g) :
    Writes c (partZ c f D) mZ (rY ![p.val, r, s] hin) (shapeCast S1x128x128 w shapeCasts_S128x128_S1x128x128 : FVec F _ _)
      (partZ c f fun i => D i ∨ i ∈ (rY ![p.val, r, s] hin).set) :=
  writes_part c mZ (rY ![p.val, r, s] hin) _ D _ fun j => by
    refine (shapeCast_addUnit_apply (n := 2) ![128, 128] w shapeCasts_S128x128_S1x128x128 j).trans ?_
    rw [hw]
    have h0 : (j 0).val = 0 := by have h : (j 0).val < 1 := (j 0).isLt; omega
    refine (hg (j 1).val (j 2).val (j 1).isLt (j 2).isLt).trans ?_
    show f p (r + (j 1).val) (s + (j 2).val) = f ⟨p.val + 1 * (j 0).val, _⟩ (r + 1 * (j 1).val) (s + 1 * (j 2).val)
    simp only [h0, Nat.one_mul, Nat.add_zero]

theorem wr_O (f : Tab F) (D : S1024x1024.Idx → Prop) (r s : ℕ) (hin : ∀ a, (![r, s] : Fin 2 → ℕ) a + S256x256.size a ≤ S1024x1024.size a)
    (g : Tab F) (hg : ∀ i j, i < 256 → j < 256 → g i j = f (r + i) (s + j)) (w : FVec F S256x256 .f32) (hw : w = blk (n := 256) (m := 256) g) :
    Writes c (partO c f D) mO (rX ![r, s] hin) w (partO c f fun i => D i ∨ i ∈ (rX ![r, s] hin).set) :=
  writes_part c mO (rX ![r, s] hin) _ D _ fun j => by
    rw [hw]
    refine (hg (j 0).val (j 1).val (j 0).isLt (j 1).isLt).trans ?_
    show f (r + (j 0).val) (s + (j 1).val) = f (r + 1 * (j 0).val) (s + 1 * (j 1).val)
    simp only [Nat.one_mul]

/-! ## The pieces of the program -/

section Pieces

variable {n : ℕ} (M : Memref sig .tc .vmem ⟨4, ![2, n, 256, 256]⟩ .f32) (M' : Memref sig .tc .vmem ⟨4, ![2, n, 128, 128]⟩ .f32) (p b : Fin 2) (t : Fin n)
  (off : Fin 2 → ℕ) (hin : ∀ a, off a + S256x256.size a ≤ S1024x1024.size a)
  (offz : Fin 3 → ℕ) (hinz : ∀ a, offz a + S1x128x128.size a ≤ S2x512x256.size a)

/-- A block of the input into a slot. -/
def cpXAP {α : Type} (kt : PUnit → PP F α) : PP F α :=
  .op (.load mX (rX off hin).toLoadRect (View.loadsAt_vmem h_S256x256)) fun v =>
    .op (.load M (rA p t).toLoadRect (View.loadsAt_vmem h_S1x1x256x256)) fun _ =>
      .op (.store M (rA p t) (shapeCast S1x1x256x256 (shapeCast S256x256 v shapeCasts_S256x256_S256x256) shapeCasts_S256x256_S1x1x256x256 : FVec F _ _)
        Finset.univ (View.stores_vmem_bits_univ h_S1x1x256x256 rfl) (.inl rfl)) kt

theorem wp_cpXA (x : Tab F) (r s : ℕ) (ho : off = ![r, s]) {α : Type} {Q : α → sProp 𝕄} {kt : PUnit → PP F α} :
    iprop(hasX c x ∗ anyA c M p t ∗ ((hasX c x ∗ hasA c M p t (shift x r s)) -∗ wp frame (wpE (defs₀ (F := F)) 𝒱₀ (c : Thread nD τ) none) Set.univ (kt ⟨⟩) Q))
      ⊢ wp frame (wpE (defs₀ (F := F)) 𝒱₀ (c : Thread nD τ) none) Set.univ (cpXAP M p t off hin kt) Q := by
  subst ho
  exact wp_copy c (rd_X c x r s hin) (rd_anyA c M p t)
    (pay := fun v _ => (shapeCast S1x1x256x256 (shapeCast S256x256 v shapeCasts_S256x256_S256x256) shapeCasts_S256x256_S1x1x256x256 : FVec F _ _))
    (fun v u hv => wr_anyA c M p t _ _ ((shapeCast_self _ _).trans hv))

/-- A block of the input added to a slot. -/
def adXAP {α : Type} (kt : PUnit → PP F α) : PP F α :=
  .op (.load M (rA p t).toLoadRect (View.loadsAt_vmem h_S1x1x256x256)) fun w =>
    .op (.load mX (rX off hin).toLoadRect (View.loadsAt_vmem h_S256x256)) fun v =>
      .op (.load M (rA p t).toLoadRect (View.loadsAt_vmem h_S1x1x256x256)) fun _ =>
        .op (.store M (rA p t) (shapeCast S1x1x256x256
            (addf (shapeCast S256x256 w shapeCasts_S1x1x256x256_S256x256 : FVec F _ _) (shapeCast S256x256 v shapeCasts_S256x256_S256x256))
            shapeCasts_S256x256_S1x1x256x256 : FVec F _ _)
          Finset.univ (View.stores_vmem_bits_univ h_S1x1x256x256 rfl) (.inl rfl)) kt

theorem wp_adXA (f x : Tab F) (r s : ℕ) (ho : off = ![r, s]) {α : Type} {Q : α → sProp 𝕄} {kt : PUnit → PP F α} :
    iprop(hasX c x ∗ hasA c M p t f
        ∗ ((hasX c x ∗ hasA c M p t (plus f (shift x r s))) -∗ wp frame (wpE (defs₀ (F := F)) 𝒱₀ (c : Thread nD τ) none) Set.univ (kt ⟨⟩) Q))
      ⊢ wp frame (wpE (defs₀ (F := F)) 𝒱₀ (c : Thread nD τ) none) Set.univ (adXAP M p t off hin kt) Q := by
  subst ho
  exact wp_add c (rd_X c x r s hin) (rd_A c M p t f)
    (pay := fun w v _ => (shapeCast S1x1x256x256
            (addf (shapeCast S256x256 w shapeCasts_S1x1x256x256_S256x256 : FVec F _ _) (shapeCast S256x256 v shapeCasts_S256x256_S256x256))
            shapeCasts_S256x256_S1x1x256x256 : FVec F _ _))
    (fun w v u hw hv => wr_A c M p t f _ _ (by rw [hw, hv]; exact congrArg (addf (blk f)) (shapeCast_self _ _)))

/-- A slot into half of a pipe of the reduced chunks' buffer. -/
def cpAZP {α : Type} (kt : PUnit → PP F α) : PP F α :=
  .op (.load M (rA p t).toLoadRect (View.loadsAt_vmem h_S1x1x256x256)) fun v =>
    .op (.load mZ (rZ p b).toLoadRect (View.loadsAt_vmem h_S1x256x256)) fun _ =>
      .op (.store mZ (rZ p b) (shapeCast S1x256x256 (shapeCast S256x256 v shapeCasts_S1x1x256x256_S256x256 : FVec F _ _) shapeCasts_S256x256_S1x256x256 : FVec F _ _)
        Finset.univ (View.stores_vmem_bits_univ h_S1x256x256 rfl) (.inl rfl)) kt

theorem wp_cpAZ (g : Tab F) (f : Fin 2 → Tab F) (D : S2x512x256.Idx → Prop) (hg : ∀ i j, i < 256 → j < 256 → g i j = f p (256 * b.val + i) j)
    {α : Type} {Q : α → sProp 𝕄} {kt : PUnit → PP F α} :
    iprop(hasA c M p t g ∗ partZ c f D
        ∗ ((hasA c M p t g ∗ partZ c f fun i => D i ∨ i ∈ (rZ p b).set) -∗ wp frame (wpE (defs₀ (F := F)) 𝒱₀ (c : Thread nD τ) none) Set.univ (kt ⟨⟩) Q))
      ⊢ wp frame (wpE (defs₀ (F := F)) 𝒱₀ (c : Thread nD τ) none) Set.univ (cpAZP M p b t kt) Q :=
  wp_copy c (rd_A c M p t g) (reads_part_any c mZ (rZ p b) _ D)
    (pay := fun v _ => (shapeCast S1x256x256 (shapeCast S256x256 v shapeCasts_S1x1x256x256_S256x256 : FVec F _ _) shapeCasts_S256x256_S1x256x256 : FVec F _ _))
    (fun v u hv => wr_Zh c f D p b g hg _ hv)

/-- A block of the reduced chunks' buffer into a slot. -/
def cpZBP {α : Type} (kt : PUnit → PP F α) : PP F α :=
  .op (.load mZ (rY offz hinz).toLoadRect (View.loadsAt_vmem h_S1x128x128)) fun v =>
    .op (.load M' (rB p t).toLoadRect (View.loadsAt_vmem h_S1x1x128x128)) fun _ =>
      .op (.store M' (rB p t) (shapeCast S1x1x128x128 (shapeCast S128x128 v shapeCasts_S1x128x128_S128x128 : FVec F _ _) shapeCasts_S128x128_S1x1x128x128 : FVec F _ _)
        Finset.univ (View.stores_vmem_bits_univ h_S1x1x128x128 rfl) (.inl rfl)) kt

theorem wp_cpZB (f : Fin 2 → Tab F) (D : S2x512x256.Idx → Prop) (r s : ℕ) (ho : offz = ![p.val, r, s])
    (hD : ∀ i, i ∈ (rY offz hinz).set → D i) {α : Type} {Q : α → sProp 𝕄} {kt : PUnit → PP F α} :
    iprop(partZ c f D ∗ anyB c M' p t
        ∗ ((partZ c f D ∗ hasB c M' p t (shift (f p) r s)) -∗ wp frame (wpE (defs₀ (F := F)) 𝒱₀ (c : Thread nD τ) none) Set.univ (kt ⟨⟩) Q))
      ⊢ wp frame (wpE (defs₀ (F := F)) 𝒱₀ (c : Thread nD τ) none) Set.univ (cpZBP M' p t offz hinz kt) Q := by
  subst ho
  exact wp_copy c (rd_Zp c f D p r s hinz fun j => hD _ (by rw [← Rect.map_emb_univ]; exact Finset.mem_map_of_mem _ (Finset.mem_univ j))) (rd_anyB c M' p t)
    (pay := fun v _ => (shapeCast S1x1x128x128 (shapeCast S128x128 v shapeCasts_S1x128x128_S128x128 : FVec F _ _) shapeCasts_S128x128_S1x1x128x128 : FVec F _ _))
    (fun v u hv => wr_anyB c M' p t _ _ hv)

/-- A block of the reduced chunks' buffer added to a slot. -/
def adZBP {α : Type} (kt : PUnit → PP F α) : PP F α :=
  .op (.load M' (rB p t).toLoadRect (View.loadsAt_vmem h_S1x1x128x128)) fun w =>
    .op (.load mZ (rY offz hinz).toLoadRect (View.loadsAt_vmem h_S1x128x128)) fun v =>
      .op (.load M' (rB p t).toLoadRect (View.loadsAt_vmem h_S1x1x128x128)) fun _ =>
        .op (.store M' (rB p t) (shapeCast S1x1x128x128
            (addf (shapeCast S128x128 w shapeCasts_S1x1x128x128_S128x128 : FVec F _ _) (shapeCast S128x128 v shapeCasts_S1x128x128_S128x128 : FVec F _ _))
            shapeCasts_S128x128_S1x1x128x128 : FVec F _ _)
          Finset.univ (View.stores_vmem_bits_univ h_S1x1x128x128 rfl) (.inl rfl)) kt

theorem wp_adZB (g : Tab F) (f : Fin 2 → Tab F) (D : S2x512x256.Idx → Prop) (r s : ℕ) (ho : offz = ![p.val, r, s])
    (hD : ∀ i, i ∈ (rY offz hinz).set → D i) {α : Type} {Q : α → sProp 𝕄} {kt : PUnit → PP F α} :
    iprop(partZ c f D ∗ hasB c M' p t g
        ∗ ((partZ c f D ∗ hasB c M' p t (plus g (shift (f p) r s))) -∗ wp frame (wpE (defs₀ (F := F)) 𝒱₀ (c : Thread nD τ) none) Set.univ (kt ⟨⟩) Q))
      ⊢ wp frame (wpE (defs₀ (F := F)) 𝒱₀ (c : Thread nD τ) none) Set.univ (adZBP M' p t offz hinz kt) Q := by
  subst ho
  exact wp_add c (rd_Zp c f D p r s hinz fun j => hD _ (by rw [← Rect.map_emb_univ]; exact Finset.mem_map_of_mem _ (Finset.mem_univ j))) (rd_B c M' p t g)
    (pay := fun w v _ => (shapeCast S1x1x128x128
            (addf (shapeCast S128x128 w shapeCasts_S1x1x128x128_S128x128 : FVec F _ _) (shapeCast S128x128 v shapeCasts_S1x128x128_S128x128 : FVec F _ _))
            shapeCasts_S128x128_S1x1x128x128 : FVec F _ _))
    (fun w v u hw hv => wr_B c M' p t g _ _ (by rw [hw, hv]; rfl))

/-- A slot into a block of the reduced chunks' buffer. -/
def cpBZP {α : Type} (kt : PUnit → PP F α) : PP F α :=
  .op (.load M' (rB p t).toLoadRect (View.loadsAt_vmem h_S1x1x128x128)) fun v =>
    .op (.load mZ (rY offz hinz).toLoadRect (View.loadsAt_vmem h_S1x128x128)) fun _ =>
      .op (.store mZ (rY offz hinz) (shapeCast S1x128x128 (shapeCast S128x128 v shapeCasts_S1x1x128x128_S128x128 : FVec F _ _) shapeCasts_S128x128_S1x128x128 : FVec F _ _)
        Finset.univ (View.stores_vmem_bits_univ h_S1x128x128 rfl) (.inl rfl)) kt

theorem wp_cpBZ (g : Tab F) (f : Fin 2 → Tab F) (D : S2x512x256.Idx → Prop) (r s : ℕ) (ho : offz = ![p.val, r, s])
    (hg : ∀ i j, i < 128 → j < 128 → g i j = f p (r + i) (s + j)) {α : Type} {Q : α → sProp 𝕄} {kt : PUnit → PP F α} :
    iprop(hasB c M' p t g ∗ partZ c f D
        ∗ ((hasB c M' p t g ∗ partZ c f fun i => D i ∨ i ∈ (rY offz hinz).set) -∗ wp frame (wpE (defs₀ (F := F)) 𝒱₀ (c : Thread nD τ) none) Set.univ (kt ⟨⟩) Q))
      ⊢ wp frame (wpE (defs₀ (F := F)) 𝒱₀ (c : Thread nD τ) none) Set.univ (cpBZP M' p t offz hinz kt) Q := by
  subst ho
  exact wp_copy c (rd_B c M' p t g) (reads_part_any c mZ (rY ![p.val, r, s] hinz) _ D)
    (pay := fun v _ => (shapeCast S1x128x128 (shapeCast S128x128 v shapeCasts_S1x1x128x128_S128x128 : FVec F _ _) shapeCasts_S128x128_S1x128x128 : FVec F _ _))
    (fun v u hv => wr_Zp c f D p r s hinz g hg _ hv)

/-- Half of a pipe of the reduced chunks' buffer into a block of the result. -/
def cpZOP {α : Type} (kt : PUnit → PP F α) : PP F α :=
  .op (.load mZ (rZ p b).toLoadRect (View.loadsAt_vmem h_S1x256x256)) fun v =>
    .op (.load mO (rX off hin).toLoadRect (View.loadsAt_vmem h_S256x256)) fun _ =>
      .op (.store mO (rX off hin) (shapeCast S256x256 v shapeCasts_S1x256x256_S256x256 : FVec F _ _)
        Finset.univ (View.stores_vmem_bits_univ h_S256x256 rfl) (.inl rfl)) kt

theorem wp_cpZO (g f : Tab F) (D : S1024x1024.Idx → Prop) (r s : ℕ) (ho : off = ![r, s])
    (hg : ∀ i j, i < 256 → j < 256 → g i j = f (r + i) (s + j)) {α : Type} {Q : α → sProp 𝕄} {kt : PUnit → PP F α} :
    iprop(hasZ c p b g ∗ partO c f D
        ∗ ((hasZ c p b g ∗ partO c f fun i => D i ∨ i ∈ (rX off hin).set) -∗ wp frame (wpE (defs₀ (F := F)) 𝒱₀ (c : Thread nD τ) none) Set.univ (kt ⟨⟩) Q))
      ⊢ wp frame (wpE (defs₀ (F := F)) 𝒱₀ (c : Thread nD τ) none) Set.univ (cpZOP p b off hin kt) Q := by
  subst ho
  exact wp_copy c (rd_Z c p b g) (reads_part_any c mO (rX ![r, s] hin) _ D)
    (pay := fun v _ => (shapeCast S256x256 v shapeCasts_S1x256x256_S256x256 : FVec F _ _))
    (fun v u hv => wr_O c f D r s hin g hg _ hv)

/-- A slot into a block of the result. -/
def cpAOP {α : Type} (kt : PUnit → PP F α) : PP F α :=
  .op (.load M (rA p t).toLoadRect (View.loadsAt_vmem h_S1x1x256x256)) fun v =>
    .op (.load mO (rX off hin).toLoadRect (View.loadsAt_vmem h_S256x256)) fun _ =>
      .op (.store mO (rX off hin) (shapeCast S256x256 v shapeCasts_S1x1x256x256_S256x256 : FVec F _ _)
        Finset.univ (View.stores_vmem_bits_univ h_S256x256 rfl) (.inl rfl)) kt

theorem wp_cpAO (g f : Tab F) (D : S1024x1024.Idx → Prop) (r s : ℕ) (ho : off = ![r, s])
    (hg : ∀ i j, i < 256 → j < 256 → g i j = f (r + i) (s + j)) {α : Type} {Q : α → sProp 𝕄} {kt : PUnit → PP F α} :
    iprop(hasA c M p t g ∗ partO c f D
        ∗ ((hasA c M p t g ∗ partO c f fun i => D i ∨ i ∈ (rX off hin).set) -∗ wp frame (wpE (defs₀ (F := F)) 𝒱₀ (c : Thread nD τ) none) Set.univ (kt ⟨⟩) Q))
      ⊢ wp frame (wpE (defs₀ (F := F)) 𝒱₀ (c : Thread nD τ) none) Set.univ (cpAOP M p t off hin kt) Q := by
  subst ho
  exact wp_copy c (rd_A c M p t g) (reads_part_any c mO (rX ![r, s] hin) _ D)
    (pay := fun v _ => (shapeCast S256x256 v shapeCasts_S1x1x256x256_S256x256 : FVec F _ _))
    (fun v u hv => wr_O c f D r s hin g hg _ hv)

end Pieces

end Cert.AllReduce

end
-- ==== Proof.Stages.lean ====
/-
# The stages

What a stage does with the blocks it received, and its exchange, over the blocks' values.
-/
module

public import proofs.«01_k».proof.Proof.Blocks
public import Idealize.ShloMosaic.Lib.Pipeline.BigSepL

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → Tab F) (c : Dev nD)

/-- The slots of the second and of the third phase in their common buffer. -/
abbrev lo (t : Fin 3) : Fin 6 := ⟨t.val, by omega⟩
abbrev hi (t : Fin 3) : Fin 6 := ⟨3 + t.val, by omega⟩

/-- One per pipe and direction. -/
def fourP (Φ : Fin 2 → Fin 2 → sProp 𝕄) : sProp 𝕄 := iprop(Φ 0 0 ∗ Φ 0 1 ∗ Φ 1 0 ∗ Φ 1 1)

/-! ## The exchange -/

/-- The channel of phase `g`, pipe `p`, direction `b`, step `t`. -/
def ch (g : Fin 4) (p b : Fin 2) (t : Fin 3) : Ch := ⟨24 * p.val + 6 * g.val + 3 * b.val + t.val, by omega⟩

/-- The ring a phase works on. -/
def ringOf (g : Fin 4) (p : Fin 2) : Fin 2 :=
  match g with
  | 0 => p
  | 1 => oth p
  | 2 => oth p
  | 3 => p

abbrev srcH (g : Fin 4) (t : Fin 3) (p b : Fin 2) : sProp 𝕄 := owns (c : Thread nD τ) (srcG g p t b) fullShare (blkG g (V x g p b t.val c))
abbrev landH (g : Fin 4) (t : Fin 3) (p b : Fin 2) : sProp 𝕄 :=
  owns (c : Thread nD τ) (landG g p t b) fullShare (blkG g (V x g p b t.val (frm (ringOf g p) b c)))

theorem snd_eq (g : Fin 4) (t : Fin 3) (p b : Fin 2) : sendPay (vs x) c (ch g p b t) = srcH x c g t p b := by
  fin_cases g <;> fin_cases t <;> fin_cases p <;> fin_cases b <;> rfl
theorem rcv_eq (g : Fin 4) (t : Fin 3) (p b : Fin 2) : recvPay (vs x) c (ch g p b t) = landH x c g t p b := by
  fin_cases g <;> fin_cases t <;> fin_cases p <;> fin_cases b <;> rfl
theorem stage_ch (g : Fin 4) (t : Fin 3) (p b : Fin 2) : stage (ch g p b t) = 3 * g.val + t.val := by
  revert g t p b; decide

variable (K : Dev nD × CI → ℕ)

theorem wp_stage (g : Fin 4) (t : Fin 3) (l₀ l D : List Ch) (n₀ n₁ n₂ n₃ : Dev nD) (hn₀ : n₀ = dst (ch g 0 0 t) c) (hn₁ : n₁ = dst (ch g 0 1 t) c)
    (hn₂ : n₂ = dst (ch g 1 0 t) c) (hn₃ : n₃ = dst (ch g 1 1 t) c) (hl₀ : l₀ = ch g 0 0 t :: ch g 0 1 t :: ch g 1 0 t :: ch g 1 1 t :: l)
    (hl : ∀ j ∈ l, 3 * g.val + t.val < stage j)
    {α : Type} {Q : α → sProp 𝕄} {kt : PUnit → PP F α} :
    iprop(records (vs x) K ∗ fourP (srcH x c g t) ∗ bigSepL l₀ (pre c) ∗ bigSepL D (closed c) ∗ owesR c (oweL c l₀)
        ∗ ((fourP (srcH x c g t) ∗ fourP (landH x c g t) ∗ bigSepL l (pre c)
              ∗ bigSepL (ch g 0 0 t :: ch g 0 1 t :: ch g 1 0 t :: ch g 1 1 t :: D) (closed c) ∗ owesR c (oweL c l))
            -∗ wp frame (wpE (defs₀ (F := F)) 𝒱₀ (c : Thread nD τ) none) Set.univ (kt ⟨⟩) Q))
      ⊢ wp frame (wpE (defs₀ (F := F)) 𝒱₀ (c : Thread nD τ) none) Set.univ
          (exchP (ch g 0 0 t) (ch g 0 1 t) (ch g 1 0 t) (ch g 1 1 t) n₀ n₁ n₂ n₃ kt) Q := by
  subst hl₀
  refine Entails.trans' ?_ (wp_exch (vs x) K c (ch g 0 0 t) (ch g 0 1 t) (ch g 1 0 t) (ch g 1 1 t) l n₀ n₁ n₂ n₃ hn₀ hn₁ hn₂ hn₃
    (fun j hj => by simp only [stage_ch]; exact ⟨hl j hj, hl j hj, hl j hj, hl j hj⟩))
  unfold four fourP
  simp only [snd_eq, rcv_eq, bigSepL_cons']
  iintro ⟨HR, HS, ⟨P₀, P₁, P₂, P₃, HP⟩, HD, HO, Hk⟩
  isplitl [HR]; · iexact HR
  isplitl [HS]; · iexact HS
  isplitl [P₀ P₁ P₂ P₃]
  · isplitl [P₀]; · iexact P₀
    isplitl [P₁]; · iexact P₁
    isplitl [P₂]; · iexact P₂
    iexact P₃
  isplitl [HO]; · iexact HO
  iintro ⟨HS, HL, ⟨C₀, C₁, C₂, C₃⟩, HO⟩
  iapply Hk
  isplitl [HS]; · iexact HS
  isplitl [HL]; · iexact HL
  isplitl [HP]; · iexact HP
  isplitr [HO]
  · isplitl [C₀]; · iexact C₀
    isplitl [C₁]; · iexact C₁
    isplitl [C₂]; · iexact C₂
    isplitl [C₃]; · iexact C₃
    iexact HD
  iexact HO

/-! ## What is done between the exchanges -/

section Between

variable {α : Type} (kt : PUnit → PP F α)

/-- First stage: the own blocks staged. -/
def putSAP : PP F α :=
  cpXAP mSA 0 (0 : Fin 2) (k1_off1 c) (k1_off1_inb c) fun _ => cpXAP mSA 0 (1 : Fin 2) (k1_off2 c) (k1_off2_inb c) fun _ =>
    cpXAP mSA 1 (0 : Fin 2) (k1_off3 c) (k1_off3_inb c) fun _ => cpXAP mSA 1 (1 : Fin 2) (k1_off4 c) (k1_off4_inb c) kt

/-- First phase: the own block added to what came. -/
def addAP (t : Fin 3) : PP F α :=
  adXAP (mA 0) 0 t (k1_off5 c (BitVec.ofNat 32 t.val)) (k1_off5_inb c t) fun _ =>
    adXAP (mA 1) 0 t (k1_off6 c 2#32 (BitVec.ofNat 32 t.val)) (k1_off6_inb c 1 t) fun _ =>
      adXAP (mA 0) 1 t (k1_off7 c (BitVec.ofNat 32 t.val)) (k1_off7_inb c t) fun _ =>
        adXAP (mA 1) 1 t (k1_off8 c 2#32 (BitVec.ofNat 32 t.val)) (k1_off8_inb c 1 t) kt

/-- Second phase. -/
def addBP (t : Fin 3) : PP F α :=
  adZBP (mB 0) 0 (lo t) (k1_off13 c (BitVec.ofNat 32 t.val)) (k1_off13_inb c t) fun _ =>
    adZBP (mB 1) 0 (lo t) (k1_off14 c 2#32 (BitVec.ofNat 32 t.val)) (k1_off14_inb c 1 t) fun _ =>
      adZBP (mB 0) 1 (lo t) (k1_off15 c (BitVec.ofNat 32 t.val)) (k1_off15_inb c t) fun _ =>
        adZBP (mB 1) 1 (lo t) (k1_off16 c 2#32 (BitVec.ofNat 32 t.val)) (k1_off16_inb c 1 t) kt

/-- Between the first two phases, one pipe: the reduced chunk put together, the own blocks of it staged. -/
def turnP (p : Fin 2) (o₀ o₁ : Fin 3 → ℕ) (h₀ : ∀ a, o₀ a + S1x128x128.size a ≤ S2x512x256.size a) (h₁ : ∀ a, o₁ a + S1x128x128.size a ≤ S2x512x256.size a) :
    PP F α :=
  cpAZP (mA 0) p 0 (2 : Fin 3) fun _ => cpAZP (mA 1) p 1 (2 : Fin 3) fun _ => cpZBP mSB p (0 : Fin 2) o₀ h₀ fun _ => cpZBP mSB p (1 : Fin 2) o₁ h₁ kt

/-- Four blocks put in their places in the buffer of the reduced chunks. -/
def putZP (t : Fin 6) (o : Fin 2 → Fin 2 → Fin 3 → ℕ) (h : ∀ p b a, o p b a + S1x128x128.size a ≤ S2x512x256.size a) : PP F α :=
  cpBZP (mB 0) 0 t (o 0 0) (h 0 0) fun _ => cpBZP (mB 1) 0 t (o 0 1) (h 0 1) fun _ =>
    cpBZP (mB 0) 1 t (o 1 0) (h 1 0) fun _ => cpBZP (mB 1) 1 t (o 1 1) (h 1 1) kt

/-- Four blocks put in their places in the result: the own ones, or those that came. -/
def putOP' (o : Fin 2 → Fin 2 → Fin 2 → ℕ) (h : ∀ p b a, o p b a + S256x256.size a ≤ S1024x1024.size a) : PP F α :=
  cpZOP 0 0 (o 0 0) (h 0 0) fun _ => cpZOP 0 1 (o 0 1) (h 0 1) fun _ => cpZOP 1 0 (o 1 0) (h 1 0) fun _ => cpZOP 1 1 (o 1 1) (h 1 1) kt
def putOP (t : Fin 3) (o : Fin 2 → Fin 2 → Fin 2 → ℕ) (h : ∀ p b a, o p b a + S256x256.size a ≤ S1024x1024.size a) : PP F α :=
  cpAOP (mC 0) 0 t (o 0 0) (h 0 0) fun _ => cpAOP (mC 1) 0 t (o 0 1) (h 0 1) fun _ =>
    cpAOP (mC 0) 1 t (o 1 0) (h 1 0) fun _ => cpAOP (mC 1) 1 t (o 1 1) (h 1 1) kt

variable {kt}

theorem wp_putSA {Q : α → sProp 𝕄} :
    iprop(hasX c (x c) ∗ fourP (fun p b => anyA c mSA p b)
        ∗ ((hasX c (x c) ∗ fourP (fun p b => hasA c mSA p b (VA x p b 0 c))) -∗ wp frame (wpE (defs₀ (F := F)) 𝒱₀ (c : Thread nD τ) none) Set.univ (kt ⟨⟩) Q))
      ⊢ wp frame (wpE (defs₀ (F := F)) 𝒱₀ (c : Thread nD τ) none) Set.univ (putSAP c kt) Q := by
  unfold fourP putSAP
  iintro ⟨HX, ⟨H₀, H₁, H₂, H₃⟩, Hk⟩
  iapply (wp_cpXA c mSA 0 (0 : Fin 2) _ _ (x c) _ _ (off1_eq c)); isplitl [HX]; · iexact HX
  isplitl [H₀]; · iexact H₀
  iintro ⟨HX, H₀⟩
  iapply (wp_cpXA c mSA 0 (1 : Fin 2) _ _ (x c) _ _ (off2_eq c)); isplitl [HX]; · iexact HX
  isplitl [H₁]; · iexact H₁
  iintro ⟨HX, H₁⟩
  iapply (wp_cpXA c mSA 1 (0 : Fin 2) _ _ (x c) _ _ (off3_eq c)); isplitl [HX]; · iexact HX
  isplitl [H₂]; · iexact H₂
  iintro ⟨HX, H₂⟩
  iapply (wp_cpXA c mSA 1 (1 : Fin 2) _ _ (x c) _ _ (off4_eq c)); isplitl [HX]; · iexact HX
  isplitl [H₃]; · iexact H₃
  iintro ⟨HX, H₃⟩
  iapply Hk
  isplitl [HX]; · iexact HX
  isplitl [H₀]; · iexact H₀
  isplitl [H₁]; · iexact H₁
  isplitl [H₂]; · iexact H₂
  iexact H₃

theorem wp_addA (t : Fin 3) {Q : α → sProp 𝕄} :
    iprop(hasX c (x c) ∗ fourP (fun p b => hasA c (mA b) p t (VA x p b t.val (frm p b c)))
        ∗ ((hasX c (x c) ∗ fourP (fun p b => hasA c (mA b) p t (VA x p b (t.val + 1) c)))
            -∗ wp frame (wpE (defs₀ (F := F)) 𝒱₀ (c : Thread nD τ) none) Set.univ (kt ⟨⟩) Q))
      ⊢ wp frame (wpE (defs₀ (F := F)) 𝒱₀ (c : Thread nD τ) none) Set.univ (addAP c kt t) Q := by
  unfold fourP addAP
  iintro ⟨HX, ⟨H₀, H₁, H₂, H₃⟩, Hk⟩
  iapply (wp_adXA c (mA 0) 0 t _ _ _ (x c) _ _ (off5_eq c t)); isplitl [HX]; · iexact HX
  isplitl [H₀]; · iexact H₀
  iintro ⟨HX, H₀⟩
  iapply (wp_adXA c (mA 1) 0 t _ _ _ (x c) _ _ (off6_eq c t)); isplitl [HX]; · iexact HX
  isplitl [H₁]; · iexact H₁
  iintro ⟨HX, H₁⟩
  iapply (wp_adXA c (mA 0) 1 t _ _ _ (x c) _ _ (off7_eq c t)); isplitl [HX]; · iexact HX
  isplitl [H₂]; · iexact H₂
  iintro ⟨HX, H₂⟩
  iapply (wp_adXA c (mA 1) 1 t _ _ _ (x c) _ _ (off8_eq c t)); isplitl [HX]; · iexact HX
  isplitl [H₃]; · iexact H₃
  iintro ⟨HX, H₃⟩
  iapply Hk
  isplitl [HX]; · iexact HX
  isplitl [H₀]; · iexact H₀
  isplitl [H₁]; · iexact H₁
  isplitl [H₂]; · iexact H₂
  iexact H₃

theorem wp_addB (t : Fin 3) {Q : α → sProp 𝕄} :
    iprop(partZ c (fun p => Z1 x p c) (fun _ => True) ∗ fourP (fun p b => hasB c (mB b) p (lo t) (VB x p b t.val (frm (oth p) b c)))
        ∗ ((partZ c (fun p => Z1 x p c) (fun _ => True) ∗ fourP (fun p b => hasB c (mB b) p (lo t) (VB x p b (t.val + 1) c)))
            -∗ wp frame (wpE (defs₀ (F := F)) 𝒱₀ (c : Thread nD τ) none) Set.univ (kt ⟨⟩) Q))
      ⊢ wp frame (wpE (defs₀ (F := F)) 𝒱₀ (c : Thread nD τ) none) Set.univ (addBP c kt t) Q := by
  unfold fourP addBP
  iintro ⟨HX, ⟨H₀, H₁, H₂, H₃⟩, Hk⟩
  iapply (wp_adZB c (mB 0) 0 (lo t) _ _ _ (fun p => Z1 x p c) _ _ _ (off13_eq c t) (fun _ _ => trivial)); isplitl [HX]; · iexact HX
  isplitl [H₀]; · iexact H₀
  iintro ⟨HX, H₀⟩
  iapply (wp_adZB c (mB 1) 0 (lo t) _ _ _ (fun p => Z1 x p c) _ _ _ (off14_eq c t) (fun _ _ => trivial)); isplitl [HX]; · iexact HX
  isplitl [H₁]; · iexact H₁
  iintro ⟨HX, H₁⟩
  iapply (wp_adZB c (mB 0) 1 (lo t) _ _ _ (fun p => Z1 x p c) _ _ _ (off15_eq c t) (fun _ _ => trivial)); isplitl [HX]; · iexact HX
  isplitl [H₂]; · iexact H₂
  iintro ⟨HX, H₂⟩
  iapply (wp_adZB c (mB 1) 1 (lo t) _ _ _ (fun p => Z1 x p c) _ _ _ (off16_eq c t) (fun _ _ => trivial)); isplitl [HX]; · iexact HX
  isplitl [H₃]; · iexact H₃
  iintro ⟨HX, H₃⟩
  iapply Hk
  isplitl [HX]; · iexact HX
  isplitl [H₀]; · iexact H₀
  isplitl [H₁]; · iexact H₁
  isplitl [H₂]; · iexact H₂
  iexact H₃

end Between

end Cert.AllReduce

end
-- ==== Proof.Stages2.lean ====
/-
# The stages that fill a buffer piece by piece

The buffer of the reduced chunks is put together from the first phase's sums, then filled again by the first gather; the
result is filled by the second.
-/
module

public import proofs.«01_k».proof.Proof.Stages

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → Tab F) (c : Dev nD)

/-! ## Which places are filled -/

theorem gch_lt (b : Fin 2) (q n : ℕ) : gch b q n < 4 := by unfold gch; split <;> omega
theorem chk_lt (b : Fin 2) (q n : ℕ) : chk b q n < 4 := by unfold chk; split <;> omega
theorem pos_lt (r : Fin 2) (c : Dev nD) : pos r c < 4 := by have h : c.val < 16 := c.isLt; unfold pos; split <;> omega
theorem gst_gch (b : Fin 2) (q n : ℕ) (hq : q < 4) (hn : n < 4) : gst b q (gch b q n) = n := by unfold gst gch; split <;> omega
theorem gch_gst (b : Fin 2) (q k : ℕ) (hq : q < 4) (hk : k < 4) : gch b q (gst b q k) = k := by unfold gst gch; split <;> omega
theorem gst_lt (b : Fin 2) (q k : ℕ) : gst b q k < 4 := by unfold gst; split <;> omega

/-- The column halves of the reduced chunks' buffer and of a pipe of the result. -/
def colZ (j : ℕ) : Fin 2 := if j < 128 then 0 else 1
def pipO (j : ℕ) : Fin 2 := if j < 512 then 0 else 1
def colO (j : ℕ) : Fin 2 := if j % 512 < 256 then 0 else 1

/-- The places the gathers' first `n` steps fill. -/
def DZ (n : ℕ) (i : S2x512x256.Idx) : Prop := gst (colZ (i 2).val) (pos (oth (i 0)) c) ((i 1).val / 128) < n
def DO (n : ℕ) (i : S1024x1024.Idx) : Prop := gst (colO (i 1).val) (pos (pipO (i 1).val) c) ((i 0).val / 256) < n

theorem DZ_full (i : S2x512x256.Idx) : DZ c 4 i := gst_lt _ _ _
theorem DO_full (i : S1024x1024.Idx) : DO c 4 i := gst_lt _ _ _

theorem DZ_mem (n : ℕ) (o : Fin 3 → ℕ) (h : ∀ a, o a + S1x128x128.size a ≤ S2x512x256.size a) (p b : Fin 2)
    (ho : o = offZ p b (gch b (pos (oth p) c) n)) (i : S2x512x256.Idx) (hp : i 0 = p) (hb : colZ (i 2).val = b)
    (hn : gst (colZ (i 2).val) (pos (oth (i 0)) c) ((i 1).val / 128) = n) : i ∈ (rY o h).set := by
  subst ho
  rw [hp, hb] at hn
  have h1 : (i 1).val < 512 := (i 1).isLt
  have h2 : (i 2).val < 256 := (i 2).isLt
  have hk : gch b (pos (oth p) c) n = (i 1).val / 128 := by rw [← hn]; exact gch_gst _ _ _ (pos_lt _ _) (by omega)
  refine Rect.mem_set_unit.mpr fun a => ?_
  fin_cases a
  · show p.val ≤ (i 0).val ∧ (i 0).val < p.val + 1
    rw [hp]; omega
  · show 128 * gch b (pos (oth p) c) n ≤ (i 1).val ∧ (i 1).val < 128 * gch b (pos (oth p) c) n + 128
    rw [hk]; omega
  · show 128 * b.val ≤ (i 2).val ∧ (i 2).val < 128 * b.val + 128
    unfold colZ at hb
    split at hb <;> subst hb <;> simp <;> omega

theorem DO_mem (n : ℕ) (o : Fin 2 → ℕ) (h : ∀ a, o a + S256x256.size a ≤ S1024x1024.size a) (p b : Fin 2)
    (ho : o = offX p b (gch b (pos p c) n)) (i : S1024x1024.Idx) (hp : pipO (i 1).val = p) (hb : colO (i 1).val = b)
    (hn : gst (colO (i 1).val) (pos (pipO (i 1).val) c) ((i 0).val / 256) = n) : i ∈ (rX o h).set := by
  subst ho
  rw [hp, hb] at hn
  have h1 : (i 0).val < 1024 := (i 0).isLt
  have h2 : (i 1).val < 1024 := (i 1).isLt
  have hk : gch b (pos p c) n = (i 0).val / 256 := by rw [← hn]; exact gch_gst _ _ _ (pos_lt _ _) (by omega)
  refine Rect.mem_set_unit.mpr fun a => ?_
  fin_cases a
  · show 256 * gch b (pos p c) n ≤ (i 0).val ∧ (i 0).val < 256 * gch b (pos p c) n + 256
    rw [hk]; omega
  · show 512 * p.val + 256 * b.val ≤ (i 1).val ∧ (i 1).val < 512 * p.val + 256 * b.val + 256
    unfold pipO at hp; unfold colO at hb
    split at hp <;> split at hb <;> subst hp <;> subst hb <;> simp <;> omega

omit [FloatOps F] in
theorem part_weaken {S : Shape} (M : Memref sig .tc .vmem S .f32) (T : S.Idx → Elt F .f32) (D D' : S.Idx → Prop) (h : ∀ i, D' i → D i) :
    part c M T D ⊢ part c M T D' := by
  unfold part
  iintro ⟨%X, %hX, H⟩
  iexists X
  isplitr
  · ipureintro; exact fun i hi => hX i (h i hi)
  · iexact H

theorem DZ_step (n : ℕ) (o : Fin 2 → Fin 2 → Fin 3 → ℕ) (h : ∀ p b a, o p b a + S1x128x128.size a ≤ S2x512x256.size a)
    (ho : ∀ p b, o p b = offZ p b (gch b (pos (oth p) c) n)) (i : S2x512x256.Idx) (hi : DZ c (n + 1) i) :
    (((DZ c n i ∨ i ∈ (rY (o 0 0) (h 0 0)).set) ∨ i ∈ (rY (o 0 1) (h 0 1)).set) ∨ i ∈ (rY (o 1 0) (h 1 0)).set) ∨ i ∈ (rY (o 1 1) (h 1 1)).set := by
  rcases Nat.lt_succ_iff_lt_or_eq.mp hi with hlt | heq
  · exact .inl (.inl (.inl (.inl hlt)))
  have key := fun p b hp hb => DZ_mem c n (o p b) (h p b) p b (ho p b) i hp hb heq
  rcases Fin.exists_fin_two.mp ⟨i 0, rfl⟩ with hp | hp <;> rcases Fin.exists_fin_two.mp ⟨colZ (i 2).val, rfl⟩ with hb | hb
  · exact .inl (.inl (.inl (.inr (key 0 0 hp hb))))
  · exact .inl (.inl (.inr (key 0 1 hp hb)))
  · exact .inl (.inr (key 1 0 hp hb))
  · exact .inr (key 1 1 hp hb)

theorem DO_step (n : ℕ) (o : Fin 2 → Fin 2 → Fin 2 → ℕ) (h : ∀ p b a, o p b a + S256x256.size a ≤ S1024x1024.size a)
    (ho : ∀ p b, o p b = offX p b (gch b (pos p c) n)) (i : S1024x1024.Idx) (hi : DO c (n + 1) i) :
    (((DO c n i ∨ i ∈ (rX (o 0 0) (h 0 0)).set) ∨ i ∈ (rX (o 0 1) (h 0 1)).set) ∨ i ∈ (rX (o 1 0) (h 1 0)).set) ∨ i ∈ (rX (o 1 1) (h 1 1)).set := by
  rcases Nat.lt_succ_iff_lt_or_eq.mp hi with hlt | heq
  · exact .inl (.inl (.inl (.inl hlt)))
  have key := fun p b hp hb => DO_mem c n (o p b) (h p b) p b (ho p b) i hp hb heq
  rcases Fin.exists_fin_two.mp ⟨pipO (i 1).val, rfl⟩ with hp | hp <;> rcases Fin.exists_fin_two.mp ⟨colO (i 1).val, rfl⟩ with hb | hb
  · exact .inl (.inl (.inl (.inr (key 0 0 hp hb))))
  · exact .inl (.inl (.inr (key 0 1 hp hb)))
  · exact .inl (.inr (key 1 0 hp hb))
  · exact .inr (key 1 1 hp hb)

/-- What a gather's step writes is the gathered table's block. -/
theorem Z2_blk (p b : Fin 2) (n : ℕ) (hn : n < 4) (i j : ℕ) (hi : i < 128) (hj : j < 128) :
    VC x p b n c i j = Z2 x p c (128 * gch b (pos (oth p) c) n + i) (128 * b.val + j) := by
  have e1 : (128 * gch b (pos (oth p) c) n + i) / 128 = gch b (pos (oth p) c) n := by omega
  have e2 : (128 * gch b (pos (oth p) c) n + i) % 128 = i := by omega
  have e3 : (128 * b.val + j) % 128 = j := by omega
  have e4 : (if 128 * b.val + j < 128 then (0 : Fin 2) else 1) = b := by
    rcases Fin.exists_fin_two.mp ⟨b, rfl⟩ with h | h <;> subst h
    · rw [if_pos (by simp; omega)]
    · rw [if_neg (by simp)]
  unfold Z2
  rw [e1, e2, e3, e4]
  show _ = VC x p b (gst b (pos (oth p) c) (gch b (pos (oth p) c) n)) c i j
  rw [gst_gch _ _ _ (pos_lt _ _) hn]

theorem Out_blk (p b : Fin 2) (n : ℕ) (hn : n < 4) (i j : ℕ) (hi : i < 256) (hj : j < 256) :
    VD x p b n c i j = Out x c (256 * gch b (pos p c) n + i) (512 * p.val + 256 * b.val + j) := by
  have e1 : (256 * gch b (pos p c) n + i) / 256 = gch b (pos p c) n := by omega
  have e2 : (256 * gch b (pos p c) n + i) % 256 = i := by omega
  have e3 : (512 * p.val + 256 * b.val + j) % 256 = j := by omega
  have e4 : (if 512 * p.val + 256 * b.val + j < 512 then (0 : Fin 2) else 1) = p := by
    have := b.isLt
    rcases Fin.exists_fin_two.mp ⟨p, rfl⟩ with h | h <;> subst h
    · rw [if_pos (by simp; omega)]
    · rw [if_neg (by simp; omega)]
  have e5 : (if (512 * p.val + 256 * b.val + j) % 512 < 256 then (0 : Fin 2) else 1) = b := by
    rcases Fin.exists_fin_two.mp ⟨b, rfl⟩ with h | h <;> subst h
    · rw [if_pos (by simp; omega)]
    · rw [if_neg (by simp; omega)]
  unfold Out
  rw [e1, e2, e3, e4, e5]
  show _ = VD x p b (gst b (pos p c) (gch b (pos p c) n)) c i j
  rw [gst_gch _ _ _ (pos_lt _ _) hn]

/-! ## The stages -/

section Between

variable {α : Type} {kt : PUnit → PP F α}

/-- The pipes below `n`. -/
def DT (n : ℕ) (i : S2x512x256.Idx) : Prop := (i 0).val < n

theorem DT_rY (p : Fin 2) (o : Fin 3 → ℕ) (h : ∀ a, o a + S1x128x128.size a ≤ S2x512x256.size a) (r s : ℕ) (ho : o = ![p.val, r, s])
    (i : S2x512x256.Idx) (hi : i ∈ (rY o h).set) : DT (p.val + 1) i := by
  subst ho
  exact (Rect.mem_set_unit.mp hi 0).2

theorem DT_step (p : Fin 2) (i : S2x512x256.Idx) (hi : DT (p.val + 1) i) : (DT p.val i ∨ i ∈ (rZ p 0).set) ∨ i ∈ (rZ p 1).set := by
  rcases Nat.lt_succ_iff_lt_or_eq.mp hi with hlt | heq
  · exact .inl (.inl hlt)
  have h1 : (i 1).val < 512 := (i 1).isLt
  have h2 : (i 2).val < 256 := (i 2).isLt
  by_cases hr : (i 1).val < 256
  · refine .inl (.inr (Rect.mem_set_unit.mpr fun a => ?_))
    fin_cases a
    · show p.val ≤ (i 0).val ∧ (i 0).val < p.val + 1
      omega
    · show 256 * 0 ≤ (i 1).val ∧ (i 1).val < 256 * 0 + 256
      omega
    · show 0 ≤ (i 2).val ∧ (i 2).val < 0 + 256
      omega
  · refine .inr (Rect.mem_set_unit.mpr fun a => ?_)
    fin_cases a
    · show p.val ≤ (i 0).val ∧ (i 0).val < p.val + 1
      omega
    · show 256 * 1 ≤ (i 1).val ∧ (i 1).val < 256 * 1 + 256
      omega
    · show 0 ≤ (i 2).val ∧ (i 2).val < 0 + 256
      omega

theorem Z1_lo (p : Fin 2) (i j : ℕ) (hi : i < 256) : VA x p 0 3 c i j = Z1 x p c (256 * (0 : Fin 2).val + i) j := by
  unfold Z1
  rw [if_pos (by simp; omega)]; simp
theorem Z1_hi (p : Fin 2) (i j : ℕ) : VA x p 1 3 c i j = Z1 x p c (256 * (1 : Fin 2).val + i) j := by
  unfold Z1
  rw [if_neg (by simp)]; simp

theorem wp_turn (p : Fin 2) (o₀ o₁ : Fin 3 → ℕ) (h₀ : ∀ a, o₀ a + S1x128x128.size a ≤ S2x512x256.size a) (h₁ : ∀ a, o₁ a + S1x128x128.size a ≤ S2x512x256.size a)
    (ho₀ : o₀ = offZ p 0 (chk 0 (pos (oth p) c) 0)) (ho₁ : o₁ = offZ p 1 (chk 1 (pos (oth p) c) 0)) {Q : α → sProp 𝕄} :
    iprop((hasA c (mA 0) p (2 : Fin 3) (VA x p 0 3 c) ∗ hasA c (mA 1) p (2 : Fin 3) (VA x p 1 3 c)) ∗ partZ c (fun p => Z1 x p c) (DT p.val)
        ∗ (anyB c mSB p 0 ∗ anyB c mSB p 1)
        ∗ (((hasA c (mA 0) p (2 : Fin 3) (VA x p 0 3 c) ∗ hasA c (mA 1) p (2 : Fin 3) (VA x p 1 3 c)) ∗ partZ c (fun p => Z1 x p c) (DT (p.val + 1))
              ∗ (hasB c mSB p 0 (VB x p 0 0 c) ∗ hasB c mSB p 1 (VB x p 1 0 c)))
            -∗ wp frame (wpE (defs₀ (F := F)) 𝒱₀ (c : Thread nD τ) none) Set.univ (kt ⟨⟩) Q))
      ⊢ wp frame (wpE (defs₀ (F := F)) 𝒱₀ (c : Thread nD τ) none) Set.univ (turnP kt p o₀ o₁ h₀ h₁) Q := by
  unfold turnP
  iintro ⟨⟨HA₀, HA₁⟩, HZ, ⟨HB₀, HB₁⟩, Hk⟩
  iapply (wp_cpAZ c (mA 0) p 0 (2 : Fin 3) (VA x p 0 3 c) (fun p => Z1 x p c) (DT p.val) (fun i j hi _ => Z1_lo x c p i j hi))
  isplitl [HA₀]; · iexact HA₀
  isplitl [HZ]; · iexact HZ
  iintro ⟨HA₀, HZ⟩
  iapply (wp_cpAZ c (mA 1) p 1 (2 : Fin 3) (VA x p 1 3 c) (fun p => Z1 x p c) _ (fun i j hi _ => Z1_hi x c p i j))
  isplitl [HA₁]; · iexact HA₁
  isplitl [HZ]; · iexact HZ
  iintro ⟨HA₁, HZ⟩
  ihave HZ := (part_weaken c mZ _ _ (DT (p.val + 1)) (DT_step p)) $$ HZ
  iapply (wp_cpZB c mSB p (0 : Fin 2) o₀ h₀ (fun p => Z1 x p c) _ _ _ ho₀ (DT_rY p o₀ h₀ _ _ ho₀))
  isplitl [HZ]; · iexact HZ
  isplitl [HB₀]; · iexact HB₀
  iintro ⟨HZ, HB₀⟩
  iapply (wp_cpZB c mSB p (1 : Fin 2) o₁ h₁ (fun p => Z1 x p c) _ _ _ ho₁ (DT_rY p o₁ h₁ _ _ ho₁))
  isplitl [HZ]; · iexact HZ
  isplitl [HB₁]; · iexact HB₁
  iintro ⟨HZ, HB₁⟩
  iapply Hk
  isplitl [HA₀ HA₁]
  · isplitl [HA₀]; · iexact HA₀
    iexact HA₁
  isplitl [HZ]; · iexact HZ
  isplitl [HB₀]; · iexact HB₀
  iexact HB₁

theorem wp_putZ (n : ℕ) (hn : n < 4) (t : Fin 6) (o : Fin 2 → Fin 2 → Fin 3 → ℕ) (h : ∀ p b a, o p b a + S1x128x128.size a ≤ S2x512x256.size a)
    (ho : ∀ p b, o p b = offZ p b (gch b (pos (oth p) c) n)) {Q : α → sProp 𝕄} :
    iprop(fourP (fun p b => hasB c (mB b) p t (VC x p b n c)) ∗ partZ c (fun p => Z2 x p c) (DZ c n)
        ∗ ((fourP (fun p b => hasB c (mB b) p t (VC x p b n c)) ∗ partZ c (fun p => Z2 x p c) (DZ c (n + 1)))
            -∗ wp frame (wpE (defs₀ (F := F)) 𝒱₀ (c : Thread nD τ) none) Set.univ (kt ⟨⟩) Q))
      ⊢ wp frame (wpE (defs₀ (F := F)) 𝒱₀ (c : Thread nD τ) none) Set.univ (putZP kt t o h) Q := by
  unfold fourP putZP
  iintro ⟨⟨H₀, H₁, H₂, H₃⟩, HZ, Hk⟩
  iapply (wp_cpBZ c (mB 0) 0 t (o 0 0) (h 0 0) (VC x 0 0 n c) (fun p => Z2 x p c) (DZ c n) _ _ (ho 0 0) (Z2_blk x c 0 0 n hn))
  isplitl [H₀]; · iexact H₀
  isplitl [HZ]; · iexact HZ
  iintro ⟨H₀, HZ⟩
  iapply (wp_cpBZ c (mB 1) 0 t (o 0 1) (h 0 1) (VC x 0 1 n c) (fun p => Z2 x p c) _ _ _ (ho 0 1) (Z2_blk x c 0 1 n hn))
  isplitl [H₁]; · iexact H₁
  isplitl [HZ]; · iexact HZ
  iintro ⟨H₁, HZ⟩
  iapply (wp_cpBZ c (mB 0) 1 t (o 1 0) (h 1 0) (VC x 1 0 n c) (fun p => Z2 x p c) _ _ _ (ho 1 0) (Z2_blk x c 1 0 n hn))
  isplitl [H₂]; · iexact H₂
  isplitl [HZ]; · iexact HZ
  iintro ⟨H₂, HZ⟩
  iapply (wp_cpBZ c (mB 1) 1 t (o 1 1) (h 1 1) (VC x 1 1 n c) (fun p => Z2 x p c) _ _ _ (ho 1 1) (Z2_blk x c 1 1 n hn))
  isplitl [H₃]; · iexact H₃
  isplitl [HZ]; · iexact HZ
  iintro ⟨H₃, HZ⟩
  ihave HZ := (part_weaken c mZ _ _ (DZ c (n + 1)) (DZ_step c n o h ho)) $$ HZ
  iapply Hk
  isplitr [HZ]
  · isplitl [H₀]; · iexact H₀
    isplitl [H₁]; · iexact H₁
    isplitl [H₂]; · iexact H₂
    iexact H₃
  iexact HZ

theorem wp_putO' (o : Fin 2 → Fin 2 → Fin 2 → ℕ) (h : ∀ p b a, o p b a + S256x256.size a ≤ S1024x1024.size a)
    (ho : ∀ p b, o p b = offX p b (gch b (pos p c) 0)) {Q : α → sProp 𝕄} :
    iprop(fourP (fun p b => hasZ c p b (VD x p b 0 c)) ∗ partO c (Out x c) (DO c 0)
        ∗ ((fourP (fun p b => hasZ c p b (VD x p b 0 c)) ∗ partO c (Out x c) (DO c 1))
            -∗ wp frame (wpE (defs₀ (F := F)) 𝒱₀ (c : Thread nD τ) none) Set.univ (kt ⟨⟩) Q))
      ⊢ wp frame (wpE (defs₀ (F := F)) 𝒱₀ (c : Thread nD τ) none) Set.univ (putOP' kt o h) Q := by
  unfold fourP putOP'
  have hn : 0 < 4 := by omega
  iintro ⟨⟨H₀, H₁, H₂, H₃⟩, HZ, Hk⟩
  iapply (wp_cpZO c 0 0 (o 0 0) (h 0 0) (VD x 0 0 0 c) (Out x c) (DO c 0) _ _ (ho 0 0) (Out_blk x c 0 0 0 hn))
  isplitl [H₀]; · iexact H₀
  isplitl [HZ]; · iexact HZ
  iintro ⟨H₀, HZ⟩
  iapply (wp_cpZO c 0 1 (o 0 1) (h 0 1) (VD x 0 1 0 c) (Out x c) _ _ _ (ho 0 1) (Out_blk x c 0 1 0 hn))
  isplitl [H₁]; · iexact H₁
  isplitl [HZ]; · iexact HZ
  iintro ⟨H₁, HZ⟩
  iapply (wp_cpZO c 1 0 (o 1 0) (h 1 0) (VD x 1 0 0 c) (Out x c) _ _ _ (ho 1 0) (Out_blk x c 1 0 0 hn))
  isplitl [H₂]; · iexact H₂
  isplitl [HZ]; · iexact HZ
  iintro ⟨H₂, HZ⟩
  iapply (wp_cpZO c 1 1 (o 1 1) (h 1 1) (VD x 1 1 0 c) (Out x c) _ _ _ (ho 1 1) (Out_blk x c 1 1 0 hn))
  isplitl [H₃]; · iexact H₃
  isplitl [HZ]; · iexact HZ
  iintro ⟨H₃, HZ⟩
  ihave HZ := (part_weaken c mO _ _ (DO c (0 + 1)) (DO_step c 0 o h ho)) $$ HZ
  iapply Hk
  isplitr [HZ]
  · isplitl [H₀]; · iexact H₀
    isplitl [H₁]; · iexact H₁
    isplitl [H₂]; · iexact H₂
    iexact H₃
  iexact HZ

theorem wp_putO (n : ℕ) (hn : n < 4) (t : Fin 3) (o : Fin 2 → Fin 2 → Fin 2 → ℕ) (h : ∀ p b a, o p b a + S256x256.size a ≤ S1024x1024.size a)
    (ho : ∀ p b, o p b = offX p b (gch b (pos p c) n)) {Q : α → sProp 𝕄} :
    iprop(fourP (fun p b => hasA c (mC b) p t (VD x p b n c)) ∗ partO c (Out x c) (DO c n)
        ∗ ((fourP (fun p b => hasA c (mC b) p t (VD x p b n c)) ∗ partO c (Out x c) (DO c (n + 1)))
            -∗ wp frame (wpE (defs₀ (F := F)) 𝒱₀ (c : Thread nD τ) none) Set.univ (kt ⟨⟩) Q))
      ⊢ wp frame (wpE (defs₀ (F := F)) 𝒱₀ (c : Thread nD τ) none) Set.univ (putOP kt t o h) Q := by
  unfold fourP putOP
  iintro ⟨⟨H₀, H₁, H₂, H₃⟩, HZ, Hk⟩
  iapply (wp_cpAO c (mC 0) 0 t (o 0 0) (h 0 0) (VD x 0 0 n c) (Out x c) (DO c n) _ _ (ho 0 0) (Out_blk x c 0 0 n hn))
  isplitl [H₀]; · iexact H₀
  isplitl [HZ]; · iexact HZ
  iintro ⟨H₀, HZ⟩
  iapply (wp_cpAO c (mC 1) 0 t (o 0 1) (h 0 1) (VD x 0 1 n c) (Out x c) _ _ _ (ho 0 1) (Out_blk x c 0 1 n hn))
  isplitl [H₁]; · iexact H₁
  isplitl [HZ]; · iexact HZ
  iintro ⟨H₁, HZ⟩
  iapply (wp_cpAO c (mC 0) 1 t (o 1 0) (h 1 0) (VD x 1 0 n c) (Out x c) _ _ _ (ho 1 0) (Out_blk x c 1 0 n hn))
  isplitl [H₂]; · iexact H₂
  isplitl [HZ]; · iexact HZ
  iintro ⟨H₂, HZ⟩
  iapply (wp_cpAO c (mC 1) 1 t (o 1 1) (h 1 1) (VD x 1 1 n c) (Out x c) _ _ _ (ho 1 1) (Out_blk x c 1 1 n hn))
  isplitl [H₃]; · iexact H₃
  isplitl [HZ]; · iexact HZ
  iintro ⟨H₃, HZ⟩
  ihave HZ := (part_weaken c mO _ _ (DO c (n + 1)) (DO_step c n o h ho)) $$ HZ
  iapply Hk
  isplitr [HZ]
  · isplitl [H₀]; · iexact H₀
    isplitl [H₁]; · iexact H₁
    isplitl [H₂]; · iexact H₂
    iexact H₃
  iexact HZ

end Between

end Cert.AllReduce

end
-- ==== Proof.Bar.lean ====
/-
# The barrier: each device gives its neighbours its landing slots, and takes theirs
-/
module

public import proofs.«01_k».proof.Proof.Steps
public import Idealize.ShloMosaic.Lib.Pipeline.BigSepL

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (vs : (k : Ch) → Dev nD → (sh k).Idx → Elt F .f32) (K : Dev nD × CI → ℕ)

omit [FloatOps F] in
/-- Four summands. -/
theorem bigSep_four (Φ : Fin 4 → sProp 𝕄) : bigSep Finset.univ Φ = iprop(Φ 0 ∗ Φ 1 ∗ Φ 2 ∗ Φ 3) := by
  rw [bigSep_univ_eq_bigSepL [0, 1, 2, 3] (by decide) (by decide)]
  simp only [bigSepL_cons', bigSepL_nil]
  exact congrArg (fun P => iprop(Φ 0 ∗ Φ 1 ∗ Φ 2 ∗ P)) (equiv_iff.mp BI.sep_emp)

/-- The slots grouped by the neighbour they are given to. -/
theorem slots_by (c : Dev nD) : (bigSep Finset.univ fun k => lent (F := F) c k) = bigSep Finset.univ fun i : Fin 4 => barPay (nb i c) (opp i) := by
  have hu : (Finset.univ : Finset Ch) = (Finset.univ : Finset (Fin 4)).biUnion fun i => Finset.univ.filter fun k => gd k = opp i := by decide
  rw [hu, bigSep_biUnion_eq]
  · refine bigSep_congr fun i _ => ?_
    unfold barPay
    rw [opp_nb]
  · decide

/-- What the neighbours give, channel by channel. -/
theorem slots_of (c : Dev nD) : (bigSep Finset.univ fun d => barPay (F := F) c d) = bigSep Finset.univ fun k => lent (dst k c) k := by
  have hu : (Finset.univ : Finset Ch) = (Finset.univ : Finset (Fin 4)).biUnion fun d => Finset.univ.filter fun k => gd k = d := by decide
  rw [hu, bigSep_biUnion_eq]
  · refine bigSep_congr fun d _ => bigSep_congr fun k hk => ?_
    unfold dst
    rw [(Finset.mem_filter.mp hk).2]
  · decide

/-- One signal to a neighbour, with the slots that neighbour fills. -/
theorem wp_sig (c : Dev nD) (i : Fin 4) (l : List (Fin 4)) (n : Dev nD) (hn : n = nb i c)
    {α : Type} {Q : α → sProp 𝕄} {kt : PUnit → Prog (TpuEff nD τ sig (Elt F) Λ₀ .tc) α} :
    iprop(records vs K ∗ dutyTok ER (barCell (nb i c)) 0 (opp i) ∗ barPay (nb i c) (opp i) ∗ owesR c (oweB c (i :: l))
        ∗ (owesR c (oweB c l) -∗ wp frame (wpE (defs₀ (F := F)) 𝒱₀ (c : Thread nD τ) none) Set.univ (kt ⟨⟩) Q))
      ⊢ wp frame (wpE (defs₀ (F := F)) 𝒱₀ (c : Thread nD τ) none) Set.univ (.op (.semSignal (Dev.tc n : Thread nD τ) barS 1) kt) Q := by
  subst hn
  iintro ⟨#HR, Htok, Hpay, HO, Hk⟩
  unfold owesR
  icases HO with ⟨%W, HO⟩
  iapply (Rounds.wp_signal 𝒱₀ ER (Rd vs) (c : Thread nD τ) none (dst := (nb i c : Thread nD τ)) (sem := barS) (r := 0) (κ := K (nb i c, none))
      (d := opp i) (by rw [duties_bar]; exact Finset.mem_univ _) (amount_bar vs (nb i c) (opp i)) () (oweB c l) rfl) $$ [HO Htok Hpay]
  · isplitr; · iapply (inv_at vs K (nb i c, none)); iexact HR
    isplitl [HO]; · iexact HO
    isplitl [Htok]; · iexact Htok
    isplitl [Hpay]; · iapply (Entails.of_eq (payload_bar vs (nb i c) (opp i)).symm); iexact Hpay
    iapply (reached_at vs K (nb i c)); iexact HR
  iintro HO
  iapply Hk
  iexists _; iexact HO

/-- The program that signals the four neighbours and waits for their four signals. -/
def barP (n₀ n₁ n₂ n₃ : Dev nD) {α : Type} (kt : PUnit → Prog (TpuEff nD τ sig (Elt F) Λ₀ .tc) α) : Prog (TpuEff nD τ sig (Elt F) Λ₀ .tc) α :=
  .op (.semSignal (Dev.tc n₀ : Thread nD τ) barS 1) fun _ => .op (.semSignal (Dev.tc n₁ : Thread nD τ) barS 1) fun _ =>
    .op (.semSignal (Dev.tc n₂ : Thread nD τ) barS 1) fun _ => .op (.semSignal (Dev.tc n₃ : Thread nD τ) barS 1) fun _ => .op (.semWait barS 4) kt

theorem wp_bar (c : Dev nD) (n₀ n₁ n₂ n₃ : Dev nD) (hn₀ : n₀ = nb 0 c) (hn₁ : n₁ = nb 1 c) (hn₂ : n₂ = nb 2 c) (hn₃ : n₃ = nb 3 c)
    {α : Type} {Q : α → sProp 𝕄} {kt : PUnit → Prog (TpuEff nD τ sig (Elt F) Λ₀ .tc) α} :
    iprop(records vs K ∗ atPos ER (barCell c) 0 ∅ 0 ∗ cred (tallyAt (barCell c) () 4)
        ∗ (bigSep Finset.univ fun i : Fin 4 => dutyTok ER (barCell (nb i c)) 0 (opp i)) ∗ (bigSep Finset.univ fun k => lent (F := F) c k)
        ∗ (bigSep Finset.univ fun k => rights c k) ∗ owesR c (O₀ c)
        ∗ ((semVal (barCell c) 0 ∗ bigSepL chs (pre c) ∗ owesR c (oweL c chs))
            -∗ wp frame (wpE (defs₀ (F := F)) 𝒱₀ (c : Thread nD τ) none) Set.univ (kt ⟨⟩) Q))
      ⊢ wp frame (wpE (defs₀ (F := F)) 𝒱₀ (c : Thread nD τ) none) Set.univ (barP n₀ n₁ n₂ n₃ kt) Q := by
  unfold barP
  rw [slots_by, bigSep_four, bigSep_four]
  iintro ⟨#HR, Hat, Hc, ⟨Ht₀, Ht₁, Ht₂, Ht₃⟩, ⟨Hs₀, Hs₁, Hs₂, Hs₃⟩, Hr, HO, Hk⟩
  unfold O₀
  iapply (wp_sig vs K c 0 [1, 2, 3] n₀ hn₀)
  isplitr; · iexact HR
  isplitl [Ht₀]; · iexact Ht₀
  isplitl [Hs₀]; · iexact Hs₀
  isplitl [HO]; · iexact HO
  iintro HO
  iapply (wp_sig vs K c 1 [2, 3] n₁ hn₁)
  isplitr; · iexact HR
  isplitl [Ht₁]; · iexact Ht₁
  isplitl [Hs₁]; · iexact Hs₁
  isplitl [HO]; · iexact HO
  iintro HO
  iapply (wp_sig vs K c 2 [3] n₂ hn₂)
  isplitr; · iexact HR
  isplitl [Ht₂]; · iexact Ht₂
  isplitl [Hs₂]; · iexact Hs₂
  isplitl [HO]; · iexact HO
  iintro HO
  iapply (wp_sig vs K c 3 [] n₃ hn₃)
  isplitr; · iexact HR
  isplitl [Ht₃]; · iexact Ht₃
  isplitl [Hs₃]; · iexact Hs₃
  isplitl [HO]; · iexact HO
  iintro HO
  unfold owesR oweB
  icases HO with ⟨%W, HO⟩
  iapply (Rounds.wp_wait_rest_token 𝒱₀ ER (Rd vs) (c : Thread nD τ) none (κ := K (c, none))
      (wpE_semWait_eq 𝒱₀ (c : Thread nD τ) none Set.univ) (Set.mem_univ _) () (O := oweL c chs) (W := W) (R := 0) (m := 0) (T := ∅)
      ((Nat.zero_add 4).trans (expect_bar vs c).symm)) $$ [Hc HO Hat]
  · isplitr; · iapply (inv_at vs K (c, none)); iexact HR
    isplitl [Hc]; · iexact Hc
    isplitl [HO]; · iexact HO
    isplitr
    · iapply (show (levs : sProp 𝕄) ⊢ MayWait (c : Thread nD τ) (.reg barS) () (oweL c chs) by
        unfold levs; exact mayWait_L c (.reg barS) 1 (show lvS (.reg barS) ≤ 1 from Nat.le_refl 1) chs fun j _ => Nat.lt_of_lt_of_le Nat.one_lt_two (Nat.le_add_right 2 (stage j)))
      iapply (lev_at vs K); iexact HR
    iexact Hat
  iintro ⟨HO, Hat, -, Hpay⟩
  ihave Hs := (Entails.of_eq ((rest_bar vs c).trans (slots_of c))) $$ Hpay
  imod (Rounds.cell_close ER (Rd vs) (Set.mem_univ (K (c, none))) (fun h => h) (R := 0 + 1) (duties_later vs (barCell c))) $$ [Hat] with Hz
  · isplitr; · iapply (inv_at vs K (c, none)); iexact HR
    iexact Hat
  iapply Hk
  isplitl [Hz]; · iexact Hz
  isplitl [Hr Hs]
  · iapply (Entails.of_eq (show (bigSep Finset.univ fun k => pre (F := F) c k) = bigSepL chs (pre c) from bigSep_univ_eq_bigSepL chs chs_univ chs_nodup _))
    unfold pre
    rw [bigSep_sep']
    isplitl [Hr] <;> iassumption
  iexists _; iexact HO

end Cert.AllReduce

end
-- ==== Proof.Whole.lean ====
/-
# The kernel's body as the stages it goes through
-/
module

public import proofs.«01_k».proof.Proof.Stages2
public import proofs.«01_k».proof.Proof.Bar

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The places of the blocks put in order -/

def oZ' (c : Dev nD) : Fin 2 → Fin 2 → Fin 3 → ℕ := ![![k1_off17 c, k1_off18 c], ![k1_off19 c, k1_off20 c]]
def oZ (c : Dev nD) (t : Fin 3) : Fin 2 → Fin 2 → Fin 3 → ℕ :=
  ![![k1_off21 c (BitVec.ofNat 32 t.val), k1_off14 c 1#32 (BitVec.ofNat 32 t.val)],
    ![k1_off22 c (BitVec.ofNat 32 t.val), k1_off16 c 1#32 (BitVec.ofNat 32 t.val)]]
def oO' (c : Dev nD) : Fin 2 → Fin 2 → Fin 2 → ℕ := ![![k1_off23 c, k1_off24 c], ![k1_off25 c, k1_off26 c]]
def oO (c : Dev nD) (t : Fin 3) : Fin 2 → Fin 2 → Fin 2 → ℕ :=
  ![![k1_off27 c (BitVec.ofNat 32 t.val), k1_off6 c 1#32 (BitVec.ofNat 32 t.val)],
    ![k1_off28 c (BitVec.ofNat 32 t.val), k1_off8 c 1#32 (BitVec.ofNat 32 t.val)]]

theorem oZ'_inb (c : Dev nD) : ∀ p b a, oZ' c p b a + S1x128x128.size a ≤ S2x512x256.size a :=
  Fin.forall_fin_two.mpr ⟨Fin.forall_fin_two.mpr ⟨k1_off17_inb c, k1_off18_inb c⟩, Fin.forall_fin_two.mpr ⟨k1_off19_inb c, k1_off20_inb c⟩⟩
theorem oZ_inb (c : Dev nD) (t : Fin 3) : ∀ p b a, oZ c t p b a + S1x128x128.size a ≤ S2x512x256.size a :=
  Fin.forall_fin_two.mpr ⟨Fin.forall_fin_two.mpr ⟨k1_off21_inb c t, k1_off14_inb c 0 t⟩, Fin.forall_fin_two.mpr ⟨k1_off22_inb c t, k1_off16_inb c 0 t⟩⟩
theorem oO'_inb (c : Dev nD) : ∀ p b a, oO' c p b a + S256x256.size a ≤ S1024x1024.size a :=
  Fin.forall_fin_two.mpr ⟨Fin.forall_fin_two.mpr ⟨k1_off23_inb c, k1_off24_inb c⟩, Fin.forall_fin_two.mpr ⟨k1_off25_inb c, k1_off26_inb c⟩⟩
theorem oO_inb (c : Dev nD) (t : Fin 3) : ∀ p b a, oO c t p b a + S256x256.size a ≤ S1024x1024.size a :=
  Fin.forall_fin_two.mpr ⟨Fin.forall_fin_two.mpr ⟨k1_off27_inb c t, k1_off6_inb c 0 t⟩, Fin.forall_fin_two.mpr ⟨k1_off28_inb c t, k1_off8_inb c 0 t⟩⟩

theorem oZ'_eq (c : Dev nD) : ∀ p b, oZ' c p b = offZ p b (gch b (pos (oth p) c) 0) :=
  Fin.forall_fin_two.mpr ⟨Fin.forall_fin_two.mpr ⟨off17_eq c, off18_eq c⟩, Fin.forall_fin_two.mpr ⟨off19_eq c, off20_eq c⟩⟩
theorem oZ_eq (c : Dev nD) (t : Fin 3) : ∀ p b, oZ c t p b = offZ p b (gch b (pos (oth p) c) (t.val + 1)) :=
  Fin.forall_fin_two.mpr ⟨Fin.forall_fin_two.mpr ⟨off21_eq c t, off14_eq' c t⟩, Fin.forall_fin_two.mpr ⟨off22_eq c t, off16_eq' c t⟩⟩
theorem oO'_eq (c : Dev nD) : ∀ p b, oO' c p b = offX p b (gch b (pos p c) 0) :=
  Fin.forall_fin_two.mpr ⟨Fin.forall_fin_two.mpr ⟨off23_eq c, off24_eq c⟩, Fin.forall_fin_two.mpr ⟨off25_eq c, off26_eq c⟩⟩
theorem oO_eq (c : Dev nD) (t : Fin 3) : ∀ p b, oO c t p b = offX p b (gch b (pos p c) (t.val + 1)) :=
  Fin.forall_fin_two.mpr ⟨Fin.forall_fin_two.mpr ⟨off27_eq c t, off6_eq' c t⟩, Fin.forall_fin_two.mpr ⟨off28_eq c t, off8_eq' c t⟩⟩

/-- The devices the stages send to, as the program computes them. -/
def dv (c : Dev nD) : Fin 4 → Fin 3 → Fin 2 → Fin 2 → Dev nD :=
  ![![![![⟨k1_dev5 c, k1_dev5_lt c⟩, ⟨k1_dev6 c, k1_dev6_lt c⟩], ![⟨k1_dev7 c, k1_dev7_lt c⟩, ⟨k1_dev8 c, k1_dev8_lt c⟩]],
      ![![⟨k1_dev9 c, k1_dev9_lt c⟩, ⟨k1_dev10 c, k1_dev10_lt c⟩], ![⟨k1_dev11 c, k1_dev11_lt c⟩, ⟨k1_dev12 c, k1_dev12_lt c⟩]],
      ![![⟨k1_dev13 c, k1_dev13_lt c⟩, ⟨k1_dev14 c, k1_dev14_lt c⟩], ![⟨k1_dev15 c, k1_dev15_lt c⟩, ⟨k1_dev16 c, k1_dev16_lt c⟩]]],
    ![![![⟨k1_dev17 c, k1_dev17_lt c⟩, ⟨k1_dev18 c, k1_dev18_lt c⟩], ![⟨k1_dev19 c, k1_dev19_lt c⟩, ⟨k1_dev20 c, k1_dev20_lt c⟩]],
      ![![⟨k1_dev21 c, k1_dev21_lt c⟩, ⟨k1_dev22 c, k1_dev22_lt c⟩], ![⟨k1_dev23 c, k1_dev23_lt c⟩, ⟨k1_dev24 c, k1_dev24_lt c⟩]],
      ![![⟨k1_dev25 c, k1_dev25_lt c⟩, ⟨k1_dev26 c, k1_dev26_lt c⟩], ![⟨k1_dev27 c, k1_dev27_lt c⟩, ⟨k1_dev28 c, k1_dev28_lt c⟩]]],
    ![![![⟨k1_dev29 c, k1_dev29_lt c⟩, ⟨k1_dev30 c, k1_dev30_lt c⟩], ![⟨k1_dev31 c, k1_dev31_lt c⟩, ⟨k1_dev32 c, k1_dev32_lt c⟩]],
      ![![⟨k1_dev33 c, k1_dev33_lt c⟩, ⟨k1_dev34 c, k1_dev34_lt c⟩], ![⟨k1_dev35 c, k1_dev35_lt c⟩, ⟨k1_dev36 c, k1_dev36_lt c⟩]],
      ![![⟨k1_dev37 c, k1_dev37_lt c⟩, ⟨k1_dev38 c, k1_dev38_lt c⟩], ![⟨k1_dev39 c, k1_dev39_lt c⟩, ⟨k1_dev40 c, k1_dev40_lt c⟩]]],
    ![![![⟨k1_dev41 c, k1_dev41_lt c⟩, ⟨k1_dev42 c, k1_dev42_lt c⟩], ![⟨k1_dev43 c, k1_dev43_lt c⟩, ⟨k1_dev44 c, k1_dev44_lt c⟩]],
      ![![⟨k1_dev45 c, k1_dev45_lt c⟩, ⟨k1_dev46 c, k1_dev46_lt c⟩], ![⟨k1_dev47 c, k1_dev47_lt c⟩, ⟨k1_dev48 c, k1_dev48_lt c⟩]],
      ![![⟨k1_dev49 c, k1_dev49_lt c⟩, ⟨k1_dev50 c, k1_dev50_lt c⟩], ![⟨k1_dev51 c, k1_dev51_lt c⟩, ⟨k1_dev52 c, k1_dev52_lt c⟩]]]]

theorem dv_eq (c : Dev nD) (g : Fin 4) (t : Fin 3) (p b : Fin 2) : dv c g t p b = dst (ch g p b t) c := by revert c g t p b; decide +kernel

/-- The exchange of phase `g`, step `t`. -/
def exP (c : Dev nD) (g : Fin 4) (t : Fin 3) {α : Type} (kt : PUnit → PP F α) : PP F α :=
  exchP (ch g 0 0 t) (ch g 0 1 t) (ch g 1 0 t) (ch g 1 1 t) (dv c g t 0 0) (dv c g t 0 1) (dv c g t 1 0) (dv c g t 1 1) kt

/-- The body on device `c`, followed by `kt`. -/
def wholeP (c : Dev nD) {α : Type} (kt : PUnit → PP F α) : PP F α :=
  barP ⟨k1_dev1 c, k1_dev1_lt c⟩ ⟨k1_dev2 c, k1_dev2_lt c⟩ ⟨k1_dev3 c, k1_dev3_lt c⟩ ⟨k1_dev4 c, k1_dev4_lt c⟩ <| fun _ =>
  putSAP c <| fun _ =>
  exP c 0 0 <| fun _ =>
  addAP c (fun _ =>
  exP c 0 1 <| fun _ =>
  addAP c (fun _ =>
  exP c 0 2 <| fun _ =>
  addAP c (fun _ =>
  turnP (fun _ =>
  turnP (fun _ =>
  exP c 1 0 <| fun _ =>
  addBP c (fun _ =>
  exP c 1 1 <| fun _ =>
  addBP c (fun _ =>
  exP c 1 2 <| fun _ =>
  addBP c (fun _ =>
  putZP (fun _ =>
  exP c 2 0 <| fun _ =>
  putZP (fun _ =>
  exP c 2 1 <| fun _ =>
  putZP (fun _ =>
  exP c 2 2 <| fun _ =>
  putZP (fun _ =>
  putOP' (fun _ =>
  exP c 3 0 <| fun _ =>
  putOP (fun _ =>
  exP c 3 1 <| fun _ =>
  putOP (fun _ =>
  exP c 3 2 <| fun _ =>
  putOP kt 2 (oO c 2) (oO_inb c 2)) 1 (oO c 1) (oO_inb c 1)) 0 (oO c 0) (oO_inb c 0)) (oO' c) (oO'_inb c)) (hi 2) (oZ c 2) (oZ_inb c 2)) (hi 1) (oZ c 1) (oZ_inb c 1)) (hi 0) (oZ c 0) (oZ_inb c 0)) (lo 2) (oZ' c) (oZ'_inb c)) 2) 1) 0) 1 (k1_off11 c) (k1_off12 c) (k1_off11_inb c) (k1_off12_inb c)) 0 (k1_off9 c) (k1_off10 c) (k1_off9_inb c) (k1_off10_inb c)) 2) 1) 0

set_option maxRecDepth 20000 in
theorem body_eq : cc1_body (F := F) (Memref.whole cc1_stg0_0) (Memref.isWhole_whole _) (Memref.whole cc1_stg1_0) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) cc1_scratch9 cc1_scratch10
    = .op .deviceId fun c => wholeP c .ret := by
  rw [cc1_body_eq_skeleton]
  rfl

end Cert.AllReduce

end
-- ==== Proof.Walk.lean ====
/-
# The kernel's body, run once at a symbolic device
-/
module

public import proofs.«01_k».proof.Proof.Whole

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → Tab F) (c : Dev nD) (K : Dev nD × CI → ℕ)

/-! ## The channels done so far -/

/-- The channels of the stages listed. -/
def doneL : List (Fin 4 × Fin 3) → List Ch
  | [] => []
  | s :: l => ch s.1 0 0 s.2 :: ch s.1 0 1 s.2 :: ch s.1 1 0 s.2 :: ch s.1 1 1 s.2 :: doneL l

/-- All stages, the last first. -/
def allS : List (Fin 4 × Fin 3) := [(3, 2), (3, 1), (3, 0), (2, 2), (2, 1), (2, 0), (1, 2), (1, 1), (1, 0), (0, 2), (0, 1), (0, 0)]

theorem done_univ : (Finset.univ : Finset Ch) = (doneL allS).toFinset := by decide +kernel
theorem done_nodup : (doneL allS).Nodup := by decide +kernel

theorem slot_eq (g : Fin 4) (t : Fin 3) (p b : Fin 2) :
    slotPay (F := F) c (ch g p b t) = iprop(∃ X, owns (c : Thread nD τ) (landG g p t b) fullShare X) := by
  fin_cases g <;> fin_cases t <;> fin_cases p <;> fin_cases b <;> rfl

/-- Landing slots no longer read are kept with the others. -/
theorem junk (g : Fin 4) (t : Fin 3) (D : List (Fin 4 × Fin 3)) (Φ : Fin 2 → Fin 2 → sProp 𝕄)
    (h : ∀ p b, Φ p b ⊢ iprop(∃ X, owns (c : Thread nD τ) (landG g p t b) fullShare X)) :
    iprop(fourP Φ ∗ bigSepL (doneL D) (slotPay (F := F) c)) ⊢ bigSepL (doneL ((g, t) :: D)) (slotPay (F := F) c) := by
  unfold fourP
  rw [show doneL ((g, t) :: D) = ch g 0 0 t :: ch g 0 1 t :: ch g 1 0 t :: ch g 1 1 t :: doneL D from rfl]
  simp only [bigSepL_cons', slot_eq]
  iintro ⟨⟨H₀, H₁, H₂, H₃⟩, HJ⟩
  isplitl [H₀]; · iapply (h 0 0); iexact H₀
  isplitl [H₁]; · iapply (h 0 1); iexact H₁
  isplitl [H₂]; · iapply (h 1 0); iexact H₂
  isplitl [H₃]; · iapply (h 1 1); iexact H₃
  iexact HJ

/-- A stage's exchange, the channels still to come being those after it in program order. -/
theorem wp_ex (g : Fin 4) (t : Fin 3) (D : List (Fin 4 × Fin 3)) {α : Type} {Q : α → sProp 𝕄} {kt : PUnit → PP F α} :
    iprop(records (vs x) K ∗ fourP (srcH x c g t) ∗ bigSepL (chs.drop (4 * (3 * g.val + t.val))) (pre c) ∗ bigSepL (doneL D) (closed c)
        ∗ owesR c (oweL c (chs.drop (4 * (3 * g.val + t.val))))
        ∗ ((fourP (srcH x c g t) ∗ fourP (landH x c g t) ∗ bigSepL (chs.drop (4 * (3 * g.val + t.val + 1))) (pre c)
              ∗ bigSepL (doneL ((g, t) :: D)) (closed c) ∗ owesR c (oweL c (chs.drop (4 * (3 * g.val + t.val + 1)))))
            -∗ wp frame (wpE (defs₀ (F := F)) 𝒱₀ (c : Thread nD τ) none) Set.univ (kt ⟨⟩) Q))
      ⊢ wp frame (wpE (defs₀ (F := F)) 𝒱₀ (c : Thread nD τ) none) Set.univ (exP c g t kt) Q :=
  wp_stage x c K g t _ _ (doneL D) _ _ _ _ (dv_eq c g t 0 0) (dv_eq c g t 0 1) (dv_eq c g t 1 0) (dv_eq c g t 1 1)
    (by revert g t; decide +kernel) (by revert g t; decide +kernel)

end Cert.AllReduce

end
-- ==== Proof.Split.lean ====
/-
# Buffers and their slots
-/
module

public import proofs.«01_k».proof.Proof.Walk

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (c : Dev nD)

instance elt_nonempty (e : EltTy) : Nonempty (Elt F e) := by
  cases e <;> first | exact ⟨FloatOps.ofBits (F := F) _ 0⟩ | exact ⟨(0 : BitVec _)⟩

/-! ## A squeezed slice, and the slice -/

section Squeeze

variable {s t : Shape} (M : Memref sig .tc .vmem s .f32) (r : Rect s) (h : ∀ a, r.stride a = 1) (hs : r.shape.Squeezes t)

omit [FloatOps F] in
theorem sq_of (X : r.shape.Idx → Elt F .f32) :
    (owns (c : Thread nD τ) (M.slice r h) fullShare X : sProp 𝕄) ⊢ owns (c : Thread nD τ) ((M.slice r h).squeeze t hs) fullShare
      (fun j => X (Shape.reshapeEquiv hs.numel_eq j)) := by
  unfold owns
  iintro ⟨%f, %hf, H⟩
  iexists f
  isplitr
  · ipureintro; rw [← hf]; rfl
  · rw [slot_set]; iexact H

omit [FloatOps F] in
theorem of_sq (Y : t.Idx → Elt F .f32) :
    (owns (c : Thread nD τ) ((M.slice r h).squeeze t hs) fullShare Y : sProp 𝕄) ⊢ (iprop(∃ X, owns (c : Thread nD τ) (M.slice r h) fullShare X) : sProp 𝕄) := by
  unfold owns
  iintro ⟨%f, %hf, H⟩
  iexists _
  iexists f
  isplitr
  · ipureintro; rfl
  · rw [slot_set]; iexact H

end Squeeze

/-! ## A buffer as disjoint slices -/

section Rects

variable {s : Shape} (M : Memref sig .tc .vmem s .f32) {T : Type} [Fintype T] [DecidableEq T] (r : T → Rect s) (hr : ∀ t a, (r t).stride a = 1)
  (hd : ∀ t t', t ≠ t' → Disjoint (r t).set (r t').set) (hcov : (Finset.univ : Finset T).biUnion (fun t => (r t).set) = Finset.univ)
  {t' : Shape} (hs : ∀ t, (r t).shape.Squeezes t')

include hd hcov

theorem any_split : iprop(∃ X, owns (c : Thread nD τ) M fullShare X)
    ⊢ bigSep Finset.univ fun t => (iprop(∃ Y, owns (c : Thread nD τ) ((M.slice (r t) (hr t)).squeeze t' (hs t)) fullShare Y) : sProp 𝕄) := by
  have h₁ (X : s.Idx → Elt F .f32) : (bigSep Finset.univ fun t => (owns (c : Thread nD τ) (M.slice (r t) (hr t)) fullShare (fun j => X ((r t).emb j)) : sProp 𝕄))
      ⊢ bigSep Finset.univ fun t => (iprop(∃ Y, owns (c : Thread nD τ) ((M.slice (r t) (hr t)).squeeze t' (hs t)) fullShare Y) : sProp 𝕄) :=
    bigSep_mono fun t _ => (sq_of c M (r t) (hr t) (hs t) _).trans (exists_intro _)
  iintro ⟨%X, H⟩
  ihave H := (owns_rects (c : Thread nD τ) M fullShare r hr hd hcov X) $$ H
  iapply (h₁ X) $$ H

theorem any_join : (bigSep Finset.univ fun t => (iprop(∃ Y, owns (c : Thread nD τ) ((M.slice (r t) (hr t)).squeeze t' (hs t)) fullShare Y) : sProp 𝕄))
    ⊢ iprop(∃ X, owns (c : Thread nD τ) M fullShare X) := by
  have h₁ : (bigSep Finset.univ fun t => (iprop(∃ Y, owns (c : Thread nD τ) ((M.slice (r t) (hr t)).squeeze t' (hs t)) fullShare Y) : sProp 𝕄))
      ⊢ bigSep Finset.univ fun t => (iprop(∃ X, owns (c : Thread nD τ) (M.slice (r t) (hr t)) fullShare X) : sProp 𝕄) := bigSep_mono fun t _ =>
    exists_elim fun Y => of_sq c M (r t) (hr t) (hs t) Y
  have hne : ∀ t, Nonempty ((r t).shape.Idx → Elt F .f32) := fun t => ⟨fun _ => FloatOps.ofBits .f32 0⟩
  iintro H
  ihave H := h₁ $$ H
  ihave H := (bigSep_exists_pi Finset.univ fun (t : T) (X : (r t).shape.Idx → Elt F .f32) => owns (c : Thread nD τ) (M.slice (r t) (hr t)) fullShare X) $$ H
  icases H with ⟨%Xs, H⟩
  have hX : ∃ X : s.Idx → Elt F .f32, ∀ t j, X ((r t).emb j) = Xs t j := by
    classical
    refine ⟨fun i => if hi : ∃ t j, (r t).emb j = i then Xs hi.choose hi.choose_spec.choose else FloatOps.ofBits .f32 0, fun t j => ?_⟩
    have hi : ∃ t' j', (r t').emb j' = (r t).emb j := ⟨t, j, rfl⟩
    show (if hi : ∃ t' j', (r t').emb j' = (r t).emb j then Xs hi.choose hi.choose_spec.choose else _) = _
    rw [dif_pos hi]
    have he := hi.choose_spec.choose_spec
    revert he
    generalize hi.choose_spec.choose = j'
    revert j'
    generalize hi.choose = u
    intro j' he
    have mem (u : T) (j : (r u).shape.Idx) : (r u).emb j ∈ (r u).set := (r u).map_emb_univ ▸ Finset.mem_map_of_mem _ (Finset.mem_univ j)
    have hu : u = t := by
      by_contra hne
      exact Finset.disjoint_left.mp (hd u t hne) (mem u j') (he ▸ mem t j)
    subst hu
    rw [(r u).emb.injective he]
  obtain ⟨X, hX⟩ := hX
  iexists X
  iapply (owns_of_rects (c : Thread nD τ) M fullShare r hr hd hcov X)
  simp only [hX]
  iexact H

end Rects

/-! ## The slots of a buffer of blocks -/

section Blocks

variable {n m k : ℕ} (S : Shape) (hin : ∀ (p : Fin 2) (t : Fin n) a, (![p.val, t.val, 0, 0] : Fin 4 → ℕ) a + (![1, 1, m, k] : Fin 4 → ℕ) a ≤ (⟨4, ![2, n, m, k]⟩ : Shape).size a)

abbrev rU (q : Fin 2 × Fin n) : Rect ⟨4, ![2, n, m, k]⟩ := Rect.unit ![q.1.val, q.2.val, 0, 0] ![1, 1, m, k] (hin q.1 q.2)

theorem mem_rU (q : Fin 2 × Fin n) (i : (⟨4, ![2, n, m, k]⟩ : Shape).Idx) : i ∈ (rU hin q).set ↔ i 0 = q.1 ∧ i 1 = q.2 := by
  rw [Rect.mem_set_unit]
  constructor
  · intro h
    have h₀ : q.1.val ≤ (i 0).val ∧ (i 0).val < q.1.val + 1 := h 0
    have h₁ : q.2.val ≤ (i 1).val ∧ (i 1).val < q.2.val + 1 := h 1
    exact ⟨Fin.ext (by omega), Fin.ext (by omega)⟩
  · rintro ⟨h₀, h₁⟩ a
    have e₀ : (i 0).val = q.1.val := congrArg Fin.val h₀
    have e₁ : (i 1).val = q.2.val := congrArg Fin.val h₁
    have l₂ : (i 2).val < m := (i 2).isLt
    have l₃ : (i 3).val < k := (i 3).isLt
    fin_cases a
    · show q.1.val ≤ (i 0).val ∧ (i 0).val < q.1.val + 1; omega
    · show q.2.val ≤ (i 1).val ∧ (i 1).val < q.2.val + 1; omega
    · show 0 ≤ (i 2).val ∧ (i 2).val < 0 + m; omega
    · show 0 ≤ (i 3).val ∧ (i 3).val < 0 + k; omega

theorem rU_disj (q q' : Fin 2 × Fin n) (h : q ≠ q') : Disjoint (rU hin q).set (rU hin q').set :=
  Finset.disjoint_left.mpr fun i hi hi' => by
    rw [mem_rU] at hi hi'
    exact h (Prod.ext (hi.1.symm.trans hi'.1) (hi.2.symm.trans hi'.2))

theorem rU_cov : (Finset.univ : Finset (Fin 2 × Fin n)).biUnion (fun q => (rU hin q).set) = Finset.univ := by
  ext i
  simp only [Finset.mem_biUnion, Finset.mem_univ, true_and, iff_true]
  exact ⟨(i 0, i 1), (mem_rU hin _ i).mpr ⟨rfl, rfl⟩⟩

end Blocks

theorem anyA_iff {n : ℕ} (M : Memref sig .tc .vmem ⟨4, ![2, n, 256, 256]⟩ .f32) :
    (iprop(∃ X, owns (c : Thread nD τ) M fullShare X) : sProp 𝕄) = bigSep Finset.univ fun q : Fin 2 × Fin n => anyA c M q.1 q.2 :=
  BI.Entails.antisymm (any_split c M (rU inbA) (fun _ _ => rfl) (rU_disj inbA) (rU_cov inbA) fun _ => squeezes_S1x1x256x256_S256x256)
    (any_join c M (rU inbA) (fun _ _ => rfl) (rU_disj inbA) (rU_cov inbA) fun _ => squeezes_S1x1x256x256_S256x256)

theorem anyB_iff {n : ℕ} (M : Memref sig .tc .vmem ⟨4, ![2, n, 128, 128]⟩ .f32) :
    (iprop(∃ X, owns (c : Thread nD τ) M fullShare X) : sProp 𝕄) = bigSep Finset.univ fun q : Fin 2 × Fin n => anyB c M q.1 q.2 :=
  BI.Entails.antisymm (any_split c M (rU inbB) (fun _ _ => rfl) (rU_disj inbB) (rU_cov inbB) fun _ => squeezes_S1x1x128x128_S128x128)
    (any_join c M (rU inbB) (fun _ _ => rfl) (rU_disj inbB) (rU_cov inbB) fun _ => squeezes_S1x1x128x128_S128x128)

omit [FloatOps F] in
theorem fourP_eq (Φ : Fin 2 → Fin 2 → sProp 𝕄) : (bigSep Finset.univ fun q : Fin 2 × Fin 2 => Φ q.1 q.2) = fourP Φ := by
  rw [bigSep_univ_prod, bigSep_fin_two, bigSep_fin_two, bigSep_fin_two]
  unfold fourP
  show iprop((Φ 0 0 ∗ Φ 0 1) ∗ Φ 1 0 ∗ Φ 1 1) = iprop(Φ 0 0 ∗ Φ 0 1 ∗ Φ 1 0 ∗ Φ 1 1)
  have h₁ : iprop((Φ 0 0 ∗ Φ 0 1) ∗ Φ 1 0 ∗ Φ 1 1) ⊢ iprop(Φ 0 0 ∗ Φ 0 1 ∗ Φ 1 0 ∗ Φ 1 1) := by
    iintro ⟨⟨H₀, H₁⟩, H₂, H₃⟩
    isplitl [H₀]; · iexact H₀
    isplitl [H₁]; · iexact H₁
    isplitl [H₂] <;> iassumption
  have h₂ : iprop(Φ 0 0 ∗ Φ 0 1 ∗ Φ 1 0 ∗ Φ 1 1) ⊢ iprop((Φ 0 0 ∗ Φ 0 1) ∗ Φ 1 0 ∗ Φ 1 1) := by
    iintro ⟨H₀, H₁, H₂, H₃⟩
    isplitl [H₀ H₁]
    · isplitl [H₀] <;> iassumption
    · isplitl [H₂] <;> iassumption
  exact BI.Entails.antisymm h₁ h₂

/-- The halves of the two pipes' reduced chunks. -/
abbrev rH (q : Fin 2 × Fin 2) : Rect S2x512x256 := Rect.unit ![q.1.val, 256 * q.2.val, 0] S1x256x256.size (inbZ q.1 q.2)

theorem mem_rH (q : Fin 2 × Fin 2) (i : S2x512x256.Idx) : i ∈ (rH q).set ↔ i 0 = q.1 ∧ (i 1).val / 256 = q.2.val := by
  rw [Rect.mem_set_unit]
  constructor
  · intro h
    have h₀ : q.1.val ≤ (i 0).val ∧ (i 0).val < q.1.val + 1 := h 0
    have h₁ : 256 * q.2.val ≤ (i 1).val ∧ (i 1).val < 256 * q.2.val + 256 := h 1
    exact ⟨Fin.ext (by omega), by omega⟩
  · rintro ⟨h₀, h₁⟩ a
    have e₀ : (i 0).val = q.1.val := congrArg Fin.val h₀
    have l₂ : (i 2).val < 256 := (i 2).isLt
    fin_cases a
    · show q.1.val ≤ (i 0).val ∧ (i 0).val < q.1.val + 1; omega
    · show 256 * q.2.val ≤ (i 1).val ∧ (i 1).val < 256 * q.2.val + 256; omega
    · show 0 ≤ (i 2).val ∧ (i 2).val < 0 + 256; omega

theorem rH_disj (q q' : Fin 2 × Fin 2) (h : q ≠ q') : Disjoint (rH q).set (rH q').set :=
  Finset.disjoint_left.mpr fun i hi hi' => by
    rw [mem_rH] at hi hi'
    exact h (Prod.ext (hi.1.symm.trans hi'.1) (Fin.ext (hi.2.symm.trans hi'.2)))

theorem rH_cov : (Finset.univ : Finset (Fin 2 × Fin 2)).biUnion (fun q => (rH q).set) = Finset.univ := by
  ext i
  simp only [Finset.mem_biUnion, Finset.mem_univ, true_and, iff_true]
  have l₁ : (i 1).val < 512 := (i 1).isLt
  exact ⟨(i 0, ⟨(i 1).val / 256, by omega⟩), (mem_rH _ i).mpr ⟨rfl, rfl⟩⟩

theorem anyZ_iff : (iprop(∃ X, owns (c : Thread nD τ) mZ fullShare X) : sProp 𝕄)
    = fourP fun p b => (iprop(∃ X : S256x256.Idx → Elt F .f32, owns (c : Thread nD τ) (slotZ mZ p b) fullShare X) : sProp 𝕄) := by
  rw [← fourP_eq]
  exact BI.Entails.antisymm (any_split c mZ rH (fun _ _ => rfl) rH_disj rH_cov fun _ => squeezes_S1x256x256_S256x256)
    (any_join c mZ rH (fun _ _ => rfl) rH_disj rH_cov fun _ => squeezes_S1x256x256_S256x256)

/-- The buffer of the reduced chunks, by halves. -/
theorem splitZ (f : Fin 2 → Tab F) :
    owns (c : Thread nD τ) mZ fullShare (blk3 (n := 2) (m := 512) (l := 256) f) ⊢ fourP fun p b => hasZ c p b (shift (f p) (256 * b.val) 0) := by
  rw [← fourP_eq]
  refine (owns_rects (c : Thread nD τ) mZ fullShare rH (fun _ _ => rfl) rH_disj rH_cov _).trans (bigSep_mono fun q _ => ?_)
  refine (sq_of c mZ (rH q) (fun _ => rfl) squeezes_S1x256x256_S256x256 _).trans (Entails.of_eq ?_)
  unfold hasZ
  congr 1
  funext j
  refine (shapeCast_dropUnit_apply (n := 2) ![256, 256] (fun j => blk3 (n := 2) (m := 512) (l := 256) f ((rH q).emb j)) shapeCasts_S1x256x256_S256x256 j).trans ?_
  show f ⟨q.1.val + 1 * 0, _⟩ (256 * q.2.val + 1 * (j 0).val) (0 + 1 * (j 1).val) = f q.1 (256 * q.2.val + (j 0).val) (0 + (j 1).val)
  simp only [Nat.one_mul, Nat.add_zero]

/-! ## The landing slots and their buffers -/

/-- The channels whose slots are a buffer's. -/
def chA (g : Fin 4) (b : Fin 2) (q : Fin 2 × Fin 3) : Ch := ch g q.1 b q.2
def chB (b : Fin 2) (q : Fin 2 × Fin 6) : Ch :=
  if h : q.2.val < 3 then ch 1 q.1 b ⟨q.2.val, h⟩ else ch 2 q.1 b ⟨q.2.val - 3, by omega⟩

theorem chA_inj (g : Fin 4) (b : Fin 2) : Function.Injective (chA g b) := by revert g b; decide +kernel
theorem chB_inj (b : Fin 2) : Function.Injective (chB b) := by revert b; decide +kernel

theorem slot_A0 (b : Fin 2) (q : Fin 2 × Fin 3) : slotPay (F := F) c (chA 0 b q) = anyA c (mA b) q.1 q.2 := by
  obtain ⟨p, t⟩ := q; fin_cases p <;> fin_cases t <;> fin_cases b <;> rfl
theorem slot_A3 (b : Fin 2) (q : Fin 2 × Fin 3) : slotPay (F := F) c (chA 3 b q) = anyA c (mC b) q.1 q.2 := by
  obtain ⟨p, t⟩ := q; fin_cases p <;> fin_cases t <;> fin_cases b <;> rfl
theorem slot_B (b : Fin 2) (q : Fin 2 × Fin 6) : slotPay (F := F) c (chB b q) = anyB c (mB b) q.1 q.2 := by
  obtain ⟨p, t⟩ := q; fin_cases p <;> fin_cases t <;> fin_cases b <;> rfl

/-- The landing slots are the six buffers they lie in. -/
theorem slots_bufs : (bigSep Finset.univ fun k => slotPay (F := F) c k)
    = iprop((∃ X, owns (c : Thread nD τ) (mA 0) fullShare X) ∗ (∃ X, owns (c : Thread nD τ) (mA 1) fullShare X)
        ∗ (∃ X, owns (c : Thread nD τ) (mB 0) fullShare X) ∗ (∃ X, owns (c : Thread nD τ) (mB 1) fullShare X)
        ∗ (∃ X, owns (c : Thread nD τ) (mC 0) fullShare X) ∗ (∃ X, owns (c : Thread nD τ) (mC 1) fullShare X)) := by
  have hu : (Finset.univ : Finset Ch) = Finset.univ.map ⟨chA 0 0, chA_inj 0 0⟩ ∪ (Finset.univ.map ⟨chA 0 1, chA_inj 0 1⟩
      ∪ (Finset.univ.map ⟨chB 0, chB_inj 0⟩ ∪ (Finset.univ.map ⟨chB 1, chB_inj 1⟩
        ∪ (Finset.univ.map ⟨chA 3 0, chA_inj 3 0⟩ ∪ Finset.univ.map ⟨chA 3 1, chA_inj 3 1⟩)))) := by decide +kernel
  rw [hu, bigSep_union (by decide +kernel), bigSep_union (by decide +kernel), bigSep_union (by decide +kernel), bigSep_union (by decide +kernel),
    bigSep_union (by decide +kernel)]
  simp only [bigSep_map, Function.Embedding.coeFn_mk, slot_A0, slot_A3, slot_B]
  rw [anyA_iff, anyA_iff, anyB_iff, anyB_iff, anyA_iff, anyA_iff]
  rfl

theorem stageA : (iprop(∃ X, owns (c : Thread nD τ) mSA fullShare X) : sProp 𝕄) = fourP fun p b => anyA (F := F) c mSA p b :=
  (anyA_iff c (n := 2) mSA).trans (fourP_eq fun p b => anyA c mSA p b)
theorem stageB : (iprop(∃ X, owns (c : Thread nD τ) mSB fullShare X) : sProp 𝕄) = fourP fun p b => anyB (F := F) c mSB p b :=
  (anyB_iff c (n := 2) mSB).trans (fourP_eq fun p b => anyB c mSB p b)

end Cert.AllReduce

end
-- ==== Proof.Run.lean ====
/-
# The kernel's body, run once at a symbolic device
-/
module

public import proofs.«01_k».proof.Proof.Split

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → Tab F) (c : Dev nD) (K : Dev nD × CI → ℕ)

omit [FloatOps F] in
/-- A buffer at any contents is filled nowhere. -/
theorem part_none {S : Shape} (M : Memref sig .tc .vmem S .f32) (T : S.Idx → Elt F .f32) (D : S.Idx → Prop) (h : ∀ i, ¬ D i) :
    (iprop(∃ X, owns (c : Thread nD τ) M fullShare X) : sProp 𝕄) ⊢ part c M T D := by
  unfold part
  iintro ⟨%X, H⟩
  iexists X
  isplitr
  · ipureintro; exact fun i hi => absurd hi (h i)
  · iexact H

theorem part_some {S : Shape} (M : Memref sig .tc .vmem S .f32) (T : S.Idx → Elt F .f32) (D : S.Idx → Prop) :
    part c M T D ⊢ (iprop(∃ X, owns (c : Thread nD τ) M fullShare X) : sProp 𝕄) := by
  unfold part
  iintro ⟨%X, -, H⟩
  iexists X
  iexact H

omit [FloatOps F] in
theorem any_of {S : Shape} (M : Memref sig .tc .vmem S .f32) (X : S.Idx → Elt F .f32) :
    owns (c : Thread nD τ) M fullShare X ⊢ (iprop(∃ X, owns (c : Thread nD τ) M fullShare X) : sProp 𝕄) := exists_intro X

omit [FloatOps F] in
theorem four_some (Φ Ψ : Fin 2 → Fin 2 → sProp 𝕄) (h : ∀ p b, Φ p b ⊢ Ψ p b) : fourP Φ ⊢ fourP Ψ := by
  unfold fourP
  iintro ⟨H₀, H₁, H₂, H₃⟩
  isplitl [H₀]; · iapply (h 0 0); iexact H₀
  isplitl [H₁]; · iapply (h 0 1); iexact H₁
  isplitl [H₂]; · iapply (h 1 0); iexact H₂
  iapply (h 1 1); iexact H₃

/-- The devices the barrier signals. -/
theorem bar_dev : ∀ c : Dev nD, (⟨k1_dev1 c, k1_dev1_lt c⟩ : Dev nD) = nb 0 c ∧ (⟨k1_dev2 c, k1_dev2_lt c⟩ : Dev nD) = nb 1 c
    ∧ (⟨k1_dev3 c, k1_dev3_lt c⟩ : Dev nD) = nb 2 c ∧ (⟨k1_dev4 c, k1_dev4_lt c⟩ : Dev nD) = nb 3 c := by decide +kernel

/-- What the body needs besides the records. -/
def bodyIn : sProp 𝕄 :=
  iprop(atPos ER (barCell c) 0 ∅ 0 ∗ cred (tallyAt (barCell c) () 4)
    ∗ (bigSep Finset.univ fun i : Fin 4 => dutyTok ER (barCell (nb i c)) 0 (opp i)) ∗ (bigSep Finset.univ fun k => lent (F := F) c k)
    ∗ (bigSep Finset.univ fun k => rights c k) ∗ owesR c (O₀ c) ∗ hasX c (x c) ∗ (∃ X, owns (c : Thread nD τ) mO fullShare X)
    ∗ (∃ X, owns (c : Thread nD τ) mSA fullShare X) ∗ (∃ X, owns (c : Thread nD τ) mSB fullShare X) ∗ (∃ X, owns (c : Thread nD τ) mZ fullShare X))

/-- What it leaves. -/
def bodyOut : sProp 𝕄 :=
  iprop(semVal (barCell c) 0 ∗ (bigSep Finset.univ fun k => closed (F := F) c k) ∗ (bigSep Finset.univ fun k => slotPay (F := F) c k)
    ∗ owesR c 0 ∗ hasX c (x c) ∗ owns (c : Thread nD τ) mO fullShare (blk (n := 1024) (m := 1024) (Out x c))
    ∗ (∃ X, owns (c : Thread nD τ) mSA fullShare X) ∗ (∃ X, owns (c : Thread nD τ) mSB fullShare X) ∗ (∃ X, owns (c : Thread nD τ) mZ fullShare X))

theorem wp_whole {α : Type} {Q : α → sProp 𝕄} {kt : PUnit → PP F α} :
    iprop(records (vs x) K ∗ bodyIn x c ∗ (bodyOut x c -∗ wp frame (wpE (defs₀ (F := F)) 𝒱₀ (c : Thread nD τ) none) Set.univ (kt ⟨⟩) Q))
      ⊢ wp frame (wpE (defs₀ (F := F)) 𝒱₀ (c : Thread nD τ) none) Set.univ (wholeP c kt) Q := by
  unfold wholeP bodyIn
  iintro ⟨#HR, ⟨Hat, Hcr, Htok, Hsl, Hr, HO, HX, HY, HSA, HSB, HZ⟩, Hk⟩
  iapply (wp_bar (vs x) K c _ _ _ _ (bar_dev c).1 (bar_dev c).2.1 (bar_dev c).2.2.1 (bar_dev c).2.2.2)
  isplitr; · iexact HR
  isplitl [Hat]; · iexact Hat
  isplitl [Hcr]; · iexact Hcr
  isplitl [Htok]; · iexact Htok
  isplitl [Hsl]; · iexact Hsl
  isplitl [Hr]; · iexact Hr
  isplitl [HO]; · iexact HO
  iintro ⟨Hz, HP, HO⟩
  ihave HSA := (Entails.of_eq (stageA c)) $$ HSA
  iapply (wp_putSA x c)
  isplitl [HX]; · iexact HX
  isplitl [HSA]; · iexact HSA
  iintro ⟨HX, H⟩
  ihave HC := (show (iprop(emp) : sProp 𝕄) ⊢ bigSepL (doneL []) (closed c) from BI.Entails.refl _) $$ []
  · iempintro
  ihave HJ := (show (iprop(emp) : sProp 𝕄) ⊢ bigSepL (doneL []) (slotPay c) from BI.Entails.refl _) $$ []
  · iempintro
  iapply (wp_ex x c K 0 0 [])
  isplitr; · iexact HR
  isplitl [H]; · iexact H
  isplitl [HP]; · iexact HP
  isplitl [HC]; · iexact HC
  isplitl [HO]; · iexact HO
  iintro ⟨HS, H, HP, HC, HO⟩
  ihave HSA := (Entails.of_eq (stageA c).symm) $$ [HS]
  · iapply (four_some (srcH x c 0 0) (fun p b => anyA c mSA p b) fun p b => any_of c _ _) $$ HS
  iapply (wp_addA x c 0)
  isplitl [HX]; · iexact HX
  isplitl [H]; · iexact H
  iintro ⟨HX, H⟩
  iapply (wp_ex x c K 0 1 [(0, 0)])
  isplitr; · iexact HR
  isplitl [H]; · iexact H
  isplitl [HP]; · iexact HP
  isplitl [HC]; · iexact HC
  isplitl [HO]; · iexact HO
  iintro ⟨HS, H, HP, HC, HO⟩
  ihave HJ := (junk c 0 0 [] (srcH x c 0 1) fun p b => any_of c _ _) $$ [HS HJ]
  · isplitl [HS]; · iexact HS
    iexact HJ
  iapply (wp_addA x c 1)
  isplitl [HX]; · iexact HX
  isplitl [H]; · iexact H
  iintro ⟨HX, H⟩
  iapply (wp_ex x c K 0 2 [(0, 1), (0, 0)])
  isplitr; · iexact HR
  isplitl [H]; · iexact H
  isplitl [HP]; · iexact HP
  isplitl [HC]; · iexact HC
  isplitl [HO]; · iexact HO
  iintro ⟨HS, H, HP, HC, HO⟩
  ihave HJ := (junk c 0 1 [(0, 0)] (srcH x c 0 2) fun p b => any_of c _ _) $$ [HS HJ]
  · isplitl [HS]; · iexact HS
    iexact HJ
  iapply (wp_addA x c 2)
  isplitl [HX]; · iexact HX
  isplitl [H]; · iexact H
  iintro ⟨HX, H⟩
  ihave HZ := (part_none c mZ (blk3 (n := 2) (m := 512) (l := 256) fun p => Z1 x p c) (DT 0) fun i => Nat.not_lt_zero _) $$ HZ
  ihave HSB := (Entails.of_eq (stageB c)) $$ HSB
  unfold fourP
  icases H with ⟨HA₀, HA₁, HA₂, HA₃⟩
  icases HSB with ⟨HB₀, HB₁, HB₂, HB₃⟩
  iapply (wp_turn x c 0 (k1_off9 c) (k1_off10 c) (k1_off9_inb c) (k1_off10_inb c) (off9_eq c) (off10_eq c))
  isplitl [HA₀ HA₁]; · isplitl [HA₀]; · iexact HA₀
                       iexact HA₁
  isplitl [HZ]; · iexact HZ
  isplitl [HB₀ HB₁]; · isplitl [HB₀]; · iexact HB₀
                       iexact HB₁
  iintro ⟨⟨HA₀, HA₁⟩, HZ, HB₀, HB₁⟩
  iapply (wp_turn x c 1 (k1_off11 c) (k1_off12 c) (k1_off11_inb c) (k1_off12_inb c) (off11_eq c) (off12_eq c))
  isplitl [HA₂ HA₃]; · isplitl [HA₂]; · iexact HA₂
                       iexact HA₃
  isplitl [HZ]; · iexact HZ
  isplitl [HB₂ HB₃]; · isplitl [HB₂]; · iexact HB₂
                       iexact HB₃
  iintro ⟨⟨HA₂, HA₃⟩, HZ, HB₂, HB₃⟩
  ihave HJ := (junk c 0 2 [(0, 1), (0, 0)] (fun p b => hasA c (mA b) p (2 : Fin 3) (VA x p b 3 c)) fun p b => any_of c _ _) $$ [HA₀ HA₁ HA₂ HA₃ HJ]
  · isplitr [HJ]
    · unfold fourP
      isplitl [HA₀]; · iexact HA₀
      isplitl [HA₁]; · iexact HA₁
      isplitl [HA₂]; · iexact HA₂
      iexact HA₃
    · iexact HJ
  ihave H := (show iprop(hasB c mSB 0 0 (VB x 0 0 0 c) ∗ hasB c mSB 0 1 (VB x 0 1 0 c) ∗ hasB c mSB 1 0 (VB x 1 0 0 c) ∗ hasB c mSB 1 1 (VB x 1 1 0 c))
      ⊢ fourP (srcH x c 1 0) from BI.Entails.refl _) $$ [HB₀ HB₁ HB₂ HB₃]
  · isplitl [HB₀]; · iexact HB₀
    isplitl [HB₁]; · iexact HB₁
    isplitl [HB₂]; · iexact HB₂
    iexact HB₃
  ihave HZ := (part_weaken c mZ (blk3 (n := 2) (m := 512) (l := 256) fun p => Z1 x p c) (DT ((1 : Fin 2).val + 1)) (fun _ => True) fun i _ => (i 0).isLt) $$ HZ
  iapply (wp_ex x c K 1 0 [(0, 2), (0, 1), (0, 0)])
  isplitr; · iexact HR
  isplitl [H]; · iexact H
  isplitl [HP]; · iexact HP
  isplitl [HC]; · iexact HC
  isplitl [HO]; · iexact HO
  iintro ⟨HS, H, HP, HC, HO⟩
  ihave HSB := (Entails.of_eq (stageB c).symm) $$ [HS]
  · iapply (four_some (srcH x c 1 0) (fun p b => anyB c mSB p b) fun p b => any_of c _ _) $$ HS
  iapply (wp_addB x c 0)
  isplitl [HZ]; · iexact HZ
  isplitl [H]; · iexact H
  iintro ⟨HZ, H⟩
  iapply (wp_ex x c K 1 1 [(1, 0), (0, 2), (0, 1), (0, 0)])
  isplitr; · iexact HR
  isplitl [H]; · iexact H
  isplitl [HP]; · iexact HP
  isplitl [HC]; · iexact HC
  isplitl [HO]; · iexact HO
  iintro ⟨HS, H, HP, HC, HO⟩
  ihave HJ := (junk c 1 0 [(0, 2), (0, 1), (0, 0)] (srcH x c 1 1) fun p b => any_of c _ _) $$ [HS HJ]
  · isplitl [HS]; · iexact HS
    iexact HJ
  iapply (wp_addB x c 1)
  isplitl [HZ]; · iexact HZ
  isplitl [H]; · iexact H
  iintro ⟨HZ, H⟩
  iapply (wp_ex x c K 1 2 [(1, 1), (1, 0), (0, 2), (0, 1), (0, 0)])
  isplitr; · iexact HR
  isplitl [H]; · iexact H
  isplitl [HP]; · iexact HP
  isplitl [HC]; · iexact HC
  isplitl [HO]; · iexact HO
  iintro ⟨HS, H, HP, HC, HO⟩
  ihave HJ := (junk c 1 1 [(1, 0), (0, 2), (0, 1), (0, 0)] (srcH x c 1 2) fun p b => any_of c _ _) $$ [HS HJ]
  · isplitl [HS]; · iexact HS
    iexact HJ
  iapply (wp_addB x c 2)
  isplitl [HZ]; · iexact HZ
  isplitl [H]; · iexact H
  iintro ⟨HZ, H⟩
  ihave HZ := (part_some c mZ (blk3 (n := 2) (m := 512) (l := 256) fun p => Z1 x p c) (fun _ => True)) $$ HZ
  ihave HZ := (part_none c mZ (blk3 (n := 2) (m := 512) (l := 256) fun p => Z2 x p c) (DZ c 0) fun i => Nat.not_lt_zero _) $$ HZ
  iapply (wp_putZ x c 0 (by decide) (lo 2) (oZ' c) (oZ'_inb c) (oZ'_eq c))
  isplitl [H]; · iexact H
  isplitl [HZ]; · iexact HZ
  iintro ⟨H, HZ⟩
  iapply (wp_ex x c K 2 0 [(1, 2), (1, 1), (1, 0), (0, 2), (0, 1), (0, 0)])
  isplitr; · iexact HR
  isplitl [H]; · iexact H
  isplitl [HP]; · iexact HP
  isplitl [HC]; · iexact HC
  isplitl [HO]; · iexact HO
  iintro ⟨HS, H, HP, HC, HO⟩
  ihave HJ := (junk c 1 2 [(1, 1), (1, 0), (0, 2), (0, 1), (0, 0)] (srcH x c 2 0) fun p b => any_of c _ _) $$ [HS HJ]
  · isplitl [HS]; · iexact HS
    iexact HJ
  iapply (wp_putZ x c 1 (by decide) (hi 0) (oZ c 0) (oZ_inb c 0) (oZ_eq c 0))
  isplitl [H]; · iexact H
  isplitl [HZ]; · iexact HZ
  iintro ⟨H, HZ⟩
  iapply (wp_ex x c K 2 1 [(2, 0), (1, 2), (1, 1), (1, 0), (0, 2), (0, 1), (0, 0)])
  isplitr; · iexact HR
  isplitl [H]; · iexact H
  isplitl [HP]; · iexact HP
  isplitl [HC]; · iexact HC
  isplitl [HO]; · iexact HO
  iintro ⟨HS, H, HP, HC, HO⟩
  ihave HJ := (junk c 2 0 [(1, 2), (1, 1), (1, 0), (0, 2), (0, 1), (0, 0)] (srcH x c 2 1) fun p b => any_of c _ _) $$ [HS HJ]
  · isplitl [HS]; · iexact HS
    iexact HJ
  iapply (wp_putZ x c 2 (by decide) (hi 1) (oZ c 1) (oZ_inb c 1) (oZ_eq c 1))
  isplitl [H]; · iexact H
  isplitl [HZ]; · iexact HZ
  iintro ⟨H, HZ⟩
  iapply (wp_ex x c K 2 2 [(2, 1), (2, 0), (1, 2), (1, 1), (1, 0), (0, 2), (0, 1), (0, 0)])
  isplitr; · iexact HR
  isplitl [H]; · iexact H
  isplitl [HP]; · iexact HP
  isplitl [HC]; · iexact HC
  isplitl [HO]; · iexact HO
  iintro ⟨HS, H, HP, HC, HO⟩
  ihave HJ := (junk c 2 1 [(2, 0), (1, 2), (1, 1), (1, 0), (0, 2), (0, 1), (0, 0)] (srcH x c 2 2) fun p b => any_of c _ _) $$ [HS HJ]
  · isplitl [HS]; · iexact HS
    iexact HJ
  iapply (wp_putZ x c 3 (by decide) (hi 2) (oZ c 2) (oZ_inb c 2) (oZ_eq c 2))
  isplitl [H]; · iexact H
  isplitl [HZ]; · iexact HZ
  iintro ⟨H, HZ⟩
  ihave HJ := (junk c 2 2 [(2, 1), (2, 0), (1, 2), (1, 1), (1, 0), (0, 2), (0, 1), (0, 0)] (fun p b => hasB c (mB b) p (hi 2) (VC x p b 3 c)) fun p b => any_of c _ _) $$ [H HJ]
  · isplitl [H]; · iexact H
    iexact HJ
  ihave HZ := (part_full c mZ _ _ (DZ_full c)) $$ HZ
  ihave H := (splitZ c fun p => Z2 x p c) $$ HZ
  ihave HY := (part_none c mO (blk (n := 1024) (m := 1024) (Out x c)) (DO c 0) fun i => Nat.not_lt_zero _) $$ HY
  iapply (wp_putO' x c (oO' c) (oO'_inb c) (oO'_eq c))
  isplitl [H]; · iexact H
  isplitl [HY]; · iexact HY
  iintro ⟨H, HY⟩
  iapply (wp_ex x c K 3 0 [(2, 2), (2, 1), (2, 0), (1, 2), (1, 1), (1, 0), (0, 2), (0, 1), (0, 0)])
  isplitr; · iexact HR
  isplitl [H]; · iexact H
  isplitl [HP]; · iexact HP
  isplitl [HC]; · iexact HC
  isplitl [HO]; · iexact HO
  iintro ⟨HS, H, HP, HC, HO⟩
  ihave HZ := (Entails.of_eq (anyZ_iff c).symm) $$ [HS]
  · iapply (four_some (srcH x c 3 0) (fun p b => iprop(∃ X : S256x256.Idx → Elt F .f32, owns (c : Thread nD τ) (slotZ mZ p b) fullShare X)) fun p b => any_of c _ _) $$ HS
  iapply (wp_putO x c 1 (by decide) 0 (oO c 0) (oO_inb c 0) (oO_eq c 0))
  isplitl [H]; · iexact H
  isplitl [HY]; · iexact HY
  iintro ⟨H, HY⟩
  iapply (wp_ex x c K 3 1 [(3, 0), (2, 2), (2, 1), (2, 0), (1, 2), (1, 1), (1, 0), (0, 2), (0, 1), (0, 0)])
  isplitr; · iexact HR
  isplitl [H]; · iexact H
  isplitl [HP]; · iexact HP
  isplitl [HC]; · iexact HC
  isplitl [HO]; · iexact HO
  iintro ⟨HS, H, HP, HC, HO⟩
  ihave HJ := (junk c 3 0 [(2, 2), (2, 1), (2, 0), (1, 2), (1, 1), (1, 0), (0, 2), (0, 1), (0, 0)] (srcH x c 3 1) fun p b => any_of c _ _) $$ [HS HJ]
  · isplitl [HS]; · iexact HS
    iexact HJ
  iapply (wp_putO x c 2 (by decide) 1 (oO c 1) (oO_inb c 1) (oO_eq c 1))
  isplitl [H]; · iexact H
  isplitl [HY]; · iexact HY
  iintro ⟨H, HY⟩
  iapply (wp_ex x c K 3 2 [(3, 1), (3, 0), (2, 2), (2, 1), (2, 0), (1, 2), (1, 1), (1, 0), (0, 2), (0, 1), (0, 0)])
  isplitr; · iexact HR
  isplitl [H]; · iexact H
  isplitl [HP]; · iexact HP
  isplitl [HC]; · iexact HC
  isplitl [HO]; · iexact HO
  iintro ⟨HS, H, HP, HC, HO⟩
  ihave HJ := (junk c 3 1 [(3, 0), (2, 2), (2, 1), (2, 0), (1, 2), (1, 1), (1, 0), (0, 2), (0, 1), (0, 0)] (srcH x c 3 2) fun p b => any_of c _ _) $$ [HS HJ]
  · isplitl [HS]; · iexact HS
    iexact HJ
  iapply (wp_putO x c 3 (by decide) 2 (oO c 2) (oO_inb c 2) (oO_eq c 2))
  isplitl [H]; · iexact H
  isplitl [HY]; · iexact HY
  iintro ⟨H, HY⟩
  ihave HJ := (junk c 3 2 [(3, 1), (3, 0), (2, 2), (2, 1), (2, 0), (1, 2), (1, 1), (1, 0), (0, 2), (0, 1), (0, 0)] (fun p b => hasA c (mC b) p (2 : Fin 3) (VD x p b 3 c)) fun p b => any_of c _ _) $$ [H HJ]
  · isplitl [H]; · iexact H
    iexact HJ
  iapply Hk
  unfold bodyOut
  isplitl [Hz]; · iexact Hz
  isplitl [HC]; · iapply (Entails.of_eq (bigSep_univ_eq_bigSepL _ done_univ done_nodup (closed c)).symm); iexact HC
  isplitl [HJ]; · iapply (Entails.of_eq (bigSep_univ_eq_bigSepL _ done_univ done_nodup (slotPay c)).symm); iexact HJ
  isplitl [HO]; · iexact HO
  isplitl [HX]; · iexact HX
  isplitl [HY]; · iapply (part_full c mO _ _ (DO_full c)); iexact HY
  isplitl [HSA]; · iexact HSA
  isplitl [HSB]; · iexact HSB
  iexact HZ

end Cert.AllReduce

end
-- ==== Proof.Ghost.lean ====
/-
# What the launch hands each device

The invariants are allocated at the launch and dealt to every device, the barrier cells' from their counters and the
transfer cells' dormant: a device opens its own transfer cells when it enters the region. Each device gets the tokens of
the duties it pays and the credits of the units the others owe its cells.
-/
module

public import proofs.«01_k».proof.Proof.Run
public import Idealize.ShloMosaic.Lib.Rounds.Family

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
variable (vs : (k : Ch) → Dev nD → (sh k).Idx → Elt F .f32)

/-! ## Cells and tokens -/

/-- The kernel's own semaphores. -/
abbrev osem (j : Bool × Ch) : SemLoc sig := csem (some j)

theorem ownSemFacts : Pipeline.OwnSemFacts spec1 osem := by decide +kernel

theorem csem_injective : Function.Injective csem := by
  intro a b h
  rcases a with _ | ⟨_ | _, k⟩ <;> rcases b with _ | ⟨_ | _, j⟩
  · rfl
  · exact absurd h (by unfold csem; intro h; cases h)
  · exact absurd h (by unfold csem; intro h; cases h)
  · exact absurd h (by unfold csem; intro h; cases h)
  · have := (dec_send k).symm.trans ((congrArg dec (SemLoc.dma.inj h)).trans (dec_send j)); rw [Option.some.inj this]
  · have := (dec_send k).symm.trans ((congrArg dec (SemLoc.dma.inj h)).trans (dec_recv j)); rw [Option.some.inj this]
  · exact absurd h (by unfold csem; intro h; cases h)
  · have := (dec_recv k).symm.trans ((congrArg dec (SemLoc.dma.inj h)).trans (dec_send j)); rw [Option.some.inj this]
  · have := (dec_recv k).symm.trans ((congrArg dec (SemLoc.dma.inj h)).trans (dec_recv j)); rw [Option.some.inj this]

theorem kcell_injective : Function.Injective (kcell : Dev nD × CI → GSem nD τ sig) := by
  rintro ⟨c, k⟩ ⟨c', k'⟩ h
  have h1 : c = c' := congrArg (fun g : GSem nD τ sig => g.1.1) h
  have h2 : k = k' := csem_injective (congrArg Prod.snd h)
  rw [h1, h2]
/-- A device's transfer cells. -/
def dcell (p : Dev nD × (Bool × Ch)) : GSem nD τ sig := kcell (p.1, some p.2)
theorem dcell_injective : Function.Injective dcell := by
  rintro ⟨c, j⟩ ⟨c', j'⟩ h
  have e := kcell_injective h
  exact Prod.ext (congrArg (fun x : Dev nD × CI => x.1) e) (Option.some.inj (congrArg (fun x : Dev nD × CI => x.2) e))
theorem barCell_injective : Function.Injective (barCell : Dev nD → GSem nD τ sig) := fun a b h => congrArg (fun g : GSem nD τ sig => g.1.1) h
def barCells : Finset (GSem nD τ sig) := Finset.univ.map ⟨barCell, barCell_injective⟩
def dmaCells : Finset (GSem nD τ sig) := Finset.univ.map ⟨dcell, dcell_injective⟩
theorem cells_disjoint : Disjoint barCells dmaCells := Finset.disjoint_left.mpr fun g hb hd => by
  obtain ⟨c, -, rfl⟩ := Finset.mem_map.mp hb
  obtain ⟨⟨c', j⟩, -, e⟩ := Finset.mem_map.mp hd
  exact absurd (congrArg Prod.snd (kcell_injective (a₁ := (c', some j)) (a₂ := (c, none)) e)) (fun e => nomatch e)

/-- The duties of a device's cells: four at its barrier cell, one at each of the others. -/
abbrev TI : Type := Fin 4 ⊕ (Bool × Ch)
def tokOf (p : Dev nD × TI) : GSem nD τ sig × ℕ × Fin 4 :=
  match p.2 with
  | .inl d => (kcell (p.1, none), 0, d)
  | .inr j => (kcell (p.1, some j), 0, 0)
theorem tokOf_injective : Function.Injective tokOf := by
  rintro ⟨c, d | j⟩ ⟨c', d' | j'⟩ h
  · have h1 := kcell_injective (congrArg Prod.fst h)
    have h2 : d = d' := congrArg (fun x : GSem nD τ sig × ℕ × Fin 4 => x.2.2) h
    have h3 : c = c' := congrArg Prod.fst h1
    rw [h3, h2]
  · exact absurd (congrArg Prod.snd (kcell_injective (congrArg Prod.fst h))) (fun e => nomatch e)
  · exact absurd (congrArg Prod.snd (kcell_injective (congrArg Prod.fst h))) (fun e => nomatch e)
  · have h1 := kcell_injective (congrArg Prod.fst h)
    have h3 : c = c' := congrArg Prod.fst h1
    rw [h3, Option.some.inj (congrArg Prod.snd h1)]
def ringToks : Finset (GSem nD τ sig × ℕ × Fin 4) := Finset.univ.map ⟨tokOf, tokOf_injective⟩

omit [FloatOps F] in
/-- Over the kernel's own cells, the send cells and the receive cells. -/
theorem own_split (Φ : Bool × Ch → sProp 𝕄) :
    bigSep Finset.univ Φ = iprop((bigSep Finset.univ fun k => Φ (false, k)) ∗ bigSep Finset.univ fun k => Φ (true, k)) := by
  rw [bigSep_univ_prod, bigSep_univ_eq_bigSepL [false, true] (by decide) (by decide)]; rfl

omit [FloatOps F] in
/-- Over a device's cells, its barrier cell apart. -/
theorem cell_split (Φ : CI → sProp 𝕄) :
    bigSep Finset.univ Φ = iprop(Φ none ∗ bigSep Finset.univ fun j : Bool × Ch => Φ (some j)) := by
  have hu : (Finset.univ : Finset CI) = insert none (Finset.univ.map ⟨some, Option.some_injective _⟩) := by
    ext j; cases j <;> simp
  rw [hu, BI.bigSep_insert (by simp), bigSep_map]; rfl

/-! ## The ghost state dealt -/

/-- The duty tokens of device `c`'s own cells. -/
def toks (c : Dev nD) : sProp 𝕄 :=
  iprop((bigSep Finset.univ fun d : Fin 4 => dutyTok ER (barCell c) 0 d) ∗ (bigSep Finset.univ fun k : Ch => dutyTok ER (sendCell c k) 0 0)
    ∗ bigSep Finset.univ fun k : Ch => dutyTok ER (recvCell c k) 0 0)
/-- The tokens of the duties it pays. -/
def payToks (c : Dev nD) : sProp 𝕄 :=
  iprop((bigSep Finset.univ fun i : Fin 4 => dutyTok ER (barCell (nb i c)) 0 (opp i)) ∗ (bigSep Finset.univ fun k : Ch => dutyTok ER (sendCell c k) 0 0)
    ∗ bigSep Finset.univ fun k : Ch => dutyTok ER (recvCell (dst k c) k) 0 0)
/-- The right to open its own transfer cells. -/
def opens (c : Dev nD) : sProp 𝕄 := bigSep Finset.univ fun j : Bool × Ch => openTok ER (dcell (c, j))
/-- Every transfer cell's invariant. -/
def dmaInv (K : Dev nD × (Bool × Ch) → ℕ) : sProp 𝕄 := bigSep Finset.univ fun p : Dev nD × (Bool × Ch) => cellInv ER (Rd vs) (K p) (dcell p)
instance dmaInv_persistent (K : Dev nD × (Bool × Ch) → ℕ) : BI.Persistent (dmaInv vs K) := by unfold dmaInv; infer_instance

/-- What the launch gives device `c`. -/
def G (c : Dev nD) : sProp 𝕄 :=
  iprop((∃ K, dmaInv vs K) ∗ roundState ER (Rd vs) (barCell c) 0 ∗ atPos ER (barCell c) 0 ∅ 0 ∗ reached ER (barCell c) 0 ∗ toks c ∗ opens c)

/-- Every cell's invariant, every barrier cell at round 0. -/
def invAll (K : Dev nD × CI → ℕ) : sProp 𝕄 :=
  iprop((bigSep Finset.univ fun p : Dev nD × CI => cellInv ER (Rd vs) (K p) (kcell p)) ∗ (bigSep Finset.univ fun d : Dev nD => reached ER (barCell d) 0))
instance invAll_persistent (K : Dev nD × CI → ℕ) : BI.Persistent (invAll vs K) := by unfold invAll; infer_instance

def G' (c : Dev nD) : sProp 𝕄 := iprop(∃ K, invAll vs K ∗ atPos ER (barCell c) 0 ∅ 0 ∗ payToks c ∗ opens c)

omit [FloatOps F] in
theorem toks_eq : bigSep ringToks (fun x => (dutyTok ER x.1 x.2.1 x.2.2 : sProp 𝕄)) = bigSep Finset.univ fun c : Dev nD => toks c := by
  unfold ringToks
  rw [bigSep_map, bigSep_univ_prod]
  refine bigSep_congr fun c _ => ?_
  unfold toks
  rw [BI.bigSep_univ_sum, own_split]; rfl

omit [FloatOps F] in
theorem bar_eq (Φ : GSem nD τ sig → sProp 𝕄) : bigSep barCells Φ = bigSep Finset.univ fun c : Dev nD => Φ (barCell c) := by
  unfold barCells; rw [bigSep_map]; rfl
omit [FloatOps F] in
theorem dma_eq (Φ : GSem nD τ sig → sProp 𝕄) : bigSep dmaCells Φ = bigSep Finset.univ fun p : Dev nD × (Bool × Ch) => Φ (dcell p) := by
  unfold dmaCells; rw [bigSep_map]; rfl
omit [FloatOps F] in
theorem opens_eq : bigSep dmaCells (fun g => (openTok ER g : sProp 𝕄)) = bigSep Finset.univ fun c : Dev nD => opens c := by
  rw [dma_eq, bigSep_univ_prod]; rfl

omit [FloatOps F] in
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem give (K : Dev nD × (Bool × Ch) → ℕ) (c : Dev nD) :
    iprop(dmaInv vs K ∗ (roundState ER (Rd vs) (barCell c) 0 ∗ atPos ER (barCell c) 0 ∅ 0 ∗ reached ER (barCell c) 0 ∗ toks c ∗ opens c)) ⊢ G vs c := by
  unfold G
  iintro ⟨HI, H⟩
  isplitl [HI]; · iexists K; iexact HI
  iexact H

omit [FloatOps F] in
theorem fund_ring : BI.own (ER (launchOf barCells dmaCells ringToks)) ⊢ (|={Set.univ}=> bigSep Finset.univ (G vs) : sProp 𝕄) := by
  iintro HX
  ihave H := (own_launchOf_split ER cells_disjoint ringToks) $$ HX
  icases H with ⟨HB, HD⟩
  imod (Rounds.fund ER (Rd vs) barCells ringToks) $$ HB with ⟨Hst, Hr, Hat, Htok⟩
  imod (fund_dormant ER (Rd vs) dmaCells (fun _ _ h => h)) $$ HD with ⟨%κ, -, HI, Hop⟩
  imodintro
  iapply (bigSep_with (R := dmaInv vs fun p => κ (dcell p)) fun c _ => give vs (fun p => κ (dcell p)) c)
  isplitl [HI]
  · unfold dmaInv; iapply (Entails.of_eq (dma_eq fun g => cellInv ER (Rd vs) (κ g) g)); iexact HI
  rw [bigSep_sep', bigSep_sep', bigSep_sep', bigSep_sep']
  isplitl [Hst]; · iapply (Entails.of_eq (bar_eq fun g => roundState ER (Rd vs) g 0)); iexact Hst
  isplitl [Hat]; · iapply (Entails.of_eq (bar_eq fun g => atPos ER g 0 ∅ 0)); iexact Hat
  isplitl [Hr]; · iapply (Entails.of_eq (bar_eq fun g => reached ER g 0)); iexact Hr
  isplitl [Htok]; · iapply (Entails.of_eq toks_eq); iexact Htok
  iapply (Entails.of_eq opens_eq); iexact Hop

/-! ## The invariants -/

omit [FloatOps F] in
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun k => closed (F := F) c k := by
  unfold Pipeline.ownSems0 closed
  rw [own_split, bigSep_sep']; rfl

omit [FloatOps F] in
/-- The barrier cell's invariant, from its counter at zero. -/
theorem core_alloc (c : Dev nD) :
    iprop(unscopedSems0 c ∗ G vs c) ⊢ |={Set.univ}=> iprop((∃ K, dmaInv vs K) ∗ (∃ κ : ℕ, cellInv ER (Rd vs) κ (barCell c)) ∗ atPos ER (barCell c) 0 ∅ 0
      ∗ reached ER (barCell c) 0 ∗ toks c ∗ opens c) := by
  unfold G
  rw [unscopedSems0_eq]
  iintro ⟨Hus, HD, Hst, H⟩
  imod ((Rounds.body_intro ER (Rd vs) (barCell c)).trans inv_alloc) $$ [Hus Hst] with Hinv
  · isplitl [Hus] <;> iassumption
  imodintro
  isplitl [HD]; · iexact HD
  isplitl [Hinv]; · iexact Hinv
  iexact H

/-! ## The tokens to the devices that pay -/

def oppE : Fin 4 ≃ Fin 4 := ⟨opp, opp, opp_opp, opp_opp⟩
def dstE (k : Ch) : Dev nD ≃ Dev nD := ⟨dst k, org k, org_dst k, dst_org k⟩

omit [FloatOps F] in
theorem bar_around : (bigSep Finset.univ fun c : Dev nD => bigSep Finset.univ fun d : Fin 4 => (dutyTok ER (barCell c) 0 d : sProp 𝕄))
    = bigSep Finset.univ fun c : Dev nD => bigSep Finset.univ fun i : Fin 4 => dutyTok ER (barCell (nb i c)) 0 (opp i) := by
  rw [bigSep_univ_comm, bigSep_univ_equiv oppE, bigSep_univ_comm (fun (c : Dev nD) (i : Fin 4) => (dutyTok ER (barCell (nb i c)) 0 (opp i) : sProp 𝕄))]
  refine bigSep_congr fun i _ => ?_
  rw [bigSep_univ_equiv (nbE i)]; rfl

omit [FloatOps F] in
theorem recv_around : (bigSep Finset.univ fun c : Dev nD => bigSep Finset.univ fun k : Ch => (dutyTok ER (recvCell c k) 0 0 : sProp 𝕄))
    = bigSep Finset.univ fun c : Dev nD => bigSep Finset.univ fun k : Ch => dutyTok ER (recvCell (dst k c) k) 0 0 := by
  rw [bigSep_univ_comm, bigSep_univ_comm (fun (c : Dev nD) (k : Ch) => (dutyTok ER (recvCell (dst k c) k) 0 0 : sProp 𝕄))]
  refine bigSep_congr fun k _ => ?_
  rw [bigSep_univ_equiv (dstE k)]; rfl

omit [FloatOps F] in
theorem toks_around : (bigSep Finset.univ fun c : Dev nD => (toks c : sProp 𝕄)) = bigSep Finset.univ fun c : Dev nD => payToks c := by
  unfold toks payToks
  rw [bigSep_sep', bigSep_sep', bigSep_sep', bigSep_sep', bar_around, recv_around]

omit [FloatOps F] in
theorem bar_names : (bigSep Finset.univ fun c : Dev nD => (iprop(∃ κ : ℕ, cellInv ER (Rd vs) κ (barCell c)) : sProp 𝕄))
    ⊢ iprop(∃ K : Dev nD → ℕ, bigSep Finset.univ fun c : Dev nD => cellInv ER (Rd vs) (K c) (barCell c)) :=
  BI.bigSep_exists_pi Finset.univ (fun (c : Dev nD) (κ : ℕ) => (cellInv ER (Rd vs) κ (barCell c) : sProp 𝕄))

/-- The names of all the cells' invariants. -/
def names (KB : Dev nD → ℕ) (KD : Dev nD × (Bool × Ch) → ℕ) (p : Dev nD × CI) : ℕ :=
  match p.2 with
  | none => KB p.1
  | some j => KD (p.1, j)

omit [FloatOps F] in
theorem inv_join (KB : Dev nD → ℕ) (KD : Dev nD × (Bool × Ch) → ℕ) :
    iprop((bigSep Finset.univ fun c : Dev nD => cellInv ER (Rd vs) (KB c) (barCell c)) ∗ dmaInv vs KD)
      ⊢ (bigSep Finset.univ fun p : Dev nD × CI => cellInv ER (Rd vs) (names KB KD p) (kcell p) : sProp 𝕄) := by
  unfold dmaInv
  rw [bigSep_univ_prod, bigSep_univ_prod (fun p : Dev nD × CI => (cellInv ER (Rd vs) (names KB KD p) (kcell p) : sProp 𝕄)), ← bigSep_sep']
  refine bigSep_mono fun c _ => ?_
  rw [cell_split]; rfl

omit [FloatOps F] in
theorem deal (K : Dev nD × CI → ℕ) (c : Dev nD) : iprop(invAll vs K ∗ (atPos ER (barCell c) 0 ∅ 0 ∗ payToks c ∗ opens c)) ⊢ G' vs c := by
  unfold G'
  iintro ⟨H, Hp⟩
  iexists K
  isplitl [H]; · iexact H
  iexact Hp

omit [FloatOps F] in
theorem some_dev (P : sProp 𝕄) : (bigSep Finset.univ fun _ : Dev nD => P) ⊢ P :=
  bigSep_elim (Finset.mem_univ (0 : Dev nD)) (Φ := fun _ : Dev nD => P)

omit [FloatOps F] in
theorem regroup : (bigSep Finset.univ fun c : Dev nD => (iprop((∃ K, dmaInv vs K) ∗ (∃ κ : ℕ, cellInv ER (Rd vs) κ (barCell c)) ∗ atPos ER (barCell c) 0 ∅ 0
      ∗ reached ER (barCell c) 0 ∗ toks c ∗ opens c) : sProp 𝕄)) ⊢ bigSep Finset.univ (G' vs) := by
  rw [bigSep_sep', bigSep_sep', bigSep_sep', bigSep_sep', bigSep_sep', toks_around]
  iintro ⟨HD, HI, Hat, #HR, Htok, Hop⟩
  ihave HD' := (some_dev (iprop(∃ K, dmaInv vs K))) $$ HD
  icases HD' with ⟨%KD, #HD⟩
  ihave HK := (bar_names vs) $$ HI
  icases HK with ⟨%KB, #HB⟩
  iapply (bigSep_with (R := invAll vs (names KB KD)) fun c _ => deal vs (names KB KD) c)
  isplitr
  · unfold invAll; isplitl
    · iapply (inv_join vs KB KD); isplitl; · iexact HB
      iexact HD
    iexact HR
  · rw [bigSep_sep', bigSep_sep']
    isplitl [Hat]; · iexact Hat
    isplitl [Htok]; · iexact Htok
    iexact Hop

omit [FloatOps F] in
theorem glob : (bigSep Finset.univ fun c => iprop(unscopedSems0 c ∗ G vs c) : sProp 𝕄) ⊢ |={Set.univ}=> bigSep Finset.univ (G' vs) :=
  ((bigSep_mono fun c _ => core_alloc vs c).trans (bigSep_fupd _ _)).trans (BI.fupd_mono (regroup vs))

/-! ## A device opens its transfer cells -/

omit [FloatOps F] in
theorem open_cells (K : Dev nD × CI → ℕ) (c : Dev nD) :
    iprop(invAll vs K ∗ opens c ∗ Pipeline.ownSems0 (Ix := Unit) (Name := ℕ) (U := UU) (Lvl := ℕ) (Val := Elt F) (τ := τ) osem c)
      ⊢ (|={Set.univ}=> bigSep Finset.univ fun j : Bool × Ch => iprop(atPos ER (dcell (c, j)) 0 ∅ 0 ∗ reached ER (dcell (c, j)) 0) : sProp 𝕄) := by
  have hI : (bigSep Finset.univ fun p : Dev nD × CI => cellInv ER (Rd vs) (K p) (kcell p) : sProp 𝕄)
      ⊢ bigSep Finset.univ fun j : Bool × Ch => cellInv ER (Rd vs) (K (c, some j)) (dcell (c, j)) := by
    rw [bigSep_univ_prod]
    refine Entails.trans' (bigSep_elim (Finset.mem_univ c)) ?_
    rw [cell_split]
    iintro ⟨-, H⟩; iexact H
  unfold invAll opens
  iintro ⟨⟨HI, -⟩, Hop, Hs⟩
  iapply (cells_open ER (Rd vs) Finset.univ (fun j : Bool × Ch => dcell (c, j)) (fun j => K (c, some j)) (fun _ _ => Set.mem_univ _))
  isplitl [HI Hop]
  · rw [bigSep_sep']
    isplitl [HI]; · iapply hI; iexact HI
    iexact Hop
  iapply (show (Pipeline.ownSems0 (Ix := Unit) (Name := ℕ) (U := UU) (Lvl := ℕ) (Val := Elt F) (τ := τ) osem c : sProp 𝕄)
    ⊢ bigSep Finset.univ fun j : Bool × Ch => semVal (dcell (c, j)) 0 from .rfl)
  iexact Hs

/-! ## The credits -/

theorem recv_ne_bar (k : Ch) : SemLoc.dma (recvSem k) ≠ (SemLoc.reg barS : SemLoc sig) := fun h => nomatch h

theorem bar_iff {a b : Dev nD} : Iff (barCell a = barCell b) (a = b) :=
  ⟨fun h => congrArg (fun g : GSem nD τ sig => g.1.1) h, fun h => h ▸ rfl⟩
theorem recv_iff {a b : Dev nD} {j k : Ch} : Iff (recvCell a j = recvCell b k) (a = b ∧ j = k) :=
  ⟨fun h => by
    have e := kcell_injective (a₁ := (a, some (true, j))) (a₂ := (b, some (true, k))) h
    exact ⟨congrArg Prod.fst e, congrArg Prod.snd (Option.some.inj (congrArg Prod.snd e))⟩, fun ⟨h, h'⟩ => by rw [h, h']⟩

theorem oweL_bar (d c : Dev nD) (l : List Ch) : oweL d l (barCell c) () = 0 := by
  rcases Nat.eq_zero_or_pos (oweL d l (barCell c) ()) with h | h
  · exact h
  · obtain ⟨k, -, e⟩ := oweL_pos h; exact absurd (congrArg Prod.snd e).symm (recv_ne_bar k)

theorem oweL_recv (d c : Dev nD) (k : Ch) (l : List Ch) (hl : l.Nodup) : oweL d l (recvCell c k) () = if k ∈ l ∧ dst k d = c then N k else 0 := by
  induction l with
  | nil => rw [if_neg fun h => absurd h.1 List.not_mem_nil]; rfl
  | cons j l ih =>
    unfold oweL
    rw [Pi.add_apply, Finsupp.add_apply, tallyAt_apply, ih (List.nodup_cons.mp hl).2]
    by_cases hj : k = j
    · subst hj
      rw [if_neg fun h => (List.nodup_cons.mp hl).1 h.1, Nat.zero_add]
      by_cases hd : dst k d = c
      · rw [if_pos ⟨by rw [hd], rfl⟩, if_pos ⟨List.mem_cons_self, hd⟩]
      · rw [if_neg fun h => hd (recv_iff.mp h.1).1.symm, if_neg fun h => hd h.2]
    · rw [if_neg (c := recvCell c k = recvCell (dst j d) j ∧ () = ()) fun h => hj (recv_iff.mp h.1).2, Nat.add_zero]
      exact if_congr ⟨fun h => ⟨List.mem_cons_of_mem _ h.1, h.2⟩, fun h => ⟨(List.mem_cons.mp h.1).resolve_left hj, h.2⟩⟩ rfl rfl

theorem oweB_bar (d c : Dev nD) (l : List (Fin 4)) : oweB d l (barCell c) () = (l.map fun i => if nb i d = c then 1 else 0).sum := by
  induction l with
  | nil => exact oweL_bar d c chs
  | cons i l ih =>
    unfold oweB
    rw [Pi.add_apply, Finsupp.add_apply, tallyAt_apply, ih, List.map_cons, List.sum_cons, Nat.add_comm]
    congr 1
    exact if_congr ⟨fun h => (bar_iff.mp h.1).symm, fun h => ⟨by rw [h], rfl⟩⟩ rfl rfl

theorem oweB_recv (d c : Dev nD) (k : Ch) (l : List (Fin 4)) : oweB d l (recvCell c k) () = if dst k d = c then N k else 0 := by
  induction l with
  | nil =>
    refine (oweL_recv d c k chs chs_nodup).trans (if_congr ⟨fun h => h.2, fun h => ⟨?_, h⟩⟩ rfl rfl)
    exact List.mem_toFinset.mp (chs_univ ▸ Finset.mem_univ k)
  | cons i l ih =>
    unfold oweB
    rw [Pi.add_apply, Finsupp.add_apply, tallyAt_apply, ih, if_neg (c := recvCell c k = barCell (nb i d) ∧ () = ()) fun h => recv_ne_bar k (congrArg Prod.snd h.1), Nat.add_zero]

theorem four_units : ∀ c : Dev nD, (∑ d : Dev nD, (([0, 1, 2, 3] : List (Fin 4)).map fun i => if nb i d = c then 1 else 0).sum) = 4 := by decide +kernel

omit [FloatOps F] in
theorem launch_bar (c : Dev nD) :
    tallyOn (barCell c) (launchCredit (Pipeline.owing O₀) 0 (barCell c)) = (tallyAt (barCell c) () 4 : CellTallies nD τ sig Unit) := by
  unfold tallyAt; refine congrArg _ (Finsupp.ext fun u => ?_); cases u
  rw [Pipeline.launchCredit_owing, Finsupp.single_eq_same]
  exact (Finset.sum_congr rfl fun d _ => oweB_bar d c [0, 1, 2, 3]).trans (four_units c)

omit [FloatOps F] in
theorem launch_recv (c : Dev nD) (k : Ch) :
    tallyOn (recvCell c k) (launchCredit (Pipeline.owing O₀) 0 (recvCell c k)) = (tallyAt (recvCell c k) () (N k) : CellTallies nD τ sig Unit) := by
  unfold tallyAt; refine congrArg _ (Finsupp.ext fun u => ?_); cases u
  rw [Pipeline.launchCredit_owing, Finsupp.single_eq_same]
  refine (Finset.sum_congr rfl fun d _ => ?_).trans ((Finset.sum_ite_eq' Finset.univ (org k c) fun _ => N k).trans (if_pos (Finset.mem_univ _)))
  exact (oweB_recv d c k [0, 1, 2, 3]).trans (if_congr ⟨fun h => by rw [← h, org_dst], fun h => by rw [h, dst_org]⟩ rfl rfl)

omit [FloatOps F] in
theorem creds (c : Dev nD) :
    (Pipeline.launchCred O₀ c : sProp 𝕄) ⊢ iprop(cred (tallyAt (barCell c) () 4) ∗ bigSep Finset.univ fun k : Ch => cred (tallyAt (recvCell c k) () (N k))) := by
  unfold Pipeline.launchCred
  rw [bigSep_univ_at _ (SemLoc.reg barS), launch_bar]
  refine sep_mono_right ?_
  have hi : Function.Injective fun k : Ch => (SemLoc.dma (recvSem k) : SemLoc sig) := fun a b h => by
    have := csem_injective (a₁ := some (true, a)) (a₂ := some (true, b)) h
    exact congrArg Prod.snd (Option.some.inj this)
  refine Entails.trans' (BI.bigSep_subset (t := Finset.univ.map ⟨_, hi⟩) ?_) (Entails.of_eq ?_)
  · intro s hs
    obtain ⟨k, -, rfl⟩ := Finset.mem_map.mp hs
    exact Finset.mem_erase.mpr ⟨recv_ne_bar k, Finset.mem_univ _⟩
  · rw [bigSep_map]
    exact bigSep_congr fun k _ => congrArg _ (launch_recv c k)

end Cert.AllReduce

end
-- ==== Proof.Reduce.lean ====
/-
# The all-reduce region

The pipeline's proof data from the contents each device enters the region with, the body's obligation from the walk,
and what the region is entered from and left with.
-/
module

public import proofs.«01_k».proof.Proof.Ghost
public import proofs.«01_k».proof.Proof.Gen.KernelIdeal.Regions
public import Idealize.ShloMosaic.Lib.Pipeline.RegionArraysT

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
open Idealize.ShloMosaic.Pipeline (Dat BodyObligation)

/-! ## A block as a table -/

/-- The table of a whole array. -/
def tab (f : (⟨2, ![1024, 1024]⟩ : Shape).Idx → F .f32) : Tab F :=
  fun i j => f (fun a => match a with
    | ⟨0, _⟩ => (⟨i % 1024, Nat.mod_lt _ (by decide)⟩ : Fin 1024)
    | ⟨1, _⟩ => (⟨j % 1024, Nat.mod_lt _ (by decide)⟩ : Fin 1024))

omit [FloatOps F] in
theorem blk_tab (f : (⟨2, ![1024, 1024]⟩ : Shape).Idx → F .f32) : blk (n := 1024) (m := 1024) (tab f) = f := by
  funext i
  unfold blk tab
  congr 1
  funext a
  match a with
  | ⟨0, _⟩ => exact Fin.ext (Nat.mod_eq_of_lt (i 0).isLt)
  | ⟨1, _⟩ => exact Fin.ext (Nat.mod_eq_of_lt (i 1).isLt)

variable (V : Dev nD → Valuation τ sig (Elt F))

/-- What device `c` brings: its block as launched. -/
def xstg (c : Dev nD) : (cc1_stg0_0 : Ref sig .tc).ty.Contents (Elt F) :=
  (win1_0.blk (0 : Fin 1)).view.read (Elt F) (V c main_v9)
def xs (c : Dev nD) : Tab F := tab (xstg V c)
def outAt (c : Dev nD) : (cc1_stg1_0 : Ref sig .tc).ty.Contents (Elt F) := blk (n := 1024) (m := 1024) (Out (xs V) c)

/-! ## What the body starts from and ends with -/

/-- What a device holds besides its buffers when the region is entered. -/
def start (c : Dev nD) : sProp 𝕄 :=
  iprop((∃ K, records (vs (xs V)) K) ∗ atPos ER (barCell c) 0 ∅ 0 ∗ cred (tallyAt (barCell c) () 4)
    ∗ (bigSep Finset.univ fun i : Fin 4 => dutyTok ER (barCell (nb i c)) 0 (opp i)) ∗ (bigSep Finset.univ fun k => rights c k))

/-- The scratch buffers. -/
def scr (c : Dev nD) : sProp 𝕄 :=
  iprop((bigSep Finset.univ fun k => slotPay (F := F) c k) ∗ (∃ X, owns (c : Thread nD τ) mSA fullShare X) ∗ (∃ X, owns (c : Thread nD τ) mSB fullShare X)
    ∗ (∃ X, owns (c : Thread nD τ) mZ fullShare X))

/-- The buffers that staged the region before. -/
def stgs (c : Dev nD) : sProp 𝕄 :=
  iprop((∃ X, owns (c : Thread nD τ) (Memref.whole cc0_stg0_0) fullShare X) ∗ (∃ X, owns (c : Thread nD τ) (Memref.whole cc0_stg0_1) fullShare X)
    ∗ (∃ X, owns (c : Thread nD τ) (Memref.whole cc0_stg1_0) fullShare X) ∗ (∃ X, owns (c : Thread nD τ) (Memref.whole cc0_stg1_1) fullShare X)
    ∗ (∃ X, owns (c : Thread nD τ) (Memref.whole cc0_stg2_0) fullShare X) ∗ (∃ X, owns (c : Thread nD τ) (Memref.whole cc0_stg2_1) fullShare X)
    ∗ (∃ X, owns (c : Thread nD τ) (Memref.whole cc0_stg3_0) fullShare X) ∗ (∃ X, owns (c : Thread nD τ) (Memref.whole cc0_stg3_1) fullShare X))

def enter (c : Dev nD) : sProp 𝕄 := iprop(start V c ∗ bigSep Finset.univ fun k : Ch => reached ER (recvCell c k) 0)
def Φ₀ (c : Dev nD) : sProp 𝕄 := iprop(enter V c ∗ scr c ∗ stgs c)
def Φ₁ (c : Dev nD) : sProp 𝕄 := iprop((scr (F := F) c ∗ stgs c) ∗ semVal (barCell c) 0 ∗ bigSep Finset.univ fun k => closed (F := F) c k)

def dat1 (c : Dev nD) : Dat τ (Elt F) Unit ℕ UU ℕ cfg1 c where
  A w := V c (Proc.devRef .tc (Pipeline.arrRef spec1 w))
  after w _ := match w with
    | ⟨0, _⟩ => xstg V c
    | ⟨1, _⟩ => outAt V c
  Φ t := match t with
    | ⟨0, _⟩ => Φ₀ V c
    | ⟨_ + 1, _⟩ => Φ₁ c
  q _ := fullShare
  owed t := match t with
    | ⟨0, _⟩ => O₀ c
    | ⟨_ + 1, _⟩ => 0

theorem share1_eq (c : Dev nD) (w : Fin cfg1.W) : (dat1 V c).share w = fullShare := by unfold Dat.share; split <;> rfl

/-! ## The body -/

def bodyPre (c : Dev nD) : sProp 𝕄 :=
  iprop(Φ₀ V c ∗ (dat1 V c).owesAt () t1_0.castSucc
    ∗ (∃ d, owns (c : Thread nD τ) mX fullShare ((dat1 V c).before (0 : Fin 2) t1_0 d))
    ∗ (∃ d, owns (c : Thread nD τ) mO fullShare ((dat1 V c).before (1 : Fin 2) t1_0 d)))
def bodyPost (c : Dev nD) : sProp 𝕄 :=
  iprop(Φ₁ c ∗ (dat1 V c).owesAt () t1_0.succ ∗ owns (c : Thread nD τ) mX fullShare (xstg V c) ∗ owns (c : Thread nD τ) mO fullShare (outAt V c))

theorem owes_in (c : Dev nD) : (dat1 V c).owesAt () t1_0.castSucc ⊢ owesR c (O₀ c) := by
  unfold Dat.owesAt Pipeline.owesWithin owesR
  iintro ⟨%W, %hW, HO⟩
  iexists W; iexact HO

theorem owes_out (c : Dev nD) : owesR c 0 ⊢ (dat1 V c).owesAt () t1_0.succ := by
  unfold Dat.owesAt Pipeline.owesWithin owesR
  rw [show (dat1 V c).owed t1_0.succ = 0 from rfl]
  iintro ⟨%W, HO⟩
  iexists W
  isplitr; · ipureintro; exact fun _ _ => Or.inl trivial
  iexact HO

theorem before_x (c : Dev nD) (d) : (dat1 V c).before (0 : Fin 2) t1_0 d = blk (n := 1024) (m := 1024) (xs V c) := by
  unfold Dat.before
  rw [if_pos (fetch1_0 t1_0)]
  exact (blk_tab (xstg V c)).symm

theorem x_in (c : Dev nD) : (iprop(∃ d, owns (c : Thread nD τ) mX fullShare ((dat1 V c).before (0 : Fin 2) t1_0 d)) : sProp 𝕄) ⊢ hasX c (xs V c) := by
  unfold hasX
  iintro ⟨%d, H⟩
  rw [before_x]
  iexact H

theorem x_out (c : Dev nD) : hasX c (xs V c) ⊢ owns (c : Thread nD τ) mX fullShare (xstg V c) := by
  unfold hasX xs
  rw [blk_tab]

theorem o_in (c : Dev nD) : (iprop(∃ d, owns (c : Thread nD τ) mO fullShare ((dat1 V c).before (1 : Fin 2) t1_0 d)) : sProp 𝕄)
    ⊢ iprop(∃ X, owns (c : Thread nD τ) mO fullShare X) := by
  iintro ⟨%d, H⟩
  iexists _; iexact H

theorem pre_in (c : Dev nD) : bodyPre V c ⊢ iprop(∃ K, records (vs (xs V)) K ∗ bodyIn (xs V) c ∗ stgs c) := by
  have e : (bigSep Finset.univ fun k => lent (F := F) c k) = _ := bigSep_sep' _ _ _
  unfold bodyPre Φ₀ enter start scr bodyIn
  rw [e]
  iintro ⟨⟨⟨⟨⟨%K, HR⟩, Hat, Hcr, Htok, Hr⟩, Hre⟩, ⟨Hsl, HSA, HSB, HZ⟩, Hstg⟩, HO, HX, HY⟩
  iexists K
  isplitl [HR]; · iexact HR
  isplitr [Hstg]; rotate_left; · iexact Hstg
  isplitl [Hat]; · iexact Hat
  isplitl [Hcr]; · iexact Hcr
  isplitl [Htok]; · iexact Htok
  isplitl [Hsl Hre]
  · isplitl [Hsl]; · iexact Hsl
    iexact Hre
  isplitl [Hr]; · iexact Hr
  isplitl [HO]; · iapply (owes_in V c); iexact HO
  isplitl [HX]; · iapply (x_in V c); iexact HX
  isplitl [HY]; · iapply (o_in V c); iexact HY
  isplitl [HSA]; · iexact HSA
  isplitl [HSB]; · iexact HSB
  iexact HZ

theorem post_out (c : Dev nD) : iprop(bodyOut (xs V) c ∗ stgs c) ⊢ bodyPost V c := by
  unfold bodyPost Φ₁ scr bodyOut
  iintro ⟨⟨Hz, HC, Hsl, HO, HX, HY, HSA, HSB, HZ⟩, Hstg⟩
  isplitl [Hsl HSA HSB HZ Hz HC Hstg]
  · isplitl [Hsl HSA HSB HZ Hstg]
    · isplitr [Hstg]; rotate_left; · iexact Hstg
      isplitl [Hsl]; · iexact Hsl
      isplitl [HSA]; · iexact HSA
      isplitl [HSB]; · iexact HSB
      iexact HZ
    isplitl [Hz]; · iexact Hz
    iexact HC
  isplitl [HO]; · iapply (owes_out V c); iexact HO
  isplitl [HX]; · iapply (x_out V c); iexact HX
  unfold outAt
  iexact HY

theorem sound (c : Dev nD) : bodyPre V c ⊢ wp frame (wpE (defs₀ (F := F)) 𝒱₀ (c : Thread nD τ) none) Set.univ (wholeP c .ret) (fun _ => bodyPost V c) := by
  refine Entails.trans' (pre_in V c) ?_
  iintro ⟨%K, HR, HB, Hstg⟩
  iapply (wp_whole (xs V) c K)
  isplitl [HR]; · iexact HR
  isplitl [HB]; · iexact HB
  iintro H
  rw [wp_ret]; imodintro
  iapply (post_out V c)
  isplitl [H]; · iexact H
  iexact Hstg

theorem dev_op (c : Dev nD) (P Q : sProp 𝕄) (f : Dev nD → PP F PUnit)
    (h : P ⊢ wp frame (wpE (defs₀ (F := F)) 𝒱₀ (c : Thread nD τ) none) Set.univ (f c) (fun _ => Q)) :
    P ⊢ wp frame (wpE (defs₀ (F := F)) 𝒱₀ (c : Thread nD τ) none) Set.univ (.op .deviceId f) (fun _ => Q) := by
  rw [wp_deviceId]; exact h

/-- The kernel's body on its staging and scratch buffers. -/
@[irreducible] def bodyP : PP F PUnit :=
  cc1_body (Memref.whole cc1_stg0_0) (Memref.isWhole_whole _) (Memref.whole cc1_stg1_0) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) cc1_scratch9 cc1_scratch10

theorem bodyP_eq : bodyP (F := F) = .op .deviceId fun c => wholeP c .ret := by
  unfold bodyP; exact body_eq

theorem sound_body (c : Dev nD) : bodyPre V c ⊢ wp frame (wpE (defs₀ (F := F)) 𝒱₀ (c : Thread nD τ) none) Set.univ bodyP (fun _ => bodyPost V c) := by
  rw [bodyP_eq]; exact dev_op c _ _ _ (sound V c)

set_option maxRecDepth 40000 in
/-- The body's obligation on device `c`. -/
theorem body_obligation (c : Dev nD) : BodyObligation (dat1 (F := F) V c) (defs₀ (F := F)) 𝒱₀ () Set.univ := fun t => by
  rw [fin_N1 t]
  rw [bigSep_W1, bigSep_W1]
  have h := sound_body V c
  unfold bodyP at h
  exact h

/-! ## Into and out of the region -/

/-- A device opens its transfer cells, then holds what the body starts from. -/
theorem start_intro (c : Dev nD) :
    iprop(G' (vs (xs V)) c ∗ Pipeline.launchCred O₀ c
        ∗ Pipeline.ownSems0 (Ix := Unit) (Name := ℕ) (U := UU) (Lvl := ℕ) (Val := Elt F) (τ := τ) osem c ∗ levAts L lv)
      ⊢ (|={Set.univ}=> enter V c : sProp 𝕄) := by
  have e : (bigSep Finset.univ fun k => rights (F := F) c k)
      = iprop((bigSep Finset.univ fun k : Ch => atPos ER (sendCell c k) 0 ∅ 0) ∗ (bigSep Finset.univ fun k : Ch => atPos ER (recvCell c k) 0 ∅ 0)
        ∗ (bigSep Finset.univ fun k : Ch => dutyTok ER (sendCell c k) 0 0) ∗ (bigSep Finset.univ fun k : Ch => dutyTok ER (recvCell (dst k c) k) 0 0)
        ∗ (bigSep Finset.univ fun k : Ch => cred (tallyAt (recvCell c k) () (N k))) ∗ bigSep Finset.univ fun k : Ch => reached ER (sendCell c k) 0) := by
    rw [← bigSep_sep', ← bigSep_sep', ← bigSep_sep', ← bigSep_sep', ← bigSep_sep']; rfl
  have p : (bigSep Finset.univ fun j : Bool × Ch => iprop(atPos ER (dcell (c, j)) 0 ∅ 0 ∗ reached ER (dcell (c, j)) 0) : sProp 𝕄)
      = iprop(((bigSep Finset.univ fun k : Ch => atPos ER (sendCell c k) 0 ∅ 0) ∗ (bigSep Finset.univ fun k : Ch => reached ER (sendCell c k) 0))
        ∗ (bigSep Finset.univ fun k : Ch => atPos ER (recvCell c k) 0 ∅ 0) ∗ (bigSep Finset.univ fun k : Ch => reached ER (recvCell c k) 0)) := by
    rw [own_split, bigSep_sep', bigSep_sep']; rfl
  unfold enter start
  rw [e]
  unfold G' payToks
  iintro ⟨⟨%K, #HI, Hb, ⟨HtB, HtS, HtV⟩, Hop⟩, Hcr, Hown, Hl⟩
  ihave Hc := (creds (F := F) c) $$ Hcr
  icases Hc with ⟨H1, HN⟩
  imod (open_cells (vs (xs V)) K c) $$ [Hop Hown] with H
  · isplitr [Hop Hown]; · iexact HI
    isplitl [Hop]; · iexact Hop
    iexact Hown
  imodintro
  ihave H := (Entails.of_eq p) $$ H
  icases H with ⟨⟨HaS, HrS⟩, HaV, HrV⟩
  isplitr [HrV]
  · isplitl [Hl]
    · iexists K
      unfold records
      ihave HI2 := (show invAll (vs (xs V)) K ⊢ iprop((bigSep Finset.univ fun p : Dev nD × CI => cellInv ER (Rd (vs (xs V))) (K p) (kcell p)) ∗ (bigSep Finset.univ fun d : Dev nD => reached ER (barCell d) 0)) from .rfl) $$ HI
      icases HI2 with ⟨HA, HB⟩
      isplitl [HA]; · iexact HA
      isplitl [HB]; · iexact HB
      iexact Hl
    isplitl [Hb]; · iexact Hb
    isplitl [H1]; · iexact H1
    isplitl [HtB]; · iexact HtB
    isplitl [HaS]; · iexact HaS
    isplitl [HaV]; · iexact HaV
    isplitl [HtS]; · iexact HtS
    isplitl [HtV]; · iexact HtV
    isplitl [HN]; · iexact HN
    iexact HrS
  · iexact HrV

omit [FloatOps F] in
theorem any_whole (c : Dev nD) (b : Ref sig .tc) :
    (iprop(∃ f : Buf (Elt F) ((c : Thread nD τ).loc b), ((c : Thread nD τ).loc b) ↦{fullShare} f) : sProp 𝕄)
      = iprop(∃ X, owns (c : Thread nD τ) (Memref.whole b) fullShare X) := by
  simp only [owns_whole]

theorem scr_eq (c : Dev nD) : (Pipeline.scopedRest (Ix := Unit) (Name := ℕ) (U := UU) (Lvl := ℕ) (Val := Elt F) spec1 c : sProp 𝕄) ⊣⊢ iprop(scr c ∗ stgs c) := by
  unfold scr stgs
  rw [scopedRest1_eq, slots_bufs]
  simp only [any_whole]
  refine ⟨?_, ?_⟩
  · iintro ⟨S0, S1, S2, S3, S4, S5, S6, S7, H0, H1, H2, H3, H4, H5, H6, H7, H8⟩
    isplitl [H0 H1 H2 H3 H4 H5 H6 H7 H8]
    · isplitl [H1 H2 H5 H6 H7 H8]
      · isplitl [H1]; · iexact H1
        isplitl [H2]; · iexact H2
        isplitl [H5]; · iexact H5
        isplitl [H6]; · iexact H6
        isplitl [H7]; · iexact H7
        iexact H8
      isplitl [H0]; · iexact H0
      isplitl [H4]; · iexact H4
      iexact H3
    isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  · iintro ⟨⟨⟨H1, H2, H5, H6, H7, H8⟩, H0, H4, H3⟩, S0, S1, S2, S3, S4, S5, S6, S7⟩
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem phi0_intro (c : Dev nD) :
    iprop(enter V c ∗ Pipeline.prefHeld Pipeline.Prefetch.none c (fun _ => fullShare) (fun k => k.elim0) ∗ Pipeline.scopedRest spec1 c)
      ⊢ (dat1 V c).Φ 0 := by
  rw [show (dat1 V c).Φ 0 = Φ₀ V c from rfl]
  unfold Φ₀
  iintro ⟨Hs, -, Hr⟩
  isplitl [Hs]; · iexact Hs
  iapply (scr_eq (F := F) c).1; iexact Hr

theorem phi1_exit (c : Dev nD) :
    (dat1 V c).Φ (Fin.last cfg1.N) ⊢ iprop(unscopedSems0 c ∗ Pipeline.ownSems0 osem c ∗ Pipeline.scopedRest spec1 c) := by
  rw [show (dat1 V c).Φ (Fin.last cfg1.N) = Φ₁ c from rfl, ownSems0_eq, unscopedSems0_eq]
  unfold Φ₁
  iintro ⟨Hr, Hz, HC⟩
  isplitl [Hz]; · iexact Hz
  isplitl [HC]; · iexact HC
  iapply (scr_eq (F := F) c).2; iexact Hr

end Cert.AllReduce

end
-- ==== Proof.Head.lean ====
/-
# The attention body: one head at a time

A grid point holds 256 rows of queries and, of the keys and values, the rows of the same batch entry; head `h` reads
columns `128 h …` of the queries and the head's keys and values, and writes its columns of the result.
-/
module

public import proofs.«01_k».proof.Proof.Run

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem inb_col (h : Fin 8) : ∀ a, (![0, 128 * h.val] : Fin 2 → ℕ) a + S256x128.size a ≤ S256x1024.size a := by revert h; decide
theorem inb_hd (h : Fin 8) : ∀ a, (![0, 0, h.val, 0] : Fin 4 → ℕ) a + S1x1024x1x128.size a ≤ S1x1024x8x128.size a := by revert h; decide

/-- Head `h`'s columns. -/
abbrev rCol (h : Fin 8) : Rect S256x1024 := Rect.unit (s := S256x1024) ![0, 128 * h.val] S256x128.size (inb_col h)
/-- Head `h` of a key or value block. -/
abbrev rHd (h : Fin 8) : Rect S1x1024x8x128 := Rect.unit (s := S1x1024x8x128) ![0, 0, h.val, 0] S1x1024x1x128.size (inb_hd h)

/-- One head's result: from its queries, keys and values. -/
@[irreducible] def headO (q : FVec F S256x128 .f32) (k v : FVec F S1x1024x1x128 .f32) : FVec F S256x128 .f32 := k0_pay2 q k v

/-- An entry of a head's columns. -/
def colAt (r : Fin 256) (d : Fin 128) : S256x128.Idx := fun a => match a with | ⟨0, _⟩ => r | ⟨1, _⟩ => d

/-- The eight heads' results side by side. -/
def attnBlk (q : S256x1024.Idx → Elt F .f32) (k v : S1x1024x8x128.Idx → Elt F .f32) : S256x1024.Idx → Elt F .f32 := fun i =>
  headO (F := F) (fun j => q ((rCol ⟨(i 1).val / 128, Nat.div_lt_of_lt_mul (i 1).isLt⟩).emb j))
    (fun j => k ((rHd ⟨(i 1).val / 128, Nat.div_lt_of_lt_mul (i 1).isLt⟩).emb j))
    (fun j => v ((rHd ⟨(i 1).val / 128, Nat.div_lt_of_lt_mul (i 1).isLt⟩).emb j))
    (colAt (i 0) ⟨(i 1).val % 128, Nat.mod_lt _ (by decide)⟩)

section Body

variable (c : Dev nD) (q : Memref sig .tc .vmem S256x1024 .f32) (k v : Memref sig .tc .vmem S1x1024x8x128 .f32) (o : Memref sig .tc .vmem S256x1024 .f32)

/-- The program of one head. -/
def headP (h : Fin 8) {α : Type} (kt : PUnit → Prog (TpuEff nD τ sig (Elt F) Λ₀ .tc) α) : Prog (TpuEff nD τ sig (Elt F) Λ₀ .tc) α :=
  .op (.load q (rCol h).toLoadRect (View.loadsAt_vmem h_S256x128)) fun (a : Vec F S256x128 .f32) =>
    .op (.load k (rHd h).toLoadRect (View.loadsAt_vmem h_S1x1024x1x128)) fun (b : Vec F S1x1024x1x128 .f32) =>
      .op (.load v (rHd h).toLoadRect (View.loadsAt_vmem h_S1x1024x1x128)) fun (d : Vec F S1x1024x1x128 .f32) =>
        .op (.load o (rCol h).toLoadRect (View.loadsAt_vmem h_S256x128)) fun _ =>
          .op (.store o (rCol h) (headO a b d) Finset.univ (View.stores_vmem_bits_univ h_S256x128 rfl) (.inl rfl)) kt

variable (X : S256x1024.Idx → Elt F .f32) (Y Z : S1x1024x8x128.Idx → Elt F .f32)

theorem attnBlk_col (h : Fin 8) (j : S256x128.Idx) :
    headO (F := F) (fun j => X ((rCol h).emb j)) (fun j => Y ((rHd h).emb j)) (fun j => Z ((rHd h).emb j)) j = attnBlk X Y Z ((rCol h).emb j) := by
  have h0 : (((rCol h).emb j) 0).val = (j 0).val := by show 0 + 1 * (j 0).val = _; omega
  have h1 : (((rCol h).emb j) 1).val = 128 * h.val + (j 1).val := by show 128 * h.val + 1 * (j 1).val = _; omega
  have hj : (j 1).val < 128 := (j 1).isLt
  have hh : (⟨(((rCol h).emb j) 1).val / 128, Nat.div_lt_of_lt_mul (((rCol h).emb j) 1).isLt⟩ : Fin 8) = h := Fin.ext (by
    show (((rCol h).emb j) 1).val / 128 = h.val
    rw [h1]; omega)
  unfold attnBlk
  rw [hh]
  congr 1
  funext a
  fin_cases a
  · exact Fin.ext h0.symm
  · refine Fin.ext ?_
    show (j 1).val = (((rCol h).emb j) 1).val % 128
    rw [h1]; omega

theorem wp_head (h : Fin 8) (D : S256x1024.Idx → Prop) {α : Type} {Q : α → sProp 𝕄} {kt : PUnit → Prog (TpuEff nD τ sig (Elt F) Λ₀ .tc) α} :
    iprop(owns (c : Thread nD τ) q fullShare X ∗ owns (c : Thread nD τ) k fullShare Y ∗ owns (c : Thread nD τ) v fullShare Z ∗ part c o (attnBlk X Y Z) D
        ∗ ((owns (c : Thread nD τ) q fullShare X ∗ owns (c : Thread nD τ) k fullShare Y ∗ owns (c : Thread nD τ) v fullShare Z
            ∗ part c o (attnBlk X Y Z) fun i => D i ∨ i ∈ (rCol h).set)
          -∗ wp frame (wpE (defs₀ (F := F)) 𝒱₀ (c : Thread nD τ) none) Set.univ (kt ⟨⟩) Q))
      ⊢ wp frame (wpE (defs₀ (F := F)) 𝒱₀ (c : Thread nD τ) none) Set.univ (headP q k v o h kt) Q := by
  unfold headP
  iintro ⟨Hq, Hk, Hv, Ho, HK⟩
  iapply ((reads_owns c q (rCol h) X).run Q _ _)
  isplitl [Hq]; · iexact Hq
  iintro %a %ha Hq
  iapply ((reads_owns c k (rHd h) Y).run Q _ _)
  isplitl [Hk]; · iexact Hk
  iintro %b %hb Hk
  iapply ((reads_owns c v (rHd h) Z).run Q _ _)
  isplitl [Hv]; · iexact Hv
  iintro %d %hd Hv
  iapply ((reads_part_any c o (rCol h) (attnBlk X Y Z) D).run Q _ _)
  isplitl [Ho]; · iexact Ho
  iintro %u - Ho
  iapply ((writes_part c o (rCol h) (attnBlk X Y Z) D (headO a b d) (fun j => by rw [ha, hb, hd]; exact attnBlk_col X Y Z h j)).run Q _ _ _)
  isplitl [Ho]; · iexact Ho
  iintro Ho
  iapply HK
  isplitl [Hq]; · iexact Hq
  isplitl [Hk]; · iexact Hk
  isplitl [Hv]; · iexact Hv
  iexact Ho

/-- The heads of a list in turn. -/
def headsL {α : Type} (kt : PUnit → Prog (TpuEff nD τ sig (Elt F) Λ₀ .tc) α) : List (Fin 8) → Prog (TpuEff nD τ sig (Elt F) Λ₀ .tc) α
  | [] => kt ⟨⟩
  | h :: l => headP q k v o h fun _ => headsL kt l

/-- The eight heads in turn. -/
abbrev headsP {α : Type} (kt : PUnit → Prog (TpuEff nD τ sig (Elt F) Λ₀ .tc) α) : Prog (TpuEff nD τ sig (Elt F) Λ₀ .tc) α :=
  headsL q k v o kt [0, 1, 2, 3, 4, 5, 6, 7]

theorem wp_headsL {α : Type} {Q : α → sProp 𝕄} {kt : PUnit → Prog (TpuEff nD τ sig (Elt F) Λ₀ .tc) α} : ∀ (l : List (Fin 8)) (D : S256x1024.Idx → Prop),
    iprop(owns (c : Thread nD τ) q fullShare X ∗ owns (c : Thread nD τ) k fullShare Y ∗ owns (c : Thread nD τ) v fullShare Z ∗ part c o (attnBlk X Y Z) D
        ∗ ((owns (c : Thread nD τ) q fullShare X ∗ owns (c : Thread nD τ) k fullShare Y ∗ owns (c : Thread nD τ) v fullShare Z
            ∗ part c o (attnBlk X Y Z) fun i => D i ∨ ∃ h ∈ l, i ∈ (rCol h).set)
          -∗ wp frame (wpE (defs₀ (F := F)) 𝒱₀ (c : Thread nD τ) none) Set.univ (kt ⟨⟩) Q))
      ⊢ wp frame (wpE (defs₀ (F := F)) 𝒱₀ (c : Thread nD τ) none) Set.univ (headsL q k v o kt l) Q
  | [], D => by
    unfold headsL
    iintro ⟨Hq, Hk, Hv, Ho, HK⟩
    iapply HK
    isplitl [Hq]; · iexact Hq
    isplitl [Hk]; · iexact Hk
    isplitl [Hv]; · iexact Hv
    iapply (part_weaken c o (attnBlk X Y Z) D _ fun i hi => hi.elim id fun ⟨_, h, _⟩ => absurd h List.not_mem_nil)
    iexact Ho
  | h :: l, D => by
    unfold headsL
    iintro ⟨Hq, Hk, Hv, Ho, HK⟩
    iapply (wp_head c q k v o X Y Z h D)
    isplitl [Hq]; · iexact Hq
    isplitl [Hk]; · iexact Hk
    isplitl [Hv]; · iexact Hv
    isplitl [Ho]; · iexact Ho
    iintro ⟨Hq, Hk, Hv, Ho⟩
    iapply (wp_headsL l _)
    isplitl [Hq]; · iexact Hq
    isplitl [Hk]; · iexact Hk
    isplitl [Hv]; · iexact Hv
    isplitl [Ho]; · iexact Ho
    iintro ⟨Hq, Hk, Hv, Ho⟩
    iapply HK
    isplitl [Hq]; · iexact Hq
    isplitl [Hk]; · iexact Hk
    isplitl [Hv]; · iexact Hv
    iapply (part_weaken c o (attnBlk X Y Z) (fun i => (D i ∨ i ∈ (rCol h).set) ∨ ∃ j ∈ l, i ∈ (rCol j).set) _ fun i hi => by
      rcases hi with hi | ⟨j, hj, hi⟩
      · exact .inl (.inl hi)
      · rcases List.mem_cons.mp hj with e | hj
        · exact .inl (.inr (e ▸ hi))
        · exact .inr ⟨j, hj, hi⟩)
    iexact Ho

/-- Every entry lies in some head's columns. -/
theorem col_cover (i : S256x1024.Idx) : ∃ h ∈ ([0, 1, 2, 3, 4, 5, 6, 7] : List (Fin 8)), i ∈ (rCol h).set := by
  have h1 : (i 1).val < 1024 := (i 1).isLt
  refine ⟨⟨(i 1).val / 128, by omega⟩, ?_, ?_⟩
  · generalize (⟨(i 1).val / 128, _⟩ : Fin 8) = h
    revert h; decide
  · refine Rect.mem_set_unit.mpr fun a => ?_
    fin_cases a
    · exact ⟨Nat.zero_le _, by show (i 0).val < 0 + 256; have h0 : (i 0).val < 256 := (i 0).isLt; omega⟩
    · exact ⟨by show 128 * ((i 1).val / 128) ≤ (i 1).val; omega, by show (i 1).val < 128 * ((i 1).val / 128) + 128; omega⟩

/-- The attention body: from the block of queries, keys and values, the heads' results. -/
theorem wp_heads :
    (iprop(owns (c : Thread nD τ) q fullShare X ∗ owns (c : Thread nD τ) k fullShare Y ∗ owns (c : Thread nD τ) v fullShare Z
        ∗ (∃ W, owns (c : Thread nD τ) o fullShare W)) : sProp 𝕄)
      ⊢ wp frame (wpE (defs₀ (F := F)) 𝒱₀ (c : Thread nD τ) none) Set.univ (headsP (α := PUnit) q k v o .ret) (fun _ =>
        iprop(owns (c : Thread nD τ) q fullShare X ∗ owns (c : Thread nD τ) k fullShare Y ∗ owns (c : Thread nD τ) v fullShare Z
          ∗ owns (c : Thread nD τ) o fullShare (attnBlk X Y Z))) := by
  iintro ⟨Hq, Hk, Hv, Ho⟩
  iapply (wp_headsL c q k v o X Y Z _ fun _ => False)
  isplitl [Hq]; · iexact Hq
  isplitl [Hk]; · iexact Hk
  isplitl [Hv]; · iexact Hv
  isplitl [Ho]
  · iapply (part_none c o (attnBlk X Y Z) (fun _ => False) fun _ h => h); iexact Ho
  iintro ⟨Hq, Hk, Hv, Ho⟩
  rw [wp_ret]; imodintro
  isplitl [Hq]; · iexact Hq
  isplitl [Hk]; · iexact Hk
  isplitl [Hv]; · iexact Hv
  iapply (part_full c o (attnBlk X Y Z) (fun i => False ∨ ∃ h ∈ ([0, 1, 2, 3, 4, 5, 6, 7] : List (Fin 8)), i ∈ (rCol h).set) fun i => .inr (col_cover i))
  iexact Ho

end Body

set_option maxRecDepth 65536 in
theorem attn_eq (i : grid0.Coords) (t : Memref sig .tc .smem S1 .i32) (ht : t.IsWhole) (q : Memref sig .tc .vmem S256x1024 .f32) (hq : q.IsWhole)
    (k : Memref sig .tc .vmem S1x1024x8x128 .f32) (hk : k.IsWhole) (v : Memref sig .tc .vmem S1x1024x8x128 .f32) (hv : v.IsWhole)
    (o : Memref sig .tc .vmem S256x1024 .f32) (ho : o.IsWhole) :
    cc0_body (F := F) i t ht q hq k hk v hv o ho = headsP q k v o .ret := by
  rw [cc0_body_eq_skeleton]
  unfold headsP headsL headsL headsL headsL headsL headsL headsL headsL headsL headP headO
  rfl

end Cert.AllReduce

end
-- ==== Proof.Attn.lean ====
/-
# The attention region

At a grid point `b` the pipeline brings batch entry `b`'s queries and, of the keys and values, batch entry `b` and the
heads the prefetched table names. The body leaves the inputs as they are and writes the heads' results.
-/
module

public import proofs.«01_k».proof.Proof.Head
public import Idealize.ShloMosaic.Lib.Pipeline.RegionArraysT
public import Idealize.ShloMosaic.Lib.Pipeline.FrameBody

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

section Region

variable (V : Valuation τ sig (Elt F)) (a : (pcfg0 (F := F)).Adm) (c : Dev nD)

/-- Window `w`'s array as the region is entered. -/
def arr0 (w : Fin 4) : Buf (Elt F) (((cfg0 a).win w).arr.view.loc (c : Thread nD τ)) := V (Proc.devRef .tc (Pipeline.arrRef spec0 w))
/-- Its block at point `t`. -/
def in0 (w : Fin 4) (t : Fin (cfg0 a).N) : ((cfg0 a).win w).block.Idx → Elt F ((cfg0 a).win w).elt :=
  (((cfg0 a).win w).blk t).view.read (Elt F) (arr0 V a c w)

/-- The result at point `t`. -/
def out0 (t : Fin (cfg0 a).N) : S256x1024.Idx → Elt F .f32 :=
  attnBlk (F := F) (in0 V a c (0 : Fin 4) t) (in0 V a c (1 : Fin 4) t) (in0 V a c (2 : Fin 4) t)

def dat0 : Dat τ (Elt F) Unit ℕ UU ℕ (cfg0 a) c where
  A w := arr0 V a c w
  after w t := match w with
    | ⟨0, _⟩ => in0 V a c (0 : Fin 4) t
    | ⟨1, _⟩ => in0 V a c (1 : Fin 4) t
    | ⟨2, _⟩ => in0 V a c (2 : Fin 4) t
    | ⟨3, _⟩ => out0 V a c t
  Φ _ := iprop(Pipeline.prefHeld pre0 c (fun _ => fullShare) a.1 ∗ Pipeline.scopedRest spec0 c)
  q _ := fullShare
  owed _ := O₀ c

theorem share0_eq (w : Fin (cfg0 a).W) : (dat0 V a c).share w = fullShare := by unfold Dat.share; split <;> rfl

theorem before0 (w : Fin 4) (hw : w.val < 3) (t : Fin (cfg0 a).N) (d) : (dat0 V a c).before w t d = in0 V a c w t := by
  have h := (dat0 V a c).before_in_eq_fetched w (by revert hw; fin_cases w <;> intro hw <;> first | rfl | exact absurd hw (by decide)) (fun _ => rfl) (fun _ _ _ => by fin_cases w <;> rfl)
    (by revert hw; fin_cases w <;> intro hw t <;> first | rfl | exact absurd hw (by decide)) t d
  rw [h]
  revert hw; fin_cases w <;> intro hw <;> first | rfl | exact absurd hw (by decide)

/-- The attention body on the staging buffers `s`. -/
@[irreducible] def attnP (t : Fin grid0.N) (s : (w : Fin 4) → Fin (spec0 w).nbuf) : PP F PUnit :=
  cc0_body (grid0.coords t) (Memref.whole main_v7) (Memref.isWhole_whole _) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3))

theorem attnP_eq (t : Fin grid0.N) (s : (w : Fin 4) → Fin (spec0 w).nbuf) :
    attnP (F := F) t s = headsP (spec0_0.stage (s 0)) (spec0_1.stage (s 1)) (spec0_2.stage (s 2)) (spec0_3.stage (s 3)) .ret := by
  unfold attnP; exact attn_eq ..

theorem sound0 (t : Fin (cfg0 a).N) (s : (w : Fin 4) → Fin (spec0 w).nbuf) :
    (iprop((dat0 V a c).Φ t.castSucc ∗ (dat0 V a c).owesAt () t.castSucc
      ∗ (∃ d, owns (c : Thread nD τ) (spec0_0.stage (s 0)) fullShare ((dat0 V a c).before (0 : Fin 4) t d))
      ∗ (∃ d, owns (c : Thread nD τ) (spec0_1.stage (s 1)) fullShare ((dat0 V a c).before (1 : Fin 4) t d))
      ∗ (∃ d, owns (c : Thread nD τ) (spec0_2.stage (s 2)) fullShare ((dat0 V a c).before (2 : Fin 4) t d))
      ∗ (∃ d, owns (c : Thread nD τ) (spec0_3.stage (s 3)) fullShare ((dat0 V a c).before (3 : Fin 4) t d))) : sProp 𝕄)
    ⊢ wp frame (wpE (defs₀ (F := F)) 𝒱₀ (c : Thread nD τ) none) Set.univ (attnP t s) (fun _ =>
      iprop((dat0 V a c).Φ t.succ ∗ (dat0 V a c).owesAt () t.succ
        ∗ owns (c : Thread nD τ) (spec0_0.stage (s 0)) fullShare (in0 V a c (0 : Fin 4) t)
        ∗ owns (c : Thread nD τ) (spec0_1.stage (s 1)) fullShare (in0 V a c (1 : Fin 4) t)
        ∗ owns (c : Thread nD τ) (spec0_2.stage (s 2)) fullShare (in0 V a c (2 : Fin 4) t)
        ∗ owns (c : Thread nD τ) (spec0_3.stage (s 3)) fullShare (out0 V a c t))) := by
  rw [attnP_eq, show (dat0 V a c).Φ t.succ = (dat0 V a c).Φ t.castSucc from rfl,
    show (dat0 V a c).owesAt () t.succ = (dat0 V a c).owesAt () t.castSucc from rfl]
  iintro ⟨HΦ, HO, ⟨%d0, H0⟩, ⟨%d1, H1⟩, ⟨%d2, H2⟩, ⟨%d3, H3⟩⟩
  rw [before0 V a c (0 : Fin 4) (by decide), before0 V a c (1 : Fin 4) (by decide), before0 V a c (2 : Fin 4) (by decide)]
  iapply (wp_wand_r frame (wpE (defs₀ (F := F)) 𝒱₀ (c : Thread nD τ) none) Set.univ (Q := fun _ => iprop(owns (c : Thread nD τ) (spec0_0.stage (s 0)) fullShare (in0 V a c (0 : Fin 4) t)
    ∗ owns (c : Thread nD τ) (spec0_1.stage (s 1)) fullShare (in0 V a c (1 : Fin 4) t)
    ∗ owns (c : Thread nD τ) (spec0_2.stage (s 2)) fullShare (in0 V a c (2 : Fin 4) t)
    ∗ owns (c : Thread nD τ) (spec0_3.stage (s 3)) fullShare (out0 V a c t))))
  isplitl [H0 H1 H2 H3]
  · iapply (wp_heads c (spec0_0.stage (s 0)) (spec0_1.stage (s 1)) (spec0_2.stage (s 2)) (spec0_3.stage (s 3)) (in0 V a c (0 : Fin 4) t) (in0 V a c (1 : Fin 4) t) (in0 V a c (2 : Fin 4) t))
    isplitl [H0]; · iexact H0
    isplitl [H1]; · iexact H1
    isplitl [H2]; · iexact H2
    iexists _; iexact H3
  iintro %_ ⟨H0, H1, H2, H3⟩
  isplitl [HΦ]; · iexact HΦ
  isplitl [HO]; · iexact HO
  isplitl [H0]; · iexact H0
  isplitl [H1]; · iexact H1
  isplitl [H2]; · iexact H2
  iexact H3

set_option maxRecDepth 40000 in
/-- The body's obligation on device `c`. -/
theorem attn_obligation : BodyObligation (dat0 V a c) (defs₀ (F := F)) 𝒱₀ () Set.univ := fun t => by
  have e (Φ : Fin (cfg0 a).W → sProp 𝕄) := bigSep_W0 Φ
  rw [e, e]
  have h := sound0 V a c t ((cfg0 a).slots t)
  unfold attnP at h
  exact h

end Region

end Cert.AllReduce

end
-- ==== Proof.Table.lean ====
/-
# The prefetched table

The host stretch before the attention computes the device's number; the attention's blocks of keys and values are the
heads it names.
-/
module

public import proofs.«01_k».proof.Proof.Attn
public import proofs.«01_k».proof.Proof.Gen.KernelIdeal.Regions

@[expose] public section

noncomputable section

namespace Cert.AllReduce

open Cert.KernelIdeal Cert.KernelIdeal.Gen
open Idealize.ShloMosaic
open Idealize.ShloMosaic.TcCoe

variable {F : FTy → Type} [FloatOps F]
variable (m : (ℓ : Loc nD τ sig) → Buf (Elt F) ℓ)

/-- The quotient and the remainder that give the device's number. -/
def devNum (c : Dev nD) : IVec S_ 32 :=
  Host.remui (Host.divui (constantI S_ 32 (Dev.word c)) (constantI S_ 32 1#32)) (constantI S_ 32 16#32)

theorem devNum_eq : ∀ c : Dev nD, devNum c = fun _ => BitVec.ofNat 32 c.val := by
  have h : ∀ c : Dev nD, (if (16#32 : BitVec 32) = 0 then IntOp.cornerWord .host .remui (if (1#32 : BitVec 32) = 0 then IntOp.cornerWord .host .divui (Dev.word c) 1#32 else Dev.word c / 1#32) 16#32 else (if (1#32 : BitVec 32) = 0 then IntOp.cornerWord .host .divui (Dev.word c) 1#32 else Dev.word c / 1#32) % 16#32) = BitVec.ofNat 32 c.val := by
    decide
  intro c
  funext i
  exact h c

theorem V1_v7 (c : Dev nD) : V1 m c main_v7 = shapeCast S1 (devNum c) shapeCasts_S_S1 := by
  unfold devNum
  show StableHlo.after (hostOps0 c) (V0 m c) (Proc.devRef .tc main_v7) = _
  after_results
  rfl

/-- The table's contents, as the host left them. -/
def tbl (c : Dev nD) : pre0.Contents (Elt F) := fun k => V1 m c (Proc.devRef .tc (pre0.ref k))

theorem tbl_at (c : Dev nD) (h) (h') : (tbl m c).at 0 (Rect.unit (s := S1) ![0] S1.size h) h' = BitVec.ofNat 32 c.val := by
  have e : tbl m c 0 = shapeCast S1 (devNum c) shapeCasts_S_S1 := V1_v7 m c
  unfold Pipeline.Prefetch.Contents.at
  rw [e, devNum_eq]
  rfl

/-- The blocks the table names are inside the keys and the values. -/
theorem tbl_ok (c : Dev nD) : ok0 (tbl m c) := by
  have h : ∀ (i : grid0.Coords) (c : Dev nD) (a : Fin 4),
      ((![(BitVec.ofNat 32 (i 0).val).toNat, (0#32).toNat, (BitVec.ofNat 32 c.val).toNat, (0#32).toNat] : Fin 4 → ℕ) a + 1) * S1x1024x8x128.size a
        ≤ S4x1024x128x128.size a := by
    intro i c a
    have hi : (i 0).val < 4 := (i 0).isLt
    have hc : c.val < 16 := c.isLt
    fin_cases a
    · show ((BitVec.ofNat 32 (i 0).val).toNat + 1) * 1 ≤ 4
      rw [BitVec.toNat_ofNat, Nat.mod_eq_of_lt (by omega)]; omega
    · show ((0#32).toNat + 1) * 1024 ≤ 1024
      decide
    · show ((BitVec.ofNat 32 c.val).toNat + 1) * 8 ≤ 128
      rw [BitVec.toNat_ofNat, Nat.mod_eq_of_lt (by omega)]; omega
    · show ((0#32).toNat + 1) * 128 ≤ 128
      decide
  refine ⟨fun i => ⟨fun a => ?_, .inl rfl⟩, fun i => ⟨fun a => ?_, .inl rfl⟩⟩
  · unfold cc0_transform_1
    rw [tbl_at m c inb_S1_S1_0 numel1_S1]
    exact h i c a
  · unfold cc0_transform_2
    rw [tbl_at m c inb_S1_S1_0 numel1_S1]
    exact h i c a

/-- The tables each pipeline is entered with. -/
def adm (c : Dev nD) : (p : Fin 2) → (pcfgs (F := F) p).Adm
  | ⟨0, _⟩ => ⟨tbl m c, tbl_ok m c⟩
  | ⟨1, _⟩ => cfg1.toPCfg_adm
  | ⟨_ + 2, h⟩ => absurd h (by omega)

abbrev adm0 (c : Dev nD) : (pcfg0 (F := F)).Adm := ⟨tbl m c, tbl_ok m c⟩

end Cert.AllReduce

end
-- ==== Proof.Launch.lean ====
/-
# The launch

The contents between @main's items, the two regions' records, and the run of the whole program.
-/
module

public import proofs.«01_k».proof.Proof.Reduce
public import proofs.«01_k».proof.Proof.Table
public import Idealize.ShloMosaic.Lib.Quiescent
public import Idealize.ShloMosaic.Lib.Pipeline.CollectiveSegs

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation HostSeg arrRefs tblRefs ucRefs)
open Idealize.ShloMosaic.Pipeline.PerCore (RegionSeg Seg)

variable {F : FTy → Type} [FloatOps F]

local notation "𝕄" => MT nD τ sig Unit (Elt F) ℕ UU ℕ

/-- A pipeline's arrays, each a whole buffer at the full share, as one `held`. -/
theorem arrays_held {cfg : Pipeline.Cfg sig Λ₀} {c : Dev nD} (d : Dat τ (Elt F) Unit ℕ UU ℕ cfg c)
    (harr : ∀ w, (cfg.spec w).arr.IsWhole) (hinj : Function.Injective (Pipeline.arrRef cfg.spec)) (hshare : ∀ w, d.share w = fullShare)
    (G : (w : Fin cfg.W) → Buf (Elt F) ((cfg.win w).arr.view.loc (c : Thread nD τ))) (Wc : Valuation τ sig (Elt F))
    (hG : ∀ w, G w = Wc (Proc.devRef .tc (Pipeline.arrRef cfg.spec w))) :
    (d.arrays G : sProp 𝕄) = StableHlo.held (c : Thread nD τ) (arrRefs cfg.spec) Wc := by
  unfold Dat.arrays StableHlo.held arrRefs
  rw [bigSep_map, show Finset.univ.image (Pipeline.arrRef cfg.spec) = Finset.univ.map ⟨Pipeline.arrRef cfg.spec, hinj⟩ from
    (Finset.map_eq_image ⟨Pipeline.arrRef cfg.spec, hinj⟩ Finset.univ).symm, bigSep_map]
  exact bigSep_congr fun w _ => by rw [(harr w).set_eq_univ, hshare, hG]; rfl

variable (m : (ℓ : Loc nD τ sig) → Buf (Elt F) ℓ) (ρ : Dev nD → PrngReg)

/-! ## The contents between the items -/

abbrev d0 (c : Dev nD) : Dat τ (Elt F) Unit ℕ UU ℕ (cfg0 (adm0 m c)) c := dat0 (V1 m c) (adm0 m c) c
/-- The attention's result on device `c`. -/
def o8 (c : Dev nD) : Buf (Elt F) ((c : Thread nD τ).loc main_v8) := (d0 m c).arrAt (3 : Fin 4) (cfg0 (adm0 m c)).N
/-- After the attention, -/
def W2 (c : Dev nD) : Valuation τ sig (Elt F) := Function.update (V1 m c) main_v8 (o8 m c)
/-- after the product with the output weights, -/
def W3 (c : Dev nD) : Valuation τ sig (Elt F) := StableHlo.after hostOps1 (W2 m c)
abbrev d1 (c : Dev nD) : Dat τ (Elt F) Unit ℕ UU ℕ cfg1 c := dat1 (W3 m) c
/-- The all-reduce's result on device `c`. -/
def o10 (c : Dev nD) : Buf (Elt F) ((c : Thread nD τ).loc main_v10) := (d1 m c).arrAt (1 : Fin 2) cfg1.N
/-- after the all-reduce, -/
def W4 (c : Dev nD) : Valuation τ sig (Elt F) := Function.update (W3 m c) main_v10 (o10 m c)
/-- and at the end. -/
def W5 (c : Dev nD) : Valuation τ sig (Elt F) := StableHlo.after hostOps2 (W4 m c)

/-- Each pipeline's proof data. -/
def pd : (p : Fin 2) → (c : Dev nD) → Dat τ (Elt F) Unit ℕ UU ℕ (Pipeline.pinD (pcfgs (F := F)) (adm m) c p) c
  | ⟨0, _⟩ => d0 m
  | ⟨1, _⟩ => d1 m
  | ⟨_ + 2, h⟩ => absurd h (by omega)

theorem cells_inj : Function.Injective (Pipeline.PerCore.cellOf (nD := nD) (τ := τ) (Pipeline.pinD (pcfgs (F := F)) (adm m))) := by
  have e : ∀ c p, Pipeline.specSems (Pipeline.pinD (pcfgs (F := F)) (adm m) c p).spec = semTab p := fun c p => by
    match p with
    | ⟨0, _⟩ => rfl
    | ⟨1, _⟩ => rfl
  exact Pipeline.PerCore.cellOf_injective _
    (fun c p => Pipeline.specSemsDistinct_of_nodup _ ((e c p).symm ▸ semsDistinct p))
    (fun c p p' h => Pipeline.specSemsDisjoint_of_disjoint _ _
      ((e c p).symm ▸ (e c p').symm ▸ fun _ hd hd' => List.forall_iff_forall_mem.1 (semsDisjoint p p' h) _ hd hd'))

/-- The ghost state at launch. -/
def u₀ : UU :=
  (initOf (Pipeline.PerCore.cells (Pipeline.pinD (pcfgs (F := F)) (adm m)) (cells_inj m))
    (Pipeline.PerCore.launchToks (Pipeline.pinD (pcfgs (F := F)) (adm m)) (cells_inj m)), launchOf barCells dmaCells ringToks)

/-! ## What rides along -/

/-- Until the all-reduce is entered, -/
def E0 (c : Dev nD) : sProp 𝕄 :=
  iprop(G' (vs (xs (W3 m))) c ∗ Pipeline.launchCred O₀ c ∗ ∃ W, owes (c : Thread nD τ) (O₀ c) W)
/-- and after. -/
def E1 (c : Dev nD) : sProp 𝕄 := iprop(unscopedSems0 c ∗ ∃ W, owes (c : Thread nD τ) (0 : CellTallies nD τ sig Unit) W)

/-! ## The attention region -/

theorem arr0_sub : arrRefs (τ := τ) spec0 ⊆ ucRefs τ sig := Pipeline.arrRefs_sub_ucRefs spec0 (by decide)
theorem tbl0_sub : tblRefs (τ := τ) pre0 ⊆ ucRefs τ sig \ arrRefs spec0 :=
  Pipeline.tblRefs_sub_ucRefs_sdiff spec0 pre0 (by decide) (by decide)

theorem split0 (c : Dev nD) (W : Valuation τ sig (Elt F)) :
    (StableHlo.held (c : Thread nD τ) (ucRefs τ sig) W : sProp 𝕄)
      = iprop(StableHlo.held (c : Thread nD τ) (arrRefs spec0) W ∗ StableHlo.held (c : Thread nD τ) (tblRefs pre0) W
        ∗ StableHlo.held (c : Thread nD τ) ((ucRefs τ sig \ arrRefs spec0) \ tblRefs pre0) W) := by
  rw [StableHlo.held_sub_split (c : Thread nD τ) arr0_sub W, StableHlo.held_sub_split (c : Thread nD τ) tbl0_sub W]

theorem v8_arr : (Proc.devRef .tc main_v8 : DevRef τ sig) ∈ arrRefs (τ := τ) spec0 := by decide

theorem W2_of (c : Dev nD) (r : Ref sig .tc) (h : r ≠ main_v8) : W2 m c (Proc.devRef .tc r) = V1 m c (Proc.devRef .tc r) := by
  unfold W2
  exact Function.update_of_ne (fun e : (Proc.devRef .tc r : DevRef τ sig) = Proc.devRef .tc main_v8 => h (Proc.devRef_injective _ e)) _ _

/-- Off the windows' arrays the attention changes nothing. -/
theorem held_W2 (c : Dev nD) (S : Finset (DevRef τ sig)) (h : (Proc.devRef .tc main_v8 : DevRef τ sig) ∉ S) :
    (StableHlo.held (c : Thread nD τ) S (W2 m c) : sProp 𝕄) = StableHlo.held (c : Thread nD τ) S (V1 m c) :=
  StableHlo.held_congr _ fun b hb => by
    unfold W2
    exact Function.update_of_ne (fun e : b = Proc.devRef .tc main_v8 => h (e ▸ hb)) _ _

theorem entry0 (c : Dev nD) (w : Fin 4) : (d0 m c).arrAt w 0 = V1 m c (Proc.devRef .tc (Pipeline.arrRef spec0 w)) := rfl

theorem exit0 (c : Dev nD) (w : Fin 4) :
    (d0 m c).arrAt w (cfg0 (adm0 m c)).N = W2 m c (Proc.devRef .tc (Pipeline.arrRef spec0 w)) := by
  match w with
  | ⟨0, _⟩ => exact ((d0 m c).arrAt_in (0 : Fin 4) rfl _).trans (W2_of m c main_v6 (by decide)).symm
  | ⟨1, _⟩ => exact ((d0 m c).arrAt_in (1 : Fin 4) rfl _).trans (W2_of m c main_arg2 (by decide)).symm
  | ⟨2, _⟩ => exact ((d0 m c).arrAt_in (2 : Fin 4) rfl _).trans (W2_of m c main_arg3 (by decide)).symm
  | ⟨3, _⟩ => exact (Function.update_self (Proc.devRef .tc main_v8 : DevRef τ sig) (o8 m c) (V1 m c)).symm

theorem stage0_lv : ∀ (w : Fin 4) (s : Fin (spec0 w).nbuf), lvS (.dma ((spec0 w).sem s)) = 0 := by decide

theorem waits0 (c : Dev nD) : (levAts L lv : sProp 𝕄) ⊢ Pipeline.PerCore.cellsWaits (Pipeline.pinD (pcfgs (F := F)) (adm m)) (pd m) () 0 c :=
  Pipeline.PerCore.cellsWaits_intro _ (pd m) () 0 c fun w s t =>
    mayWait_stage c _ (stage0_lv w s) _ (Or.inl rfl)

def R0 : RegionSeg (pcfgs (F := F)) (adm m) (pd m) () (defs₀ (F := F)) 𝒱₀ L lv 0 where
  win := winFacts0.to₀
  block_pos := block_pos0
  stage_whole := stage_whole0
  K := PEmpty
  osem k := k.elim
  ho := Pipeline.OwnSemFacts.none _
  hbody c := (attn_obligation (V1 m c) (adm0 m c) c).loose
  hwaits c := waits0 m c
  pre c := iprop(StableHlo.held (c : Thread nD τ) (ucRefs τ sig) (V1 m c) ∗ E0 m c)
  post c := iprop(StableHlo.held (c : Thread nD τ) (ucRefs τ sig) (W2 m c) ∗ E0 m c)
  X _ := iprop(emp)
  Y c := Pipeline.prefHeld pre0 c (fun _ => fullShare) (adm0 m c).1
  Z c := iprop(StableHlo.held (c : Thread nD τ) ((ucRefs τ sig \ arrRefs spec0) \ tblRefs pre0) (V1 m c)
    ∗ G' (vs (xs (W3 m))) c ∗ Pipeline.launchCred O₀ c)
  hentry c := by
    have ha : ((d0 m c).arrays ((d0 m c).arrAt · 0) : sProp 𝕄) = _ := arrays_held (d0 m c) arr_whole0 winFacts0.arr_inj (share0_eq _ _ c) _ (V1 m c) (entry0 m c)
    have hp : (Pipeline.prefHeld pre0 c (fun _ => fullShare) (adm0 m c).1 : sProp 𝕄) = _ := Pipeline.prefHeld_held pre0 preFacts0.inj c (adm0 m c).1 (V1 m c) (fun _ => rfl)
    show iprop((StableHlo.held (c : Thread nD τ) (ucRefs τ sig) (V1 m c) ∗ E0 m c) ∗ Pipeline.ownSems0 _ c ∗ levAts L lv)
      ⊢ (|={Set.univ}=> iprop((d0 m c).arrays ((d0 m c).arrAt · 0) ∗ Pipeline.prefHeld pre0 c (fun _ => fullShare) (adm0 m c).1
        ∗ (d0 m c).owesAt () 0 ∗ emp ∗ _) : sProp 𝕄)
    rw [ha, hp, split0]
    unfold E0
    iintro ⟨⟨⟨HA, HT, HR⟩, HG, HC, %W, HO⟩, -, -⟩
    imodintro
    isplitl [HA]; · iexact HA
    isplitl [HT]; · iexact HT
    isplitl [HO]
    · unfold Dat.owesAt Pipeline.owesWithin
      iexists W
      isplitr; · ipureintro; exact fun _ _ => Or.inl trivial
      iexact HO
    isplitr; · iempintro
    isplitl [HR]; · iexact HR
    isplitl [HG]; · iexact HG
    iexact HC
  hin c := by
    show iprop(emp ∗ Pipeline.prefHeld pre0 c (fun _ => fullShare) (adm0 m c).1 ∗ Pipeline.scopedRest spec0 c)
      ⊢ iprop(Pipeline.prefHeld pre0 c (fun _ => fullShare) (adm0 m c).1 ∗ Pipeline.scopedRest spec0 c)
    iintro ⟨-, H⟩; iexact H
  hout c := by
    rw [Pipeline.ownSems0_none]
    show iprop(Pipeline.prefHeld pre0 c (fun _ => fullShare) (adm0 m c).1 ∗ Pipeline.scopedRest spec0 c)
      ⊢ iprop(Pipeline.prefHeld pre0 c (fun _ => fullShare) (adm0 m c).1 ∗ emp ∗ Pipeline.scopedRest spec0 c)
    iintro ⟨H, HS⟩
    isplitl [H]; · iexact H
    isplitr; · iempintro
    iexact HS
  hexit c := by
    have ha : ((d0 m c).arrays ((d0 m c).arrAt · (cfg0 (adm0 m c)).N) : sProp 𝕄) = _ := arrays_held (d0 m c) arr_whole0 winFacts0.arr_inj (share0_eq _ _ c) _ (W2 m c) (exit0 m c)
    have hp : (Pipeline.prefHeld pre0 c (fun _ => fullShare) (adm0 m c).1 : sProp 𝕄) = _ := Pipeline.prefHeld_held pre0 preFacts0.inj c (adm0 m c).1 (V1 m c) (fun _ => rfl)
    show iprop((d0 m c).arrays ((d0 m c).arrAt · (cfg0 (adm0 m c)).N) ∗ (d0 m c).owesAt () (Fin.last _)
        ∗ Pipeline.prefHeld pre0 c (fun _ => fullShare) (adm0 m c).1 ∗ _)
      ⊢ (|={Set.univ}=> iprop(StableHlo.held (c : Thread nD τ) (ucRefs τ sig) (W2 m c) ∗ E0 m c) : sProp 𝕄)
    rw [ha, hp, split0 c (W2 m c), held_W2 m c (tblRefs pre0) (by decide),
      held_W2 m c ((ucRefs τ sig \ arrRefs spec0) \ tblRefs pre0) (fun h => (Finset.mem_sdiff.mp (Finset.mem_sdiff.mp h).1).2 v8_arr)]
    unfold E0 Dat.owesAt Pipeline.owesWithin
    iintro ⟨HA, ⟨%W, -, HO⟩, HT, HR, HG, HC⟩
    imodintro
    isplitl [HA HT HR]
    · isplitl [HA]; · iexact HA
      isplitl [HT]; · iexact HT
      iexact HR
    isplitl [HG]; · iexact HG
    isplitl [HC]; · iexact HC
    iexists W; iexact HO

/-! ## The all-reduce region -/

theorem arr1_sub : arrRefs (τ := τ) spec1 ⊆ ucRefs τ sig := Pipeline.arrRefs_sub_ucRefs spec1 (by decide)

theorem split1 (c : Dev nD) (W : Valuation τ sig (Elt F)) :
    (StableHlo.held (c : Thread nD τ) (ucRefs τ sig) W : sProp 𝕄)
      = iprop(StableHlo.held (c : Thread nD τ) (arrRefs spec1) W ∗ StableHlo.held (c : Thread nD τ) (ucRefs τ sig \ arrRefs spec1) W) := by
  rw [StableHlo.held_sub_split (c : Thread nD τ) arr1_sub W]

theorem v10_arr : (Proc.devRef .tc main_v10 : DevRef τ sig) ∈ arrRefs (τ := τ) spec1 := by decide

theorem W4_of (c : Dev nD) (r : Ref sig .tc) (h : r ≠ main_v10) : W4 m c (Proc.devRef .tc r) = W3 m c (Proc.devRef .tc r) := by
  unfold W4
  exact Function.update_of_ne (fun e : (Proc.devRef .tc r : DevRef τ sig) = Proc.devRef .tc main_v10 => h (Proc.devRef_injective _ e)) _ _

/-- Off the windows' arrays the all-reduce changes nothing. -/
theorem held_W4 (c : Dev nD) (S : Finset (DevRef τ sig)) (h : (Proc.devRef .tc main_v10 : DevRef τ sig) ∉ S) :
    (StableHlo.held (c : Thread nD τ) S (W4 m c) : sProp 𝕄) = StableHlo.held (c : Thread nD τ) S (W3 m c) :=
  StableHlo.held_congr _ fun b hb => by
    unfold W4
    exact Function.update_of_ne (fun e : b = Proc.devRef .tc main_v10 => h (e ▸ hb)) _ _

theorem entry1 (c : Dev nD) (w : Fin 2) : (d1 m c).arrAt w 0 = W3 m c (Proc.devRef .tc (Pipeline.arrRef spec1 w)) := rfl

theorem exit1 (c : Dev nD) (w : Fin 2) :
    (d1 m c).arrAt w cfg1.N = W4 m c (Proc.devRef .tc (Pipeline.arrRef spec1 w)) := by
  match w with
  | ⟨0, _⟩ => exact ((d1 m c).arrAt_in (0 : Fin 2) rfl _).trans (W4_of m c main_v9 (by decide)).symm
  | ⟨1, _⟩ => exact (Function.update_self (Proc.devRef .tc main_v10 : DevRef τ sig) (o10 m c) (W3 m c)).symm

theorem stage1_lv : ∀ (w : Fin 2) (s : Fin (spec1 w).nbuf), lvS (.dma ((spec1 w).sem s)) = 0 := by decide

theorem waits1 (c : Dev nD) : (levAts L lv : sProp 𝕄) ⊢ Pipeline.PerCore.cellsWaits (Pipeline.pinD (pcfgs (F := F)) (adm m)) (pd m) () 1 c :=
  Pipeline.PerCore.cellsWaits_intro _ (pd m) () 1 c fun w s t =>
    mayWait_stage c _ (stage1_lv w s) _ (by
      rcases t with ⟨_ | _, ht⟩
      · exact Or.inl rfl
      · exact Or.inr rfl)

def R1 : RegionSeg (pcfgs (F := F)) (adm m) (pd m) () (defs₀ (F := F)) 𝒱₀ L lv 1 where
  win := winFacts1.to₀
  block_pos := block_pos1
  stage_whole := stage_whole1
  K := Bool × Ch
  osem := osem
  ho := ownSemFacts
  hbody c := (body_obligation (W3 m) c).loose
  hwaits c := waits1 m c
  pre c := iprop(StableHlo.held (c : Thread nD τ) (ucRefs τ sig) (W3 m c) ∗ E0 m c)
  post c := iprop(StableHlo.held (c : Thread nD τ) (ucRefs τ sig) (W4 m c) ∗ E1 c)
  X c := enter (W3 m) c
  Y c := unscopedSems0 c
  Z c := StableHlo.held (c : Thread nD τ) (ucRefs τ sig \ arrRefs spec1) (W3 m c)
  hentry c := by
    have ha : ((d1 m c).arrays ((d1 m c).arrAt · 0) : sProp 𝕄) = _ := arrays_held (d1 m c) arr_whole1 winFacts1.arr_inj (share1_eq _ c) _ (W3 m c) (entry1 m c)
    show iprop((StableHlo.held (c : Thread nD τ) (ucRefs τ sig) (W3 m c) ∗ E0 m c) ∗ Pipeline.ownSems0 osem c ∗ levAts L lv)
      ⊢ (|={Set.univ}=> iprop((d1 m c).arrays ((d1 m c).arrAt · 0) ∗ Pipeline.prefHeld Pipeline.Prefetch.none c (fun _ => fullShare) _
        ∗ (d1 m c).owesAt () 0 ∗ enter (W3 m) c ∗ _) : sProp 𝕄)
    rw [ha, Pipeline.prefHeld_of_none _ rfl, split1]
    unfold E0
    iintro ⟨⟨⟨HA, HR⟩, HG, HC, %W, HO⟩, HS, HL⟩
    imod (start_intro (W3 m) c) $$ [HG HC HS HL] with HX
    · isplitl [HG]; · iexact HG
      isplitl [HC]; · iexact HC
      isplitl [HS]; · iexact HS
      iexact HL
    imodintro
    isplitl [HA]; · iexact HA
    isplitr; · iempintro
    isplitl [HO]
    · unfold Dat.owesAt Pipeline.owesWithin
      iexists W
      isplitr; · ipureintro; exact fun _ _ => Or.inl trivial
      iexact HO
    isplitl [HX]; · iexact HX
    iexact HR
  hin c := phi0_intro (W3 m) c
  hout c := phi1_exit (W3 m) c
  hexit c := by
    have ha : ((d1 m c).arrays ((d1 m c).arrAt · cfg1.N) : sProp 𝕄) = _ := arrays_held (d1 m c) arr_whole1 winFacts1.arr_inj (share1_eq _ c) _ (W4 m c) (exit1 m c)
    show iprop((d1 m c).arrays ((d1 m c).arrAt · cfg1.N) ∗ (d1 m c).owesAt () (Fin.last _) ∗ unscopedSems0 c ∗ _)
      ⊢ (|={Set.univ}=> iprop(StableHlo.held (c : Thread nD τ) (ucRefs τ sig) (W4 m c) ∗ E1 c) : sProp 𝕄)
    rw [ha, split1 c (W4 m c), held_W4 m c (ucRefs τ sig \ arrRefs spec1) (fun h => (Finset.mem_sdiff.mp h).2 v10_arr)]
    unfold E1 Dat.owesAt Pipeline.owesWithin
    iintro ⟨HA, ⟨%W, -, HO⟩, HY, HR⟩
    imodintro
    isplitl [HA HR]
    · isplitl [HA]; · iexact HA
      iexact HR
    isplitl [HY]; · iexact HY
    iexists W; iexact HO

/-! ## The run -/

section Host

variable (c₀ : Dev nD)

def hostA : HostSeg (Ix := Unit) (Name := ℕ) (U := UU) (Lvl := ℕ) (pcfgs (F := F)) defs₀ 𝒱₀ L lv :=
  HostSeg.ofOps _ _ _ _ _ (ucRefs τ sig) (hostOps0 c₀)
    (fun op h => Pipeline.sub_ucRefs op ((List.forall_iff_forall_mem.mp (hostOps0_sub c₀)) op h))
    (fun op h => (List.forall_iff_forall_mem.mp (hostOps0_fresh c₀)) op h) (V0 m) (E0 m)
def hostB : HostSeg (Ix := Unit) (Name := ℕ) (U := UU) (Lvl := ℕ) (pcfgs (F := F)) defs₀ 𝒱₀ L lv :=
  HostSeg.ofOps _ _ _ _ _ (ucRefs τ sig) hostOps1
    (fun op h => Pipeline.sub_ucRefs op ((List.forall_iff_forall_mem.mp hostOps1_sub) op h))
    (fun op h => (List.forall_iff_forall_mem.mp hostOps1_fresh) op h) (W2 m) (E0 m)
def hostC : HostSeg (Ix := Unit) (Name := ℕ) (U := UU) (Lvl := ℕ) (pcfgs (F := F)) defs₀ 𝒱₀ L lv :=
  HostSeg.ofOps _ _ _ _ _ (ucRefs τ sig) hostOps2
    (fun op h => Pipeline.sub_ucRefs op ((List.forall_iff_forall_mem.mp hostOps2_sub) op h))
    (fun op h => (List.forall_iff_forall_mem.mp hostOps2_fresh) op h) (W4 m) E1

end Host

/-- @main as segments. -/
def items (c : Dev nD) : List (Seg (pcfgs (F := F)) (adm m) (pd m) () (defs₀ (F := F)) 𝒱₀ L lv) :=
  [.host (hostA m c), .region (R0 m), .host (hostB m), .region (R1 m), .host (hostC m)]

/-- The memory and the unscoped counters at the end of the run. -/
def QC (c : Dev nD) (s : MemSt nD τ sig (Elt F)) : Prop :=
  (∀ r : Ref sig .tc, r.isScoped = false → s.mem ((c : Thread nD τ).loc r) = W5 m c (Proc.devRef .tc r))
    ∧ ∀ sm : SemLoc sig, sm.isScoped .tc = false → s.sem ((c.tc : Thread nD τ), sm) = 0

/-- A device's share of the launch, what its cells are allocated from apart, -/
theorem deal_one (c : Dev nD) :
    (iprop(StableHlo.held (c : Thread nD τ) (ucRefs τ sig) (V0 m c) ∗ unscopedSems0 c ∗ owes (c.tc : Thread nD τ) (O₀ c) ∅
        ∗ Pipeline.launchCred O₀ c ∗ prngReg c (ρ c) ∗ G (vs (xs (W3 m))) c) : sProp 𝕄)
      ⊢ iprop((unscopedSems0 c ∗ G (vs (xs (W3 m))) c)
        ∗ StableHlo.held (c : Thread nD τ) (ucRefs τ sig) (V0 m c) ∗ Pipeline.launchCred O₀ c ∗ owes (c : Thread nD τ) (O₀ c) ∅) := by
  iintro ⟨HB, HU, HO, HC, -, HG⟩
  isplitl [HU HG]
  · isplitl [HU]; · iexact HU
    iexact HG
  isplitl [HB]; · iexact HB
  isplitl [HC]; · iexact HC
  iexact HO

/-- and put together again. -/
theorem gather_one (c : Dev nD) :
    (iprop(G' (vs (xs (W3 m))) c ∗ StableHlo.held (c : Thread nD τ) (ucRefs τ sig) (V0 m c) ∗ Pipeline.launchCred O₀ c ∗ owes (c : Thread nD τ) (O₀ c) ∅) : sProp 𝕄)
      ⊢ iprop(StableHlo.held (c : Thread nD τ) (ucRefs τ sig) (V0 m c) ∗ E0 m c) := by
  unfold E0
  iintro ⟨HG, HB, HC, HO⟩
  isplitl [HB]; · iexact HB
  isplitl [HG]; · iexact HG
  isplitl [HC]; · iexact HC
  iexists ∅; iexact HO

set_option backward.isDefEq.respectTransparency.types false in
set_option maxRecDepth 40000 in
/-- At any float values, from any memory with zero counters: every weakly fair execution on the sixteen devices ends,
    each device's arrays at the computed contents and every counter at zero. -/
theorem run_main : θ_run defs (onTc (τ := τ) (main (F := F))) ⟨m, fun _ => 0, ρ⟩ (fun r => (∀ c, QC m c r.2) ∧ r.2.sem = fun _ => 0) := by
  refine Pipeline.PerCore.θ_run_regions_kit_sems (pcfgs (F := F)) (adm m) (pd m) () (cells_inj m) EP defs₀ 𝒱₀ L lv m ρ main
    (items m)
    (fun c Q => by
      rewrite [main_chain c, Seg.run_eq_chain,
        show (items m c).map Seg.prog = [
          StableHlo.seq (hostOps0 c),
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [items, Seg.pipes_host, Seg.pipes_region, Seg.pipes_nil]; decide) O₀ L_of_ne (G (vs (xs (W3 m)))) (u₀ m)
    (by
      unfold u₀
      iintro Hu
      ihave H := (ownU_pair _ _) $$ Hu
      icases H with ⟨HP, HX⟩
      imod (fund_ring (vs (xs (W3 m)))) $$ HX with HG
      imodintro
      isplitl [HP] <;> iassumption)
    (T₀ := fun c => iprop(StableHlo.held (c : Thread nD τ) (ucRefs τ sig) (V0 m c) ∗ E0 m c))
    (Tₙ := fun c => iprop(StableHlo.held (c : Thread nD τ) (ucRefs τ sig) (W5 m c) ∗ unscopedSems0 c))
    (hch := fun c => ⟨.rfl, .rfl, .rfl, .rfl, .rfl, ?_⟩)
    (hinit := ?_) (QY := QC m) (hfin := fun c s' => ?_)
    (hQ := fun s h hs => ⟨h, sem_eq_zero hs fun c => (h c).2⟩)
  · show iprop(StableHlo.held (c : Thread nD τ) (ucRefs τ sig) (W5 m c) ∗ E1 c) ⊢ _
    unfold E1
    iintro ⟨H, HU, HO⟩
    isplitl [H HU]
    · isplitl [H]; · iexact H
      iexact HU
    iexact HO
  · have h1 : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G (vs (xs (W3 m))) c))
        ⊢ (iprop((bigSep Finset.univ fun c : Dev nD => iprop(unscopedSems0 c ∗ G (vs (xs (W3 m))) c))
            ∗ bigSep Finset.univ fun c : Dev nD => iprop(StableHlo.held (c : Thread nD τ) (ucRefs τ sig) (V0 m c) ∗ Pipeline.launchCred O₀ c ∗ owes (c : Thread nD τ) (O₀ c) ∅))
            : sProp 𝕄) := by
      rw [← bigSep_sep']
      refine bigSep_mono fun c _ => ?_
      rw [show (unscopedBufs c (fun b => m ((c.tc : Thread nD τ).loc b)) : sProp 𝕄) = StableHlo.held (c : Thread nD τ) (ucRefs τ sig) (V0 m c)
        from Pipeline.unscopedBufs_held (Ix := Unit) (Name := ℕ) (U := UU) (Lvl := ℕ) c (V0 m c)]
      exact deal_one m ρ c
    have h2 : (iprop((bigSep Finset.univ (G' (vs (xs (W3 m)))))
            ∗ bigSep Finset.univ fun c : Dev nD => iprop(StableHlo.held (c : Thread nD τ) (ucRefs τ sig) (V0 m c) ∗ Pipeline.launchCred O₀ c ∗ owes (c : Thread nD τ) (O₀ c) ∅)) : sProp 𝕄)
        ⊢ bigSep Finset.univ fun c : Dev nD => iprop(StableHlo.held (c : Thread nD τ) (ucRefs τ sig) (V0 m c) ∗ E0 m c) := by
      rw [← bigSep_sep']
      refine bigSep_mono fun c _ => ?_
      exact gather_one m c
    iintro ⟨H, -⟩
    ihave H' := h1 $$ H
    icases H' with ⟨HG, HB⟩
    imod (glob (vs (xs (W3 m)))) $$ HG with HG
    imodintro
    iapply h2
    isplitl [HG]; · iexact HG
    iexact HB
  · unfold StableHlo.held
    iintro ⟨⟨H, HU⟩, HSI⟩
    imod (Pipeline.unscopedSems0_read (X := unscopedSems0 c) (c := c) fupd_intro s') $$ [HU HSI] with ⟨%hs, HSI⟩
    · isplitl [HU] <;> iassumption
    ihave Hr := (pointsTo_read_all (ucRefs τ sig) (fun b => ((c : Thread nD τ).1, b)) (W5 m c) s') $$ [H HSI]
    · isplitl [H]; · iexact H
      iexact HSI
    icases Hr with ⟨%h, HSI⟩
    imodintro
    isplitr
    · ipureintro
      exact ⟨fun r hr => h (Proc.devRef .tc r) (Finset.mem_filter.mpr ⟨StableHlo.devRef_mem_tcRefs r, fun h' => Bool.false_ne_true (hr.symm.trans h')⟩), hs⟩
    · iexact HSI

end Cert.AllReduce

end
-- ==== Proof.Equal.lean ====
/-
# What the arrays hold after the run

The contents of @main's arrays at the end of the run, read back through the two launches and the host operations.
-/
module

public import proofs.«01_k».proof.Proof.Launch
public import Idealize.ShloMosaic.Lib.Pointwise
public import Idealize.ShloMosaic.Lib.Pipeline.ValueKit.Geometry

@[expose] public section

noncomputable section

namespace Cert.AllReduce

open Cert.KernelIdeal Cert.KernelIdeal.Gen
open Idealize.ShloMosaic
open Idealize.ShloMosaic.TcCoe
open Idealize.SL.Sem
open Idealize.ShloMosaic.Pipeline (Dat)

variable {F : FTy → Type} [FloatOps F]
variable (m : (ℓ : Loc nD τ sig) → Buf (Elt F) ℓ) (ρ : Dev nD → PrngReg)

/-- A buffer no item writes ends as it began. -/
theorem W5_of (c : Dev nD) (r : Ref sig .tc) (h0 : r ∉ hostOps0_W) (h1 : r ∉ hostOps1_W) (h2 : r ∉ hostOps2_W) (h8 : r ≠ main_v8) (h10 : r ≠ main_v10) :
    W5 m c (Proc.devRef .tc r) = m ((c : Thread nD τ).loc r) :=
  (StableHlo.after_of_writes_sub hostOps2 _ hostOps2_writes h2).trans <| (W4_of m c r h10).trans <|
    (StableHlo.after_of_writes_sub hostOps1 _ hostOps1_writes h1).trans <| (W2_of m c r h8).trans <| (V1_of m c r h0).trans rfl

/-- The arguments end as they began. -/
theorem args_kept (c : Dev nD) (s : MemSt nD τ sig (Elt F)) (h : QC m c s) :
    s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg2) = m ((c : Thread nD τ).loc main_arg2)
      ∧ s.mem ((c : Thread nD τ).loc main_arg3) = m ((c : Thread nD τ).loc main_arg3)
      ∧ s.mem ((c : Thread nD τ).loc main_arg4) = m ((c : Thread nD τ).loc main_arg4) :=
  ⟨(h.1 main_arg0 rfl).trans (W5_of m c main_arg0 (by decide) (by decide) (by decide) (by decide) (by decide)),
    (h.1 main_arg1 rfl).trans (W5_of m c main_arg1 (by decide) (by decide) (by decide) (by decide) (by decide)),
    (h.1 main_arg2 rfl).trans (W5_of m c main_arg2 (by decide) (by decide) (by decide) (by decide) (by decide)),
    (h.1 main_arg3 rfl).trans (W5_of m c main_arg3 (by decide) (by decide) (by decide) (by decide) (by decide)),
    (h.1 main_arg4 rfl).trans (W5_of m c main_arg4 (by decide) (by decide) (by decide) (by decide) (by decide))⟩

/-- At any float values the run keeps the arguments and brings every counter back to zero. -/
theorem run_frame : θ_run defs (onTc (τ := τ) (main (F := F))) ⟨m, fun _ => 0, ρ⟩
    (fun r => (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun _ h => ⟨fun c => args_kept m c _ (h.1 c), h.2⟩) (run_main m ρ)

/-! ## The all-reduce's arrays -/

/-- The body's input buffer holds the device's whole partial product. -/
theorem xstg_eq (V : Dev nD → Valuation τ sig (Elt F)) (c : Dev nD) : xstg V c = V c main_v9 := by
  have hz : (fun a => (win1_0.index (0 : Fin 1)) a * main_v9.ty.shape.size a) = fun _ => 0 :=
    funext fun a => by fin_cases a <;> decide
  exact Memref.read_access_unit_zero (Elt F) main_v9 hz (fun a => by fin_cases a <;> decide) _

/-- The all-reduce's result array holds what the body left. -/
theorem o10_eq (c : Dev nD) : o10 m c = outAt (W3 m) c := by
  have h : (win1_1.blk (0 : Fin 1)).view.read (Elt F) (o10 m c) = outAt (W3 m) c := by
    unfold o10
    rw [show cfg1.N = ((0 : Fin 1) : Fin cfg1.N).val + 1 from rfl, (d1 m c).arrAt_succ (1 : Fin 2) (0 : Fin 1)]
    rw [show (cfg1.win (1 : Fin 2)).flush (0 : Fin 1) = true from by decide, if_pos rfl]
    exact View.read_write_univ _ _
  have hz : (fun a => (win1_1.index (0 : Fin 1)) a * main_v10.ty.shape.size a) = fun _ => 0 :=
    funext fun a => by fin_cases a <;> decide
  rw [← h]
  exact (Memref.read_access_unit_zero (Elt F) main_v10 hz (fun a => by fin_cases a <;> decide) _).symm

theorem W2_v8 (c : Dev nD) : W2 m c (Proc.devRef .tc main_v8) = o8 m c := by
  unfold W2
  exact Function.update_self (Proc.devRef .tc main_v8 : DevRef τ sig) (o8 m c) (V1 m c)

theorem W4_v10 (c : Dev nD) : W4 m c (Proc.devRef .tc main_v10) = o10 m c := by
  unfold W4
  exact Function.update_self (Proc.devRef .tc main_v10 : DevRef τ sig) (o10 m c) (W3 m c)

theorem after2_v11 (W : Valuation τ sig (Elt F)) : StableHlo.after hostOps2 W (Proc.devRef .tc main_v11)
    = shapeCast S4x256x1024 (W main_v10) shapeCasts_S1024x1024_S4x256x1024 := by
  after_results
  rfl

/-- The result is the all-reduce's array, reshaped. -/
theorem W5_v11 (c : Dev nD) : W5 m c main_v11 = shapeCast S4x256x1024 (o10 m c) shapeCasts_S1024x1024_S4x256x1024 :=
  (after2_v11 (W4 m c)).trans (congrArg (shapeCast S4x256x1024 · shapeCasts_S1024x1024_S4x256x1024)
    (W4_v10 m c))

theorem after1_v9 (W : Valuation τ sig (Elt F)) : StableHlo.after hostOps1 W (Proc.devRef .tc main_v9)
    = Host.dotGeneral dot_S1024x1024_S1024x1024_S1024x1024_1_0_0_1_n_n none (W main_v8) (W main_arg4) := by
  after_results

/-- The partial product is the attention's array times the device's output weights. -/
theorem W3_v9 (c : Dev nD) : W3 m c main_v9
    = Host.dotGeneral dot_S1024x1024_S1024x1024_S1024x1024_1_0_0_1_n_n none (o8 m c) (m ((c : Thread nD τ).loc main_arg4)) :=
  (after1_v9 (W2 m c)).trans (congrArg₂ (Host.dotGeneral dot_S1024x1024_S1024x1024_S1024x1024_1_0_0_1_n_n none)
    (W2_v8 m c)
    ((W2_of m c main_arg4 (by decide)).trans ((V1_of m c main_arg4 (by decide)).trans rfl)))

/-- The queries are the inputs, one row each, times the device's query weights. -/
theorem V1_v6 (c : Dev nD) : V1 m c main_v6
    = Host.dotGeneral dot_S1024x1024_S1024x1024_S1024x1024_1_0_0_1_n_n none
        (shapeCast S1024x1024 (m ((c : Thread nD τ).loc main_arg0)) shapeCasts_S4x256x1024_S1024x1024) (m ((c : Thread nD τ).loc main_arg1)) := by
  show StableHlo.after (hostOps0 c) (V0 m c) (Proc.devRef .tc main_v6) = _
  after_results
  rfl

/-! ## The attention's array -/

/-- The rows of a batch entry. -/
def rowOf (b : Fin 4) (r : Fin 256) : Fin 1024 := ⟨b.val * 256 + r.val, by have := b.isLt; have := r.isLt; omega⟩

/-- The grid point of a batch entry. -/
def pt (a : (pcfg0 (F := F)).Adm) (b : Fin 4) : Fin (cfg0 a).N := ⟨b.val, b.isLt.trans_eq N_0.symm⟩

theorem coords_at : ∀ b : Fin 4, ((grid0.coords ⟨b.val, b.isLt.trans_eq N_0.symm⟩) 0).val = b.val := by decide

theorem toNat_at : ∀ b : Fin 4, (BitVec.ofNat 32 b.val).toNat = b.val := by decide

theorem index3 (a : (pcfg0 (F := F)).Adm) (b : Fin 4) : ((cfg0 a).win (3 : Fin 4)).index (pt a b) = ![b.val, 0] := by
  have h : cc0_transform_3 (grid0.coords ⟨b.val, b.isLt.trans_eq N_0.symm⟩) = ![b.val, 0] := by
    unfold cc0_transform_3
    dsimp only
    rw [coords_at, toNat_at]
    rfl
  exact h

theorem emb3 (a : (pcfg0 (F := F)).Adm) (b : Fin 4) (r : Fin 256) (j : Fin 1024) :
    (((cfg0 a).win (3 : Fin 4)).blk (pt a b)).view.emb (ix2 r j) = ix2 (rowOf b r) j := by
  have h := fun x => Pipeline.Window.rect_emb_val ((cfg0 a).win (3 : Fin 4)) (pt a b) (ix2 r j) x
  rw [index3 a b] at h
  have h1 : 0 * 1024 + j.val = j.val := by omega
  funext x
  fin_cases x
  · exact Fin.ext (h (0 : Fin 2))
  · exact Fin.ext ((h (1 : Fin 2)).trans h1)

theorem flush3 (a : (pcfg0 (F := F)).Adm) (t : Fin (cfg0 a).N) : ((cfg0 a).win (3 : Fin 4)).flush t = true := by
  have h4 : ∀ t : Fin grid0.N, (t.val + 1 = grid0.N ∨ ∃ h : t.val + 1 < grid0.N, cc0_transform_3 (grid0.coords ⟨t.val + 1, h⟩) ≠ cc0_transform_3 (grid0.coords t)) := by
    decide
  unfold Pipeline.Window.flush
  rw [Bool.and_eq_true, Bool.or_eq_true, decide_eq_true_iff, decide_eq_true_iff]
  exact ⟨rfl, h4 t⟩

/-- The batch entry of a row, and the row in it. -/
def entryOf (n : Fin 1024) : Fin 4 := ⟨n.val / 256, by have := n.isLt; omega⟩
def inEntry (n : Fin 1024) : Fin 256 := ⟨n.val % 256, by omega⟩

theorem entryOf_row (b : Fin 4) (r : Fin 256) : entryOf (rowOf b r) = b := Fin.ext (by show (b.val * 256 + r.val) / 256 = b.val; omega)
theorem inEntry_row (b : Fin 4) (r : Fin 256) : inEntry (rowOf b r) = r := Fin.ext (by show (b.val * 256 + r.val) % 256 = r.val; omega)
theorem row_entry (n : Fin 1024) : rowOf (entryOf n) (inEntry n) = n := Fin.ext (by show n.val / 256 * 256 + n.val % 256 = n.val; omega)

/-- The attention's blocks, one below the other. -/
def blocks (c : Dev nD) : S1024x1024.Idx → Elt F .f32 := fun i =>
  out0 (V1 m c) (adm0 m c) c (pt (adm0 m c) (entryOf (i 0))) (ix2 (inEntry (i 0)) (i 1))

theorem blocks_at (c : Dev nD) (b : Fin 4) (r : Fin 256) (j : Fin 1024) :
    blocks m c (ix2 (rowOf b r) j) = out0 (V1 m c) (adm0 m c) c (pt (adm0 m c) b) (ix2 r j) := by
  show out0 (V1 m c) (adm0 m c) c (pt (adm0 m c) (entryOf (rowOf b r))) (ix2 (inEntry (rowOf b r)) j) = _
  rw [entryOf_row, inEntry_row]

theorem blocks_emb (c : Dev nD) (b : Fin 4) (y : S256x1024.Idx) :
    out0 (V1 m c) (adm0 m c) c (pt (adm0 m c) b) y = blocks m c ((((cfg0 (adm0 m c)).win (3 : Fin 4)).blk (pt (adm0 m c) b)).view.emb y) := by
  have hy : ∃ (r : Fin 256) (j : Fin 1024), y = ix2 r j := ⟨y 0, y 1, funext fun x => by fin_cases x <;> rfl⟩
  obtain ⟨r, j, rfl⟩ := hy
  exact ((congrArg (blocks m c) (emb3 (adm0 m c) b r j)).trans (blocks_at m c b r j)).symm

theorem blocks_cover (a : (pcfg0 (F := F)).Adm) (i : S1024x1024.Idx) : ∃ b : Fin 4, i ∈ (((cfg0 a).win (3 : Fin 4)).blk (pt a b)).view.set := by
  have hi : ∃ (n j : Fin 1024), i = ix2 n j := ⟨i 0, i 1, funext fun x => by fin_cases x <;> rfl⟩
  obtain ⟨n, j, rfl⟩ := hi
  refine ⟨entryOf n, ?_⟩
  have h := emb3 a (entryOf n) (inEntry n) j
  rw [row_entry] at h
  rw [← h]
  exact Finset.mem_map_of_mem _ (Finset.mem_univ _)

theorem o8_eq (c : Dev nD) : o8 m c = blocks m c :=
  (d0 m c).arrAt_eq_of_emb (3 : Fin 4) (blocks m c)
    (fun t _ y => blocks_emb m c ⟨t.val, t.isLt.trans_eq N_0⟩ y)
    (fun i => (blocks_cover (adm0 m c) i).elim fun b h => ⟨pt (adm0 m c) b, flush3 _ _, h⟩)

/-- The attention's array, block by block. -/
theorem o8_at (c : Dev nD) (b : Fin 4) (r : Fin 256) (j : Fin 1024) :
    o8 m c (ix2 (rowOf b r) j) = out0 (V1 m c) (adm0 m c) c (pt (adm0 m c) b) (ix2 r j) :=
  (congrFun (o8_eq m c) _).trans (blocks_at m c b r j)

theorem index0 (a : (pcfg0 (F := F)).Adm) (b : Fin 4) : ((cfg0 a).win (0 : Fin 4)).index (pt a b) = ![b.val, 0] := by
  have h : cc0_transform_0 (grid0.coords ⟨b.val, b.isLt.trans_eq N_0.symm⟩) = ![b.val, 0] := by
    unfold cc0_transform_0
    dsimp only
    rw [coords_at, toNat_at]
    rfl
  exact h

theorem emb0 (a : (pcfg0 (F := F)).Adm) (b : Fin 4) (r : Fin 256) (j : Fin 1024) :
    (((cfg0 a).win (0 : Fin 4)).blk (pt a b)).view.emb (ix2 r j) = ix2 (rowOf b r) j := by
  have h := fun x => Pipeline.Window.rect_emb_val ((cfg0 a).win (0 : Fin 4)) (pt a b) (ix2 r j) x
  rw [index0 a b] at h
  have h1 : 0 * 1024 + j.val = j.val := by omega
  funext x
  fin_cases x
  · exact Fin.ext (h (0 : Fin 2))
  · exact Fin.ext ((h (1 : Fin 2)).trans h1)

/-- The query window's block: the batch entry's rows. -/
theorem in0_0 (c : Dev nD) (V : Valuation τ sig (Elt F)) (a : (pcfg0 (F := F)).Adm) (b : Fin 4) (r : Fin 256) (j : Fin 1024) :
    in0 V a c (0 : Fin 4) (pt a b) (ix2 r j) = V main_v6 (ix2 (rowOf b r) j) := by
  unfold in0 arr0
  exact congrArg (V main_v6) (emb0 a b r j)

/-- Head `h` of device `c`. -/
def headOf (c : Dev nD) (h : Fin 8) : Fin 128 := ⟨c.val * 8 + h.val, by have : c.val < 16 := c.isLt; have := h.isLt; omega⟩

theorem word_at : ∀ c : Dev nD, (BitVec.ofNat 32 c.val).toNat = c.val := by decide

theorem index1 (c : Dev nD) (b : Fin 4) : ((cfg0 (adm0 m c)).win (1 : Fin 4)).index (pt (adm0 m c) b) = ![b.val, 0, c.val, 0] := by
  have h : cc0_transform_1 inb_S1_S1_0 numel1_S1 (tbl m c) (grid0.coords ⟨b.val, b.isLt.trans_eq N_0.symm⟩) = ![b.val, 0, c.val, 0] := by
    unfold cc0_transform_1
    dsimp only
    rw [coords_at, toNat_at, tbl_at m c inb_S1_S1_0 numel1_S1, word_at]
    rfl
  exact h

theorem index2 (c : Dev nD) (b : Fin 4) : ((cfg0 (adm0 m c)).win (2 : Fin 4)).index (pt (adm0 m c) b) = ![b.val, 0, c.val, 0] := by
  have h : cc0_transform_2 inb_S1_S1_0 numel1_S1 (tbl m c) (grid0.coords ⟨b.val, b.isLt.trans_eq N_0.symm⟩) = ![b.val, 0, c.val, 0] := by
    unfold cc0_transform_2
    dsimp only
    rw [coords_at, toNat_at, tbl_at m c inb_S1_S1_0 numel1_S1, word_at]
    rfl
  exact h

theorem emb1 (c : Dev nD) (b : Fin 4) (s : Fin 1024) (h : Fin 8) (e : Fin 128) :
    (((cfg0 (adm0 m c)).win (1 : Fin 4)).blk (pt (adm0 m c) b)).view.emb (ix4 0 s h e) = ix4 b s (headOf c h) e := by
  have hx := fun x => Pipeline.Window.rect_emb_val ((cfg0 (adm0 m c)).win (1 : Fin 4)) (pt (adm0 m c) b) (ix4 0 s h e) x
  rw [index1 m c b] at hx
  have h0 : b.val * 1 + 0 = b.val := by omega
  have h1 : 0 * 1024 + s.val = s.val := by omega
  have h3 : 0 * 128 + e.val = e.val := by omega
  funext x
  fin_cases x
  · exact Fin.ext ((hx (0 : Fin 4)).trans h0)
  · exact Fin.ext ((hx (1 : Fin 4)).trans h1)
  · exact Fin.ext (hx (2 : Fin 4))
  · exact Fin.ext ((hx (3 : Fin 4)).trans h3)

theorem emb2 (c : Dev nD) (b : Fin 4) (s : Fin 1024) (h : Fin 8) (e : Fin 128) :
    (((cfg0 (adm0 m c)).win (2 : Fin 4)).blk (pt (adm0 m c) b)).view.emb (ix4 0 s h e) = ix4 b s (headOf c h) e := by
  have hx := fun x => Pipeline.Window.rect_emb_val ((cfg0 (adm0 m c)).win (2 : Fin 4)) (pt (adm0 m c) b) (ix4 0 s h e) x
  rw [index2 m c b] at hx
  have h0 : b.val * 1 + 0 = b.val := by omega
  have h1 : 0 * 1024 + s.val = s.val := by omega
  have h3 : 0 * 128 + e.val = e.val := by omega
  funext x
  fin_cases x
  · exact Fin.ext ((hx (0 : Fin 4)).trans h0)
  · exact Fin.ext ((hx (1 : Fin 4)).trans h1)
  · exact Fin.ext (hx (2 : Fin 4))
  · exact Fin.ext ((hx (3 : Fin 4)).trans h3)

/-- The key window's block: the device's heads of the batch entry's keys. -/
theorem in0_1 (c : Dev nD) (V : Valuation τ sig (Elt F)) (b : Fin 4) (s : Fin 1024) (h : Fin 8) (e : Fin 128) :
    in0 V (adm0 m c) c (1 : Fin 4) (pt (adm0 m c) b) (ix4 0 s h e) = V main_arg2 (ix4 b s (headOf c h) e) := by
  unfold in0 arr0
  exact congrArg (V main_arg2) (emb1 m c b s h e)

/-- The value window's block: the same of the values. -/
theorem in0_2 (c : Dev nD) (V : Valuation τ sig (Elt F)) (b : Fin 4) (s : Fin 1024) (h : Fin 8) (e : Fin 128) :
    in0 V (adm0 m c) c (2 : Fin 4) (pt (adm0 m c) b) (ix4 0 s h e) = V main_arg3 (ix4 b s (headOf c h) e) := by
  unfold in0 arr0
  exact congrArg (V main_arg3) (emb2 m c b s h e)

end Cert.AllReduce

end
-- ==== Proof.Sum.lean ====
/-
# What the all-reduce computes

Over the extended reals each entry of a device's result is the sum of that entry over the sixteen devices: a ring
reduction sums along one ring, the second along the other, and the gathers only move blocks.
-/
module

public import proofs.«01_k».proof.Proof.Values
public import Idealize.ShloMosaic.Lib.IdealHost

@[expose] public section

noncomputable section

namespace Cert.AllReduce

open Cert.KernelIdeal Cert.KernelIdeal.Gen
open Idealize.ShloMosaic
open Idealize.ShloMosaic.TcCoe

variable (x : Dev nD → ℕ → ℕ → EReal)

/-- The sum over the devices. -/
def total (i j : ℕ) : EReal := ∑ d : Dev nD, x d i j

/-! ## The devices along a ring -/

theorem chk_frm : ∀ (p b : Fin 2) (c : Dev nD) (n : Fin 3), chk b (pos p (frm p b c)) n.val = chk b (pos p c) (n.val + 1) := by decide +kernel
theorem pos_frm : ∀ (p b : Fin 2) (c : Dev nD), pos (oth p) (frm p b c) = pos (oth p) c := by decide +kernel
theorem pos_frm' : ∀ (p b : Fin 2) (c : Dev nD), pos p (frm (oth p) b c) = pos p c := by decide +kernel
theorem chk_frm' : ∀ (p b : Fin 2) (c : Dev nD) (n : Fin 3), chk b (pos (oth p) (frm (oth p) b c)) n.val = chk b (pos (oth p) c) (n.val + 1) := by decide +kernel
theorem chk_gst : ∀ (p b : Fin 2) (c : Dev nD) (k : Fin 4), chk b (pos p ((frm p b)^[gst b (pos p c) k.val] c)) 3 = k.val := by decide +kernel

theorem pos_iter (p b : Fin 2) (n : ℕ) (c : Dev nD) : pos (oth p) ((frm p b)^[n] c) = pos (oth p) c := by
  induction n generalizing c with
  | zero => rfl
  | succ n ih => rw [Function.iterate_succ_apply, ih, pos_frm]
theorem pos_iter' (p b : Fin 2) (n : ℕ) (c : Dev nD) : pos p ((frm (oth p) b)^[n] c) = pos p c := by
  induction n generalizing c with
  | zero => rfl
  | succ n ih => rw [Function.iterate_succ_apply, ih, pos_frm']

/-- The four devices a ring reduction sums over, in the order of the additions. -/
def along (r b : Fin 2) (c : Dev nD) : List (Dev nD) := [(frm r b)^[3] c, (frm r b)^[2] c, frm r b c, c]

/-- Along one ring, then along the other: every device once. -/
theorem along_all (p b b' : Fin 2) (c : Dev nD) : List.Perm ((along (oth p) b c).flatMap fun d => along p b' d) (List.finRange 16) := by
  refine (List.perm_ext_iff_of_nodup ?_ (List.nodup_finRange 16)).mpr fun d => ⟨fun _ => List.mem_finRange d, fun _ => ?_⟩
  · revert p b b' c; decide +kernel
  · revert p b b' c d; decide +kernel

theorem VA_eq (p b : Fin 2) (c : Dev nD) (i j : ℕ) :
    VA (F := Ideal) x p b 3 c i j = ((along p b c).map fun d => x d (256 * chk b (pos p c) 3 + i) (512 * p.val + 256 * b.val + j)).sum := by
  have h0 : chk b (pos p (frm p b (frm p b (frm p b c)))) 0 = chk b (pos p c) 3 :=
    (chk_frm p b _ 0).trans ((chk_frm p b _ 1).trans (chk_frm p b _ 2))
  have h1 : chk b (pos p (frm p b (frm p b c))) 1 = chk b (pos p c) 3 := (chk_frm p b _ 1).trans (chk_frm p b _ 2)
  have h2 : chk b (pos p (frm p b c)) 2 = chk b (pos p c) 3 := chk_frm p b _ 2
  have e : VA (F := Ideal) x p b 3 c i j = ((x (frm p b (frm p b (frm p b c))) (256 * chk b (pos p (frm p b (frm p b (frm p b c)))) 0 + i) (512 * p.val + 256 * b.val + j)
      + x (frm p b (frm p b c)) (256 * chk b (pos p (frm p b (frm p b c))) 1 + i) (512 * p.val + 256 * b.val + j))
      + x (frm p b c) (256 * chk b (pos p (frm p b c)) 2 + i) (512 * p.val + 256 * b.val + j))
      + x c (256 * chk b (pos p c) 3 + i) (512 * p.val + 256 * b.val + j) := rfl
  rw [e, h0, h1, h2]
  show _ = _ + (_ + (_ + (_ + 0)))
  rw [add_zero, add_assoc, add_assoc]
  rfl

theorem Z1_eq (p : Fin 2) (d : Dev nD) (b' : Fin 2) (i j : ℕ) (hi : i < 256) :
    Z1 (F := Ideal) x p d (256 * b'.val + i) j
      = ((along p b' d).map fun e => x e (256 * chk b' (pos p d) 3 + i) (512 * p.val + 256 * b'.val + j)).sum := by
  unfold Z1
  match b' with
  | 0 =>
    show (if 256 * 0 + i < 256 then _ else _) = _
    rw [if_pos (by omega), VA_eq]
    show ((along p 0 d).map fun e => x e (256 * chk 0 (pos p d) 3 + (256 * 0 + i)) _).sum = _
    rw [Nat.mul_zero, Nat.zero_add]
  | 1 =>
    show (if 256 * 1 + i < 256 then _ else _) = _
    rw [if_neg (by omega), VA_eq]
    show ((along p 1 d).map fun e => x e (256 * chk 1 (pos p d) 3 + (256 * 1 + i - 256)) _).sum = _
    rw [Nat.mul_one, Nat.add_sub_cancel_left]

/-- The second reduction at a device sums over every device. -/
theorem VB_eq (p b b' : Fin 2) (c : Dev nD) (i j u : ℕ) (hu : u < 256) (h : 128 * chk b (pos (oth p) c) 3 + i = 256 * b'.val + u) :
    VB (F := Ideal) x p b 3 c i j = total x (256 * chk b' (pos p c) 3 + u) (512 * p.val + 256 * b'.val + (128 * b.val + j)) := by
  have h0 : chk b (pos (oth p) (frm (oth p) b (frm (oth p) b (frm (oth p) b c)))) 0 = chk b (pos (oth p) c) 3 :=
    (chk_frm' p b _ 0).trans ((chk_frm' p b _ 1).trans (chk_frm' p b _ 2))
  have h1 : chk b (pos (oth p) (frm (oth p) b (frm (oth p) b c))) 1 = chk b (pos (oth p) c) 3 := (chk_frm' p b _ 1).trans (chk_frm' p b _ 2)
  have h2 : chk b (pos (oth p) (frm (oth p) b c)) 2 = chk b (pos (oth p) c) 3 := chk_frm' p b _ 2
  have e : VB (F := Ideal) x p b 3 c i j
      = ((Z1 (F := Ideal) x p (frm (oth p) b (frm (oth p) b (frm (oth p) b c))) (128 * chk b (pos (oth p) (frm (oth p) b (frm (oth p) b (frm (oth p) b c)))) 0 + i) (128 * b.val + j) : EReal)
      + Z1 (F := Ideal) x p (frm (oth p) b (frm (oth p) b c)) (128 * chk b (pos (oth p) (frm (oth p) b (frm (oth p) b c))) 1 + i) (128 * b.val + j)
      + Z1 (F := Ideal) x p (frm (oth p) b c) (128 * chk b (pos (oth p) (frm (oth p) b c)) 2 + i) (128 * b.val + j))
      + Z1 (F := Ideal) x p c (128 * chk b (pos (oth p) c) 3 + i) (128 * b.val + j) := rfl
  rw [e, h0, h1, h2, h, Z1_eq x p _ b' u _ hu, Z1_eq x p _ b' u _ hu, Z1_eq x p _ b' u _ hu, Z1_eq x p _ b' u _ hu,
    pos_frm', pos_frm', pos_frm']
  have ht : ∀ f : Dev nD → EReal, ∑ d : Dev nD, f d = ((List.finRange 16).map f).sum := fun f => Fin.sum_univ_def f
  unfold total
  rw [ht, ← ((along_all p b b' c).map _).sum_eq, List.map_flatMap]
  unfold along
  simp only [List.flatMap_cons, List.flatMap_nil, List.sum_append, List.sum_nil, List.append_nil, add_assoc]
  rfl

theorem VC_eq (p b b' : Fin 2) (n : ℕ) (c : Dev nD) (i j u : ℕ) (hu : u < 256)
    (h : 128 * chk b (pos (oth p) ((frm (oth p) b)^[n] c)) 3 + i = 256 * b'.val + u) :
    VC (F := Ideal) x p b n c i j = total x (256 * chk b' (pos p c) 3 + u) (512 * p.val + 256 * b'.val + (128 * b.val + j)) := by
  unfold VC
  rw [VB_eq x p b b' _ i j u hu h, pos_iter']

theorem Z2_eq (p b' : Fin 2) (c : Dev nD) (u j : ℕ) (hu : u < 256) (hj : j < 256) :
    Z2 (F := Ideal) x p c (256 * b'.val + u) j = total x (256 * chk b' (pos p c) 3 + u) (512 * p.val + 256 * b'.val + j) := by
  have hk : (256 * b'.val + u) / 128 < 4 := by have := b'.isLt; omega
  have hd : ∀ b : Fin 2, 128 * chk b (pos (oth p) ((frm (oth p) b)^[gst b (pos (oth p) c) ((256 * b'.val + u) / 128)] c)) 3 + (256 * b'.val + u) % 128
      = 256 * b'.val + u := fun b => by
    rw [chk_gst (oth p) b c ⟨_, hk⟩]; exact Nat.div_add_mod _ 128
  unfold Z2
  by_cases h : j < 128
  · simp only [if_pos h]
    rw [VC_eq x p 0 b' _ c _ _ u hu (hd 0)]
    congr 1
    show _ + (128 * 0 + j % 128) = _
    omega
  · simp only [if_neg h]
    rw [VC_eq x p 1 b' _ c _ _ u hu (hd 1)]
    congr 1
    show _ + (128 * 1 + j % 128) = _
    omega

theorem VD_eq (p b : Fin 2) (n : ℕ) (c : Dev nD) (i j : ℕ) (hi : i < 256) (hj : j < 256) :
    VD (F := Ideal) x p b n c i j = total x (256 * chk b (pos p ((frm p b)^[n] c)) 3 + i) (512 * p.val + 256 * b.val + j) := by
  unfold VD shift
  rw [Nat.zero_add, Z2_eq x p b _ i j hi hj]

/-- Every device's result is the sum over the devices. -/
theorem Out_eq (c : Dev nD) (i j : ℕ) (hi : i < 1024) (hj : j < 1024) : Out (F := Ideal) x c i j = total x i j := by
  have hk : i / 256 < 4 := by omega
  have key : ∀ p b : Fin 2, 512 * p.val + 256 * b.val + j % 256 = j →
      VD (F := Ideal) x p b (gst b (pos p c) (i / 256)) c (i % 256) (j % 256) = total x i j := fun p b e => by
    rw [VD_eq x p b _ c _ _ (Nat.mod_lt _ (by decide)) (Nat.mod_lt _ (by decide)), chk_gst p b c ⟨_, hk⟩, e]
    congr 1
    exact Nat.div_add_mod i 256
  unfold Out
  by_cases h : j < 512 <;> by_cases h' : j % 512 < 256
  · simp only [if_pos h, if_pos h']; exact key 0 0 (by show 512 * 0 + 256 * 0 + _ = _; omega)
  · simp only [if_pos h, if_neg h']; exact key 0 1 (by show 512 * 0 + 256 * 1 + _ = _; omega)
  · simp only [if_neg h, if_pos h']; exact key 1 0 (by show 512 * 1 + 256 * 0 + _ = _; omega)
  · simp only [if_neg h, if_neg h']; exact key 1 1 (by show 512 * 1 + 256 * 1 + _ = _; omega)

end Cert.AllReduce

end
-- ==== Proof.Attend.lean ====
/-
# Attention over the extended reals

One query row against a head's keys and values: the scores, their softmax left unnormalised, and the quotient.
-/
module

public import Idealize.ShloMosaic.Lib.Pointwise

@[expose] public section

noncomputable section

namespace Cert.AllReduce

open Idealize.ShloMosaic

section Row

variable (q : Fin 128 → EReal) (k v : Fin 1024 → Fin 128 → EReal)

/-- The scaled product of the query row and key row `s`. -/
def score (s : Fin 1024) : EReal := (∑ d, q d * k s d) * Ideal.ofBits .f32 0x3DB504F3#32

/-- The largest score. -/
def top : EReal := Finset.univ.fold max (Ideal.ofBits .f32 0xFF800000#32) (score q k)

/-- The weight of key row `s`, before it is normalised. -/
def weight (s : Fin 1024) : EReal := Ideal.exp (score q k s - top q k)

/-- The weighted sum of the value rows over the sum of the weights. -/
def attend (d : Fin 128) : EReal := Ideal.div (∑ s, weight q k s * v s d) (∑ s, weight q k s)

end Row

end Cert.AllReduce

end

end
-- ==== Proof.HeadSum.lean ====
/-
# A head's result over the extended reals

The kernel's operations of one head, read at an entry, are the attention of its query row.
-/
module

public import proofs.«01_k».proof.Proof.Head
public import proofs.«01_k».proof.Proof.Attend

@[expose] public section

noncomputable section

namespace Cert.AllReduce

open Cert.KernelIdeal Cert.KernelIdeal.Gen
open Idealize.ShloMosaic

theorem headO_eq (q : FVec Ideal S256x128 .f32) (k v : FVec Ideal S1x1024x1x128 .f32) (r : Fin 256) (d : Fin 128) :
    headO q k v (colAt r d) = attend (fun e => q (ix2 r e)) (fun s e => k (ix4 0 s 0 e)) (fun s e => v (ix4 0 s 0 e)) d := by
  have e : colAt r d = ix2 r d := funext fun a => by fin_cases a <;> rfl
  rw [e]
  unfold headO
  pointwise [k0_pay2]
  unfold attend weight top score
  rfl

end Cert.AllReduce

end

end
-- ==== Proof.Refer.lean ====
/-
# The reference, one entry at a time

The reference's operations composed, and each of them read at an entry over the extended reals.
-/
module

public import proofs.«01_k».proof.Proof.Gen.ReferenceIdeal.Run
public import proofs.«01_k».proof.Proof.Attend

@[expose] public section

noncomputable section

namespace Cert.AllReduce.Refer

open Cert.ReferenceIdeal Cert.ReferenceIdeal.Gen
open Idealize.ShloMosaic

variable (x : FVec Ideal S4x256x1024 .f32) (wq : FVec Ideal S1024x16384 .f32) (k v : FVec Ideal S4x1024x128x128 .f32) (wo : FVec Ideal S16384x1024 .f32)

/-- The queries. -/
def refQ : FVec Ideal S4x256x128x128 .f32 :=
  shapeCast _ (Host.dotGeneral dot_S4x256x1024_S1024x16384_S4x256x16384_2_0_01_1_n_n none x wq) shapeCasts_S4x256x16384_S4x256x128x128

/-- The scaled scores. -/
def refS : FVec Ideal S4x128x256x1024 .f32 :=
  mulf (Host.dotGeneral dot_S4x256x128x128_S4x1024x128x128_S4x128x256x1024_3_3_1_1_02_02 none (refQ x wq) k)
    (broadcastInDim S4x128x256x1024 ![] bcast_S_S4x128x256x1024 (constant S_ .f32 0x3DB504F3#32))

/-- The weights. -/
def refW : FVec Ideal S4x128x256x1024 .f32 :=
  Host.exp (subf (refS x wq k) (broadcastInDim S4x128x256x1024 ![0, 1, 2, 3] bcast_S4x128x256x1_S4x128x256x1024_0_1_2_3
    (broadcastInDim S4x128x256x1 ![0, 1, 2] bcast_S4x128x256_S4x128x256x1_0_1_2
      (Host.reduce FloatOps.maximumf (refS x wq k) (constant S_ .f32 0xFF800000#32) reducesTo_S4x128x256x1024_S4x128x256_d3 h_S_))))

/-- The heads' results. -/
def refH : FVec Ideal S4x256x128x128 .f32 :=
  Host.divf (transpose S4x256x128x128 [0, 3, 1, 2] (Host.dotGeneral dot_S4x1024x128x128_S4x128x256x1024_S4x128x128x256_1_3_3_2_02_01 none v (refW x wq k)) transposes_S4x128x128x256_S4x256x128x128_0_3_1_2)
    (broadcastInDim S4x256x128x128 ![0, 1, 2, 3] bcast_S4x256x128x1_S4x256x128x128_0_1_2_3
      (transpose S4x256x128x1 [0, 2, 1, 3] (broadcastInDim S4x128x256x1 ![0, 1, 2] bcast_S4x128x256_S4x128x256x1_0_1_2
        (Host.reduceAdd (refW x wq k) (constant S_ .f32 0x00000000#32) reducesTo_S4x128x256x1024_S4x128x256_d3 h_S_)) transposes_S4x128x256x1_S4x256x128x1_0_2_1_3))

/-- The result. -/
def refOut : FVec Ideal S4x256x1024 .f32 :=
  Host.dotGeneral dot_S4x256x16384_S16384x1024_S4x256x1024_2_0_01_1_n_n none (shapeCast _ (refH x wq k v) shapeCasts_S4x256x128x128_S4x256x16384) wo

/-- An entry of a query row: head `h`, element `e`. -/
def query (b : Fin 4) (i : Fin 256) (h e : Fin 128) : EReal :=
  ∑ t : Fin 1024, x (ix3 b i t) * wq (ix2 t ⟨h.val * 128 + e.val, by have := h.isLt; have := e.isLt; omega⟩)

theorem refQ_at (b : Fin 4) (i : Fin 256) (h e : Fin 128) : refQ x wq (ix4 b i h e) = query x wq b i h e := by
  unfold refQ query
  pointwise

theorem refS_at (b : Fin 4) (h : Fin 128) (i : Fin 256) (s : Fin 1024) :
    refS x wq k (ix4 b h i s) = score (query x wq b i h) (fun s e => k (ix4 b s h e)) s := by
  unfold refS score
  pointwise
  simp only [refQ_at]

theorem refW_at (b : Fin 4) (h : Fin 128) (i : Fin 256) (s : Fin 1024) :
    refW x wq k (ix4 b h i s) = weight (query x wq b i h) (fun s e => k (ix4 b s h e)) s := by
  unfold refW weight top
  pointwise
  simp only [refS_at]

theorem refH_at (b : Fin 4) (i : Fin 256) (h e : Fin 128) :
    refH x wq k v (ix4 b i h e) = attend (query x wq b i h) (fun s e => k (ix4 b s h e)) (fun s e => v (ix4 b s h e)) e := by
  unfold refH attend
  pointwise
  simp only [refW_at]
  congr 1
  exact Finset.sum_congr rfl fun s _ => mul_comm _ _

theorem refOut_at (b : Fin 4) (i : Fin 256) (j : Fin 1024) :
    refOut x wq k v wo (ix3 b i j) = ∑ p : Fin 16384,
      refH x wq k v (ix4 b i ⟨p.val / 128, by have := p.isLt; omega⟩ ⟨p.val % 128, by omega⟩) * wo (ix2 p j) := by
  unfold refOut
  pointwise

end Cert.AllReduce.Refer

end

end
-- ==== Proof.Answer.lean ====
/-
# The result against the reference

The kernel's result over the extended reals, entry by entry, is the reference's.
-/
module

public import proofs.«01_k».proof.Proof.Equal
public import proofs.«01_k».proof.Proof.Sum
public import proofs.«01_k».proof.Proof.HeadSum
public import proofs.«01_k».proof.Proof.Refer
public import Idealize.ShloMosaic.Lib.Layout

@[expose] public section

noncomputable section

namespace Cert.AllReduce

open Cert.KernelIdeal Cert.KernelIdeal.Gen
open Idealize.ShloMosaic
open Idealize.ShloMosaic.TcCoe
open Idealize.SL.Sem

/-- Column `e` of head `h`. -/
def colOf (h : Fin 8) (e : Fin 128) : Fin 1024 := ⟨h.val * 128 + e.val, by have := h.isLt; have := e.isLt; omega⟩

theorem rCol_emb (h : Fin 8) (r : Fin 256) (e : Fin 128) : (rCol h).emb (ix2 r e) = ix2 r (colOf h e) := by
  funext x
  fin_cases x
  · exact Fin.ext (show 0 + 1 * r.val = r.val by omega)
  · exact Fin.ext (show 128 * h.val + 1 * e.val = h.val * 128 + e.val by omega)

theorem rHd_emb (h : Fin 8) (s : Fin 1024) (e : Fin 128) : (rHd h).emb (ix4 0 s 0 e) = ix4 0 s h e := by
  funext x
  fin_cases x
  · rfl
  · exact Fin.ext (show 0 + 1 * s.val = s.val by omega)
  · exact Fin.ext (show h.val + 1 * 0 = h.val by omega)
  · exact Fin.ext (show 0 + 1 * e.val = e.val by omega)

/-- An entry of the attention's block. -/
theorem attnBlk_at (X : S256x1024.Idx → EReal) (Y Z : S1x1024x8x128.Idx → EReal) (r : Fin 256) (h : Fin 8) (e : Fin 128) :
    attnBlk (F := Ideal) X Y Z (ix2 r (colOf h e))
      = attend (fun e => X (ix2 r (colOf h e))) (fun s e => Y (ix4 0 s h e)) (fun s e => Z (ix4 0 s h e)) e := by
  have hc : colAt r e = ix2 r e := funext fun x => by fin_cases x <;> rfl
  have h1 := attnBlk_col (F := Ideal) X Y Z h (colAt r e)
  rw [headO_eq] at h1
  simp only [hc, rCol_emb, rHd_emb] at h1
  exact h1.symm

theorem dot_at (y w : FVec Ideal S1024x1024 .f32) (i j : Fin 1024) :
    Host.dotGeneral dot_S1024x1024_S1024x1024_S1024x1024_1_0_0_1_n_n none y w (ix2 i j) = ∑ t : Fin 1024, y (ix2 i t) * w (ix2 t j) := by
  pointwise

theorem flat_at (x : FVec Ideal S4x256x1024 .f32) (b : Fin 4) (r : Fin 256) (t : Fin 1024) :
    shapeCast S1024x1024 x shapeCasts_S4x256x1024_S1024x1024 (ix2 (rowOf b r) t) = x (ix3 b r t) := by
  refine shapeCast_apply _ _ _ _ ?_
  rw [Shape.rowMajor_val_two, Shape.rowMajor_val_three]
  rfl

theorem unflat_at (y : FVec Ideal S1024x1024 .f32) (b : Fin 4) (r : Fin 256) (t : Fin 1024) :
    shapeCast S4x256x1024 y shapeCasts_S1024x1024_S4x256x1024 (ix3 b r t) = y (ix2 (rowOf b r) t) := by
  refine shapeCast_apply _ _ _ _ ?_
  rw [Shape.rowMajor_val_two, Shape.rowMajor_val_three]
  rfl

/-- Row or column `t` of device `c`'s block, in the whole. -/
def ofDev (c : Dev nD) (t : Fin 1024) : Fin 16384 := ⟨c.val * 1024 + t.val, by have : c.val < 16 := c.isLt; have := t.isLt; omega⟩

theorem colBlock_at (w : FVec Ideal Cert.ReferenceIdeal.S1024x16384 .f32) (c : Dev nD) (t j : Fin 1024) :
    (Layout.block ⟨2, ![1024, 1024]⟩ ⟨2, ![1024, 16384]⟩ 1 16 c w) (ix2 t j) = w (ix2 t (ofDev c j)) :=
  congrArg w (funext fun x => by fin_cases x <;> rfl)

theorem rowBlock_at (w : FVec Ideal Cert.ReferenceIdeal.S16384x1024 .f32) (c : Dev nD) (t j : Fin 1024) :
    (Layout.block ⟨2, ![1024, 1024]⟩ ⟨2, ![16384, 1024]⟩ 0 16 c w) (ix2 t j) = w (ix2 (ofDev c t) j) :=
  congrArg w (funext fun x => by fin_cases x <;> rfl)

section Agree

variable (m : (ℓ : Loc nD τ sig) → Buf (Elt Ideal) ℓ)
variable (x : FVec Ideal S4x256x1024 .f32) (wq : FVec Ideal Cert.ReferenceIdeal.S1024x16384 .f32) (k v : FVec Ideal S4x1024x128x128 .f32) (wo : FVec Ideal Cert.ReferenceIdeal.S16384x1024 .f32)

/-- The kernel's arguments are the reference's: whole, or the device's block. -/
def Agree : Prop := ∀ c : Dev nD,
  m ((c : Thread nD τ).loc main_arg0) = x
    ∧ m ((c : Thread nD τ).loc main_arg1) = Layout.block ⟨2, ![1024, 1024]⟩ ⟨2, ![1024, 16384]⟩ 1 16 c wq
    ∧ m ((c : Thread nD τ).loc main_arg2) = k
    ∧ m ((c : Thread nD τ).loc main_arg3) = v
    ∧ m ((c : Thread nD τ).loc main_arg4) = Layout.block ⟨2, ![1024, 1024]⟩ ⟨2, ![16384, 1024]⟩ 0 16 c wo

variable (ha : Agree m x wq k v wo)

include ha

/-- The device's queries. -/
theorem v6_at (c : Dev nD) (b : Fin 4) (r : Fin 256) (h : Fin 8) (e : Fin 128) :
    V1 m c main_v6 (ix2 (rowOf b r) (colOf h e)) = Refer.query x wq b r (headOf c h) e := by
  rw [V1_v6, (ha c).1, (ha c).2.1]
  refine (dot_at _ _ _ _).trans (Finset.sum_congr rfl fun t _ => ?_)
  rw [flat_at, colBlock_at]
  refine congrArg (fun n => x (ix3 b r t) * wq (ix2 t n)) (Fin.ext ?_)
  show c.val * 1024 + (h.val * 128 + e.val) = (c.val * 8 + h.val) * 128 + e.val
  omega

/-- The attention's array. -/
theorem o8_val (c : Dev nD) (b : Fin 4) (r : Fin 256) (h : Fin 8) (e : Fin 128) :
    o8 m c (ix2 (rowOf b r) (colOf h e)) = Refer.refH x wq k v (ix4 b r (headOf c h) e) := by
  rw [o8_at, Refer.refH_at]
  unfold out0
  have h2 : V1 m c main_arg2 = k := ((V1_of m c main_arg2 (by decide)).trans rfl).trans (ha c).2.2.1
  have h3 : V1 m c main_arg3 = v := ((V1_of m c main_arg3 (by decide)).trans rfl).trans (ha c).2.2.2.1
  refine (attnBlk_at _ _ _ r h e).trans ?_
  have e0 : (fun e => in0 (V1 m c) (adm0 m c) c (0 : Fin 4) (pt (adm0 m c) b) (ix2 r (colOf h e))) = Refer.query x wq b r (headOf c h) :=
    funext fun e => (in0_0 c (V1 m c) (adm0 m c) b r (colOf h e)).trans (v6_at m x wq k v wo ha c b r h e)
  have e1 : (fun s e => in0 (V1 m c) (adm0 m c) c (1 : Fin 4) (pt (adm0 m c) b) (ix4 0 s h e)) = fun s e => k (ix4 b s (headOf c h) e) :=
    funext fun s => funext fun e => (in0_1 m c (V1 m c) b s h e).trans (congrFun h2 _)
  have e2 : (fun s e => in0 (V1 m c) (adm0 m c) c (2 : Fin 4) (pt (adm0 m c) b) (ix4 0 s h e)) = fun s e => v (ix4 b s (headOf c h) e) :=
    funext fun s => funext fun e => (in0_2 m c (V1 m c) b s h e).trans (congrFun h3 _)
  exact congr (congr (congr (congrArg attend e0) e1) e2) rfl

/-- A device's partial product. -/
def prodOf (c : Dev nD) : S1024x1024.Idx → EReal := W3 m c main_v9

omit ha

/-- The sum over the devices. -/
theorem o10_at (c : Dev nD) (i : S1024x1024.Idx) : o10 m c i = ∑ d : Dev nD, prodOf m d i := by
  rw [o10_eq]
  unfold outAt blk
  refine (Out_eq (xs (W3 m)) c _ _ (i 0).isLt (i 1).isLt).trans (Finset.sum_congr rfl fun d _ => ?_)
  refine (congrFun (blk_tab (xstg (W3 m) d)) i).trans ?_
  rw [xstg_eq]
  rfl

include ha

theorem prodOf_at (c : Dev nD) (b : Fin 4) (r : Fin 256) (j : Fin 1024) :
    prodOf m c (ix2 (rowOf b r) j) = ∑ t : Fin 1024,
      Refer.refH x wq k v (ix4 b r ⟨(ofDev c t).val / 128, by have := (ofDev c t).isLt; omega⟩ ⟨(ofDev c t).val % 128, by omega⟩) * wo (ix2 (ofDev c t) j) := by
  unfold prodOf
  rw [W3_v9, (ha c).2.2.2.2]
  refine (dot_at _ _ _ _).trans (Finset.sum_congr rfl fun t _ => ?_)
  rw [rowBlock_at]
  refine congrArg (· * wo (ix2 (ofDev c t) j)) ?_
  have hc : c.val < 16 := c.isLt
  have ht := t.isLt
  have e : t = colOf ⟨t.val / 128, by omega⟩ ⟨t.val % 128, by omega⟩ := Fin.ext (by show t.val = t.val / 128 * 128 + t.val % 128; omega)
  have h := o8_val m x wq k v wo ha c b r ⟨t.val / 128, by omega⟩ ⟨t.val % 128, by omega⟩
  rw [← e] at h
  refine h.trans (congrArg₂ (fun n e => Refer.refH x wq k v (ix4 b r n e)) (Fin.ext ?_) (Fin.ext ?_))
  · show c.val * 8 + t.val / 128 = (c.val * 1024 + t.val) / 128
    omega
  · show t.val % 128 = (c.val * 1024 + t.val) % 128
    omega

/-- Every device's result is the reference's. -/
theorem answer (c : Dev nD) : W5 m c main_v11 = Refer.refOut x wq k v wo := by
  rw [W5_v11]
  funext i
  have hi : ∃ (b : Fin 4) (r : Fin 256) (j : Fin 1024), i = ix3 b r j := ⟨i 0, i 1, i 2, funext fun x => by fin_cases x <;> rfl⟩
  obtain ⟨b, r, j, rfl⟩ := hi
  have h := (Refer.refOut_at x wq k v wo b r j).trans (Fin.sum_univ_tiles 16 1024 rfl _)
  have h' := Finset.sum_congr (rfl : (Finset.univ : Finset (Dev nD)) = Finset.univ) fun d _ => prodOf_at m x wq k v wo ha d b r j
  exact (unflat_at (o10 m c) b r j).trans ((o10_at m c _).trans (h'.trans h.symm))

end Agree

end Cert.AllReduce

end
-- ==== Proof.Same.lean ====
/- The kernel as run and the kernel read over the extended reals are one program. -/
module

public import proofs.«01_k».proof.Proof.Gen.Kernel
public import proofs.«01_k».proof.Proof.Gen.Kernel.Launch
public import proofs.«01_k».proof.Proof.Gen.KernelIdeal
public import proofs.«01_k».proof.Proof.Equal

@[expose] public section

noncomputable section

namespace Cert.Same

open Idealize.ShloMosaic Idealize.SL.Sem

variable {F : FTy → Type} [FloatOps F]

/-- The two printings have the same pipelines. -/
theorem pcfgs_eq : Cert.Kernel.pcfgs (F := F) = Cert.KernelIdeal.pcfgs (F := F) := rfl

section
open Cert.KernelIdeal

/-- The program of a device, for any table of pipelines. -/
def prog (pc : Fin 2 → Pipeline.PCfg sig Λ₀ (Elt F)) (c : Dev nD) :
    Prog (TpuEff nD τ sig (Elt F) (Pipeline.Sig Λ₀ (Fin 2) fun p => (pc p).Adm) .tc) PUnit :=
  Pipeline.chain
  [ StableHlo.seq (Gen.hostOps0 c),
    Prog.lift (.customCall (Pipeline.entry 0) ()),
    StableHlo.seq Gen.hostOps1,
    Prog.lift (.customCall (Pipeline.entry 1) ()),
    StableHlo.seq Gen.hostOps2 ]

/-- It is the program read over the extended reals, -/
theorem main_ideal : main (F := F) = prog (pcfgs (F := F)) := funext fun c => Gen.main_chain c
end

set_option maxHeartbeats 2000000 in
/-- and, at the other printing's table, the kernel as run. -/
theorem main_kernel : Cert.Kernel.main (F := F) = prog (Cert.Kernel.pcfgs (F := F)) := funext fun c => Cert.Kernel.Gen.main_chain c

/-- The two printings' attention bodies are one, -/
theorem body0_eq : Cert.Kernel.cc0_body (F := F) = Cert.KernelIdeal.cc0_body (F := F) := by
  unfold Cert.Kernel.cc0_body Cert.KernelIdeal.cc0_body
  rfl
/-- and so are the all-reduce's. -/
theorem body1_eq : Cert.Kernel.cc1_body (F := F) = Cert.KernelIdeal.cc1_body (F := F) := rfl
/-- The two printings of the kernel run the same bodies. -/
theorem bodies_eq : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) =>
    dsimp only
    rw [body0_eq]
    rfl
  | 1, (t, s) =>
    dsimp only
    rw [body1_eq]
  | ⟨_ + 2, h⟩, _ => exact absurd h (Nat.not_lt.2 (Nat.le_add_left _ _))

section
open Cert.KernelIdeal

/-- The frame, for any table of pipelines and any bodies that are the kernel's. -/
theorem frame_of (pc : Fin 2 → Pipeline.PCfg sig Λ₀ (Elt F)) (hp : pc = pcfgs (F := F))
    (b : Defs nD τ sig (Elt F) Λ₀) (hb : b = defs₀ (F := F))
    (m : (ℓ : Loc nD τ sig) → Buf (Elt F) ℓ) (ρ : Dev nD → PrngReg) :
    θ_run (Pipeline.defs pc b) (onTc (τ := τ) (prog pc)) ⟨m, fun _ => 0, ρ⟩
      (fun r => (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) ∧ r.2.sem = fun _ => 0) := by
  subst hp hb
  rw [← main_ideal]
  exact Cert.AllReduce.run_frame m ρ
end

section
open Cert.Kernel

set_option maxHeartbeats 2000000 in
/-- The frame of the kernel as run. -/
theorem frame (m : (ℓ : Loc nD τ sig) → Buf (Elt F) ℓ) (ρ : Dev nD → PrngReg) :
    θ_run (defs (F := F)) (onTc (τ := τ) (main (F := F))) ⟨m, fun _ => 0, ρ⟩
      (fun r => (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) ∧ r.2.sem = fun _ => 0) := by
  rw [main_kernel]
  unfold defs
  exact frame_of (pcfgs (F := F)) pcfgs_eq (defs₀ (F := F)) bodies_eq m ρ
end

end Cert.Same

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Regions
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Regions
public import proofs.«01_k».proof.Proof.Gen.ReferenceIdeal
public import proofs.«01_k».proof.Proof.Gen.ReferenceIdeal.Run
public import proofs.«01_k».proof.Proof.Answer
public import proofs.«01_k».proof.Proof.Same
public import Idealize.ShloMosaic.Adequacy
public import Idealize.ShloMosaic.Init

@[expose] public section

noncomputable section

namespace Cert.Proof

open Idealize.ShloMosaic Idealize.SL.Sem Cert.Kernel

/-- The frame of the kernel as run: its arguments kept and every counter back at zero. -/
theorem frame_kernel : Cert.quiescent_Kernel := fun m ρ _ => Cert.Same.frame (F := Bits) m ρ

/-- The same over the extended reals. -/
theorem frame_ideal : Cert.quiescent_KernelIdeal := fun m ρ _ => Cert.AllReduce.run_frame (F := Ideal) m ρ

/-- The reference keeps its arguments and has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

open Cert.AllReduce in
/-- Over the extended reals every device's result is the reference's. -/
theorem equal : Cert.algebraic_KernelIdeal_ReferenceIdeal := by
  intro m ρ m' ρ' _ hagree
  refine ⟨Refer.refOut
    (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1))
    (m' (((0 : Dev Cert.ReferenceIdeal.nD).tc : Thread _ Cert.ReferenceIdeal.τ).loc Cert.ReferenceIdeal.main_arg2))
    (m' (((0 : Dev Cert.ReferenceIdeal.nD).tc : Thread _ Cert.ReferenceIdeal.τ).loc Cert.ReferenceIdeal.main_arg3))
    (m' (((0 : Dev Cert.ReferenceIdeal.nD).tc : Thread _ Cert.ReferenceIdeal.τ).loc Cert.ReferenceIdeal.main_arg4)), ?_, ?_⟩
  · exact (θ_run Cert.KernelIdeal.defs _ _).mono
      (fun _ h c => ⟨((h.1 c).1 Cert.KernelIdeal.main_v11 rfl).trans (answer m _ _ _ _ _ hagree c), args_kept m c _ (h.1 c)⟩)
      (run_main (F := Ideal) m ρ)
  · exact (θ_run Cert.ReferenceIdeal.defs _ _).mono (fun _ h => h 0) (Cert.ReferenceIdeal.Value.run (F := Ideal) m' ρ')

theorem claim : Cert.Claim := ⟨Cert.Kernel.Gen.facts, Cert.KernelIdeal.Gen.facts, Cert.ReferenceIdeal.Gen.facts,
  frame_kernel, frame_ideal, frame_reference, trivial, equal⟩

end Cert.Proof

end
